-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_v3_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x1792x2048 : Shape := ⟨3, ![1, 1792, 2048]⟩
abbrev S2048 : Shape := ⟨1, ![2048]⟩
abbrev S2048x5632 : Shape := ⟨2, ![2048, 5632]⟩
abbrev S16x44 : Shape := ⟨2, ![16, 44]⟩
abbrev S1x1792x5632 : Shape := ⟨3, ![1, 1792, 5632]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bitsLt_bf16_f32 : FTy.bits .bf16 < FTy.bits .f32
  bcast_S_S1x1792x5632 : S_.BroadcastsInDim S1x1792x5632 (![] : Fin 0 → Fin S1x1792x5632.rank)
  reducesTo_S1x1792x5632_S_d0_1_2 : S1x1792x5632.ReducesTo [0, 1, 2] S_

variable [Facts]

def fn {F : FTy → Type} [FloatOps F] (main_arg0 : FVec F S1x1792x2048 .bf16) (main_arg1 : FVec F S2048 .f32) (main_arg2 : FVec F S2048x5632 .fp8e4m3) (main_arg3 : FVec F S16x44 .f32) (main_arg4 : FVec F S1x1792x5632 .bf16) : IVec S_ 1 :=
  let main_v0 : FVec F S2048 .f32 := Host.absf main_arg1
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_c : IVec S_ 1 := constantI S_ 1 1#1
  let main_v3 : IVec S_ 1 := (fun x v => Host.reduce IntOp.andi x v reducesTo_S2048_S_d0 h_S_) main_v2 main_c
  let main_v4 : FVec F S1x1792x5632 .f32 := (extf .f32 · bitsLt_bf16_f32) main_arg4
  let main_v5 : FVec F S1x1792x5632 .f32 := Host.absf main_v4
  let main_cst_0 : FVec F S_ .f32 := constant S_ .f32 0x7F7FFFFF#32
  let main_v6 : FVec F S1x1792x5632 .f32 := broadcastInDim S1x1792x5632 ![] bcast_S_S1x1792x5632 main_cst_0
  let main_v7 : IVec S1x1792x5632 1 := cmpf .ole main_v5 main_v6
  let main_c_1 : IVec S_ 1 := constantI S_ 1 1#1
  let main_v8 : IVec S_ 1 := (fun x v => Host.reduce IntOp.andi x v reducesTo_S1x1792x5632_S_d0_1_2 h_S_) main_v7 main_c_1
  let main_v9 : IVec S_ 1 := andi main_v3 main_v8
  main_v9
-- ==== Kernel.lean ====
abbrev S1x1792x2048 : Shape := ⟨3, ![1, 1792, 2048]⟩
abbrev S2048 : Shape := ⟨1, ![2048]⟩
abbrev S2048x5632 : Shape := ⟨2, ![2048, 5632]⟩
abbrev S16x44 : Shape := ⟨2, ![16, 44]⟩
abbrev S1x1792x5632 : Shape := ⟨3, ![1, 1792, 5632]⟩
abbrev S1792x2048 : Shape := ⟨2, ![1792, 2048]⟩
abbrev S1x2048 : Shape := ⟨2, ![1, 2048]⟩
abbrev S1792x5632 : Shape := ⟨2, ![1792, 5632]⟩
abbrev S14x2048 : Shape := ⟨2, ![14, 2048]⟩
abbrev S1792x44 : Shape := ⟨2, ![1792, 44]⟩
abbrev S14x5632 : Shape := ⟨2, ![14, 5632]⟩
abbrev S256x2048 : Shape := ⟨2, ![256, 2048]⟩
abbrev S2048x256 : Shape := ⟨2, ![2048, 256]⟩
abbrev S1792x256 : Shape := ⟨2, ![1792, 256]⟩
abbrev S14x256 : Shape := ⟨2, ![14, 256]⟩
abbrev S2048x1792 : Shape := ⟨2, ![2048, 1792]⟩
abbrev S2x1792x256 : Shape := ⟨3, ![2, 1792, 256]⟩
abbrev S9x1792x256 : Shape := ⟨3, ![9, 1792, 256]⟩
abbrev S2x2048x256 : Shape := ⟨3, ![2, 2048, 256]⟩
abbrev S1792x1 : Shape := ⟨2, ![1792, 1]⟩
abbrev S128x44 : Shape := ⟨2, ![128, 44]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S1x1792x256 : Shape := ⟨3, ![1, 1792, 256]⟩
abbrev S1x128x128 : Shape := ⟨3, ![1, 128, 128]⟩
abbrev S128x1 : Shape := ⟨2, ![128, 1]⟩
abbrev S128x256 : Shape := ⟨2, ![128, 256]⟩
abbrev S1x1 : Shape := ⟨2, ![1, 1]⟩
abbrev S1x2048x256 : Shape := ⟨3, ![1, 2048, 256]⟩
abbrev S16x2048 : Shape := ⟨2, ![16, 2048]⟩
abbrev S16 : Shape := ⟨1, ![16]⟩
abbrev S16x1 : Shape := ⟨2, ![16, 1]⟩
abbrev S14x128 : Shape := ⟨2, ![14, 128]⟩
abbrev S8x2048 : Shape := ⟨2, ![8, 2048]⟩
abbrev S2x8x2048 : Shape := ⟨3, ![2, 8, 2048]⟩

abbrev nBuf : Space → Nat
  | .hbm => 17
  | .vmem => 28
  | .smem => 1
  | _ => 0

abbrev bufTy : (tb : Table) → Fin (tcTables nBuf tb) → BufTy
  | .hbm, ⟨0, _⟩ => ⟨S1x1792x2048, .bf16⟩
  | .hbm, ⟨1, _⟩ => ⟨S2048, .f32⟩
  | .hbm, ⟨2, _⟩ => ⟨S2048x5632, .fp8e4m3⟩
  | .hbm, ⟨3, _⟩ => ⟨S16x44, .f32⟩
  | .hbm, ⟨4, _⟩ => ⟨S1x1792x5632, .bf16⟩
  | .hbm, ⟨5, _⟩ => ⟨S1792x2048, .bf16⟩
  | .hbm, ⟨6, _⟩ => ⟨S1x2048, .f32⟩
  | .hbm, ⟨7, _⟩ => ⟨S1792x5632, .bf16⟩
  | .hbm, ⟨8, _⟩ => ⟨S1792x2048, .bf16⟩
  | .hbm, ⟨9, _⟩ => ⟨S2048x5632, .f32⟩
  | .hbm, ⟨10, _⟩ => ⟨S1x2048, .f32⟩
  | .hbm, ⟨11, _⟩ => ⟨S1792x2048, .fp8e4m3⟩
  | .hbm, ⟨12, _⟩ => ⟨S14x2048, .f32⟩
  | .hbm, ⟨13, _⟩ => ⟨S1792x5632, .fp8e5m2⟩
  | .hbm, ⟨14, _⟩ => ⟨S1792x44, .f32⟩
  | .hbm, ⟨15, _⟩ => ⟨S1792x5632, .fp8e5m2⟩
  | .hbm, ⟨16, _⟩ => ⟨S14x5632, .f32⟩
  | .local _ .vmem, ⟨0, _⟩ => ⟨S256x2048, .bf16⟩
  | .local _ .vmem, ⟨1, _⟩ => ⟨S256x2048, .bf16⟩
  | .local _ .vmem, ⟨2, _⟩ => ⟨S1x2048, .f32⟩
  | .local _ .vmem, ⟨3, _⟩ => ⟨S2048x256, .fp8e4m3⟩
  | .local _ .vmem, ⟨4, _⟩ => ⟨S2048x256, .fp8e4m3⟩
  | .local _ .vmem, ⟨5, _⟩ => ⟨S1792x256, .bf16⟩
  | .local _ .vmem, ⟨6, _⟩ => ⟨S1792x256, .bf16⟩
  | .local _ .vmem, ⟨7, _⟩ => ⟨S256x2048, .bf16⟩
  | .local _ .vmem, ⟨8, _⟩ => ⟨S256x2048, .bf16⟩
  | .local _ .vmem, ⟨9, _⟩ => ⟨S2048x256, .f32⟩
  | .local _ .vmem, ⟨10, _⟩ => ⟨S2048x256, .f32⟩
  | .local _ .vmem, ⟨11, _⟩ => ⟨S1x2048, .f32⟩
  | .local _ .vmem, ⟨12, _⟩ => ⟨S256x2048, .fp8e4m3⟩
  | .local _ .vmem, ⟨13, _⟩ => ⟨S256x2048, .fp8e4m3⟩
  | .local _ .vmem, ⟨14, _⟩ => ⟨S14x2048, .f32⟩
  | .local _ .vmem, ⟨15, _⟩ => ⟨S1792x256, .fp8e5m2⟩
  | .local _ .vmem, ⟨16, _⟩ => ⟨S1792x256, .fp8e5m2⟩
  | .local _ .vmem, ⟨17, _⟩ => ⟨S1792x44, .f32⟩
  | .local _ .vmem, ⟨18, _⟩ => ⟨S1792x256, .fp8e5m2⟩
  | .local _ .vmem, ⟨19, _⟩ => ⟨S1792x256, .fp8e5m2⟩
  | .local _ .vmem, ⟨20, _⟩ => ⟨S14x256, .f32⟩
  | .local _ .vmem, ⟨21, _⟩ => ⟨S14x256, .f32⟩
  | .local _ .vmem, ⟨22, _⟩ => ⟨S2048x1792, .bf16⟩
  | .local _ .vmem, ⟨23, _⟩ => ⟨S1792x2048, .f32⟩
  | .local _ .vmem, ⟨24, _⟩ => ⟨S2x1792x256, .bf16⟩
  | .local _ .vmem, ⟨25, _⟩ => ⟨S9x1792x256, .bf16⟩
  | .local _ .vmem, ⟨26, _⟩ => ⟨S2x2048x256, .bf16⟩
  | .local _ .vmem, ⟨27, _⟩ => ⟨S1792x1, .f32⟩
  | .local _ .smem, ⟨0, _⟩ => ⟨S16x44, .f32⟩
  | _, _ => ⟨S1x1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c9_i32 : BitVec 32 := 9#32
  let v24 : BitVec 32 := Scalar.remsi arg0 c9_i32
  let c0_i32_30 : BitVec 32 := 0#32
  let c0_i32_31 : BitVec 32 := 0#32
  ![v24.toNat, 0, 0]
def k0_off2 (i : grid0.Coords) : Fin 3 → Nat :=
  let arg0 : BitVec 32 := BitVec.ofNat 32 (i 0).val
  let c9_i32 : BitVec 32 := 9#32
  let v24 : BitVec 32 := Scalar.remsi arg0 c9_i32
  let c0_i32_30 : BitVec 32 := 0#32
  let c0_i32_31 : BitVec 32 := 0#32
  ![v24.toNat, 0, 0]
def k0_off3 (i : grid0.Coords) : Fin 3 → Nat :=
  let arg0 : BitVec 32 := BitVec.ofNat 32 (i 0).val
  let c2_i32 : BitVec 32 := 2#32
  let v23 : BitVec 32 := Scalar.remsi arg0 c2_i32
  let c0_i32_53 : BitVec 32 := 0#32
  let c0_i32_54 : BitVec 32 := 0#32
  ![v23.toNat, 0, 0]
def k0_off4 (i : grid0.Coords) : Fin 3 → Nat :=
  let arg0 : BitVec 32 := BitVec.ofNat 32 (i 0).val
  let c2_i32 : BitVec 32 := 2#32
  let v23 : BitVec 32 := Scalar.remsi arg0 c2_i32
  let c0_i32_53 : BitVec 32 := 0#32
  let c0_i32_54 : BitVec 32 := 0#32
  ![v23.toNat, 0, 0]
def k0_off5 (i : grid0.Coords) : Fin 3 → Nat :=
  let arg0 : BitVec 32 := BitVec.ofNat 32 (i 0).val
  let c9_i32 : BitVec 32 := 9#32
  let v24 : BitVec 32 := Scalar.remsi arg0 c9_i32
  let c0_i32_77 : BitVec 32 := 0#32
  ![v24.toNat, 0, 128]
def k0_off6 (i : grid0.Coords) : Fin 3 → Nat :=
  let arg0 : BitVec 32 := BitVec.ofNat 32 (i 0).val
  let c2_i32 : BitVec 32 := 2#32
  let v23 : BitVec 32 := Scalar.remsi arg0 c2_i32
  let c0_i32_100 : BitVec 32 := 0#32
  ![v23.toNat, 0, 128]
def k0_off7 (i : grid0.Coords) : Fin 3 → Nat :=
  let arg0 : BitVec 32 := BitVec.ofNat 32 (i 0).val
  let c9_i32 : BitVec 32 := 9#32
  let v24 : BitVec 32 := Scalar.remsi arg0 c9_i32
  let c0_i32_129 : BitVec 32 := 0#32
  ![v24.toNat, 128, 0]
def k0_off8 (i : grid0.Coords) : Fin 3 → Nat :=
  let arg0 : BitVec 32 := BitVec.ofNat 32 (i 0).val
  let c2_i32 : BitVec 32 := 2#32
  let v23 : BitVec 32 := Scalar.remsi arg0 c2_i32
  let c0_i32_152 : BitVec 32 := 0#32
  ![v23.toNat, 128, 0]
def k0_off9 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 128, 128]
def k0_off10 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 128, 128]
def k0_off11 (i : grid0.Coords) : Fin 3 → Nat :=
  let arg0 : BitVec 32 := BitVec.ofNat 32 (i 0).val
  let c9_i32 : BitVec 32 := 9#32
  let v24 : BitVec 32 := Scalar.remsi arg0 c9_i32
  let c0_i32_227 : BitVec 32 := 0#32
  ![v24.toNat, 256, 0]
def k0_off12 (i : grid0.Coords) : Fin 3 → Nat :=
  let arg0 : BitVec 32 := BitVec.ofNat 32 (i 0).val
  let c2_i32 : BitVec 32 := 2#32
  let v23 : BitVec 32 := Scalar.remsi arg0 c2_i32
  let c0_i32_250 : BitVec 32 := 0#32
  ![v23.toNat, 256, 0]
def k0_off13 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 256, 128]
def k0_off14 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 256, 128]
def k0_off15 (i : grid0.Coords) : Fin 3 → Nat :=
  let arg0 : BitVec 32 := BitVec.ofNat 32 (i 0).val
  let c9_i32 : BitVec 32 := 9#32
  let v24 : BitVec 32 := Scalar.remsi arg0 c9_i32
  let c0_i32_325 : BitVec 32 := 0#32
  ![v24.toNat, 384, 0]
def k0_off16 (i : grid0.Coords) : Fin 3 → Nat :=
  let arg0 : BitVec 32 := BitVec.ofNat 32 (i 0).val
  let c2_i32 : BitVec 32 := 2#32
  let v23 : BitVec 32 := Scalar.remsi arg0 c2_i32
  let c0_i32_348 : BitVec 32 := 0#32
  ![v23.toNat, 384, 0]
def k0_off17 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 384, 128]
def k0_off18 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 384, 128]
def k0_off19 (i : grid0.Coords) : Fin 3 → Nat :=
  let arg0 : BitVec 32 := BitVec.ofNat 32 (i 0).val
  let c9_i32 : BitVec 32 := 9#32
  let v24 : BitVec 32 := Scalar.remsi arg0 c9_i32
  let c0_i32_423 : BitVec 32 := 0#32
  ![v24.toNat, 512, 0]
def k0_off20 (i : grid0.Coords) : Fin 3 → Nat :=
  let arg0 : BitVec 32 := BitVec.ofNat 32 (i 0).val
  let c2_i32 : BitVec 32 := 2#32
  let v23 : BitVec 32 := Scalar.remsi arg0 c2_i32
  let c0_i32_446 : BitVec 32 := 0#32
  ![v23.toNat, 512, 0]
def k0_off21 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 512, 128]
def k0_off22 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 512, 128]
def k0_off23 (i : grid0.Coords) : Fin 3 → Nat :=
  let arg0 : BitVec 32 := BitVec.ofNat 32 (i 0).val
  let c9_i32 : BitVec 32 := 9#32
  let v24 : BitVec 32 := Scalar.remsi arg0 c9_i32
  let c0_i32_521 : BitVec 32 := 0#32
  ![v24.toNat, 640, 0]
def k0_off24 (i : grid0.Coords) : Fin 3 → Nat :=
  let arg0 : BitVec 32 := BitVec.ofNat 32 (i 0).val
  let c2_i32 : BitVec 32 := 2#32
  let v23 : BitVec 32 := Scalar.remsi arg0 c2_i32
  let c0_i32_544 : BitVec 32 := 0#32
  ![v23.toNat, 640, 0]
def k0_off25 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 640, 128]
def k0_off26 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 640, 128]
def k0_off27 (i : grid0.Coords) : Fin 3 → Nat :=
  let arg0 : BitVec 32 := BitVec.ofNat 32 (i 0).val
  let c9_i32 : BitVec 32 := 9#32
  let v24 : BitVec 32 := Scalar.remsi arg0 c9_i32
  let c0_i32_619 : BitVec 32 := 0#32
  ![v24.toNat, 768, 0]
def k0_off28 (i : grid0.Coords) : Fin 3 → Nat :=
  let arg0 : BitVec 32 := BitVec.ofNat 32 (i 0).val
  let c2_i32 : BitVec 32 := 2#32
  let v23 : BitVec 32 := Scalar.remsi arg0 c2_i32
  let c0_i32_642 : BitVec 32 := 0#32
  ![v23.toNat, 768, 0]
def k0_off29 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 768, 128]
def k0_off30 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 768, 128]
def k0_off31 (i : grid0.Coords) : Fin 3 → Nat :=
  let arg0 : BitVec 32 := BitVec.ofNat 32 (i 0).val
  let c9_i32 : BitVec 32 := 9#32
  let v24 : BitVec 32 := Scalar.remsi arg0 c9_i32
  let c0_i32_717 : BitVec 32 := 0#32
  ![v24.toNat, 896, 0]
def k0_off32 (i : grid0.Coords) : Fin 3 → Nat :=
  let arg0 : BitVec 32 := BitVec.ofNat 32 (i 0).val
  let c2_i32 : BitVec 32 := 2#32
  let v23 : BitVec 32 := Scalar.remsi arg0 c2_i32
  let c0_i32_740 : BitVec 32 := 0#32
  ![v23.toNat, 896, 0]
def k0_off33 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 896, 128]
def k0_off34 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 896, 128]
def k0_off35 (i : grid0.Coords) : Fin 3 → Nat :=
  let arg0 : BitVec 32 := BitVec.ofNat 32 (i 0).val
  let c9_i32 : BitVec 32 := 9#32
  let v24 : BitVec 32 := Scalar.remsi arg0 c9_i32
  let c0_i32_815 : BitVec 32 := 0#32
  ![v24.toNat, 1024, 0]
def k0_off36 (i : grid0.Coords) : Fin 3 → Nat :=
  let arg0 : BitVec 32 := BitVec.ofNat 32 (i 0).val
  let c2_i32 : BitVec 32 := 2#32
  let v23 : BitVec 32 := Scalar.remsi arg0 c2_i32
  let c0_i32_838 : BitVec 32 := 0#32
  ![v23.toNat, 1024, 0]
def k0_off37 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1024, 128]
def k0_off38 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1024, 128]
def k0_off39 (i : grid0.Coords) : Fin 3 → Nat :=
  let arg0 : BitVec 32 := BitVec.ofNat 32 (i 0).val
  let c9_i32 : BitVec 32 := 9#32
  let v24 : BitVec 32 := Scalar.remsi arg0 c9_i32
  let c0_i32_913 : BitVec 32 := 0#32
  ![v24.toNat, 1152, 0]
def k0_off40 (i : grid0.Coords) : Fin 3 → Nat :=
  let arg0 : BitVec 32 := BitVec.ofNat 32 (i 0).val
  let c2_i32 : BitVec 32 := 2#32
  let v23 : BitVec 32 := Scalar.remsi arg0 c2_i32
  let c0_i32_936 : BitVec 32 := 0#32
  ![v23.toNat, 1152, 0]
def k0_off41 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1152, 128]
def k0_off42 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1152, 128]
def k0_off43 (i : grid0.Coords) : Fin 3 → Nat :=
  let arg0 : BitVec 32 := BitVec.ofNat 32 (i 0).val
  let c9_i32 : BitVec 32 := 9#32
  let v24 : BitVec 32 := Scalar.remsi arg0 c9_i32
  let c0_i32_1011 : BitVec 32 := 0#32
  ![v24.toNat, 1280, 0]
def k0_off44 (i : grid0.Coords) : Fin 3 → Nat :=
  let arg0 : BitVec 32 := BitVec.ofNat 32 (i 0).val
  let c2_i32 : BitVec 32 := 2#32
  let v23 : BitVec 32 := Scalar.remsi arg0 c2_i32
  let c0_i32_1034 : BitVec 32 := 0#32
  ![v23.toNat, 1280, 0]
def k0_off45 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1280, 128]
def k0_off46 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1280, 128]
def k0_off47 (i : grid0.Coords) : Fin 3 → Nat :=
  let arg0 : BitVec 32 := BitVec.ofNat 32 (i 0).val
  let c9_i32 : BitVec 32 := 9#32
  let v24 : BitVec 32 := Scalar.remsi arg0 c9_i32
  let c0_i32_1109 : BitVec 32 := 0#32
  ![v24.toNat, 1408, 0]
def k0_off48 (i : grid0.Coords) : Fin 3 → Nat :=
  let arg0 : BitVec 32 := BitVec.ofNat 32 (i 0).val
  let c2_i32 : BitVec 32 := 2#32
  let v23 : BitVec 32 := Scalar.remsi arg0 c2_i32
  let c0_i32_1132 : BitVec 32 := 0#32
  ![v23.toNat, 1408, 0]
def k0_off49 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1408, 128]
def k0_off50 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1408, 128]
def k0_off51 (i : grid0.Coords) : Fin 3 → Nat :=
  let arg0 : BitVec 32 := BitVec.ofNat 32 (i 0).val
  let c9_i32 : BitVec 32 := 9#32
  let v24 : BitVec 32 := Scalar.remsi arg0 c9_i32
  let c0_i32_1207 : BitVec 32 := 0#32
  ![v24.toNat, 1536, 0]
def k0_off52 (i : grid0.Coords) : Fin 3 → Nat :=
  let arg0 : BitVec 32 := BitVec.ofNat 32 (i 0).val
  let c2_i32 : BitVec 32 := 2#32
  let v23 : BitVec 32 := Scalar.remsi arg0 c2_i32
  let c0_i32_1230 : BitVec 32 := 0#32
  ![v23.toNat, 1536, 0]
def k0_off53 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1536, 128]
def k0_off54 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1536, 128]
def k0_off55 (i : grid0.Coords) : Fin 3 → Nat :=
  let arg0 : BitVec 32 := BitVec.ofNat 32 (i 0).val
  let c9_i32 : BitVec 32 := 9#32
  let v24 : BitVec 32 := Scalar.remsi arg0 c9_i32
  let c0_i32_1305 : BitVec 32 := 0#32
  ![v24.toNat, 1664, 0]
def k0_off56 (i : grid0.Coords) : Fin 3 → Nat :=
  let arg0 : BitVec 32 := BitVec.ofNat 32 (i 0).val
  let c2_i32 : BitVec 32 := 2#32
  let v23 : BitVec 32 := Scalar.remsi arg0 c2_i32
  let c0_i32_1328 : BitVec 32 := 0#32
  ![v23.toNat, 1664, 0]
def k0_off57 (i : grid0.Coords) : Fin 3 → Nat :=
  let arg0 : BitVec 32 := BitVec.ofNat 32 (i 0).val
  let c9_i32 : BitVec 32 := 9#32
  let v24 : BitVec 32 := Scalar.remsi arg0 c9_i32
  ![v24.toNat, 1664, 128]
def k0_off58 (i : grid0.Coords) : Fin 3 → Nat :=
  let arg0 : BitVec 32 := BitVec.ofNat 32 (i 0).val
  let c2_i32 : BitVec 32 := 2#32
  let v23 : BitVec 32 := Scalar.remsi arg0 c2_i32
  ![v23.toNat, 1664, 128]
def k0_off59 (i : grid0.Coords) (c0_i32_1383 : BitVec 32) : Fin 2 → Nat :=
  let c0_1384 : Index := 0#32
  let arg0 : BitVec 32 := BitVec.ofNat 32 (i 0).val
  let c21_i32 : BitVec 32 := 21#32
  let v22 : BitVec 32 := Scalar.minsi arg0 c21_i32
  let c2_i32_1382 : BitVec 32 := 2#32
  let v3401 : BitVec 32 := Scalar.muli v22 c2_i32_1382
  let v3402 : BitVec 32 := Scalar.addi v3401 c0_i32_1383
  let v3403 : Index := Scalar.indexCast v3402
  ![0, v3403.toNat]
def k0_off60 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1387 : BitVec 32 := 0#32
  let c0_i32_1388 : BitVec 32 := 0#32
  ![v3400.toNat, 0, 0]
def k0_off61 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1387 : BitVec 32 := 0#32
  let c0_i32_1388 : BitVec 32 := 0#32
  ![v3400.toNat, 0, 0]
def k0_off62 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1396 : BitVec 32 := 0#32
  ![v3400.toNat, 0, 128]
def k0_off63 (i : grid0.Coords) (c0_i32_1401 : BitVec 32) : Fin 2 → Nat :=
  let c1_1402 : Index := 1#32
  let arg0 : BitVec 32 := BitVec.ofNat 32 (i 0).val
  let c21_i32 : BitVec 32 := 21#32
  let v22 : BitVec 32 := Scalar.minsi arg0 c21_i32
  let c2_i32_1400 : BitVec 32 := 2#32
  let v3429 : BitVec 32 := Scalar.muli v22 c2_i32_1400
  let v3430 : BitVec 32 := Scalar.addi v3429 c0_i32_1401
  let v3431 : Index := Scalar.indexCast v3430
  ![1, v3431.toNat]
def k0_off64 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1406 : BitVec 32 := 0#32
  ![v3400.toNat, 128, 0]
def k0_off65 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 128, 128]
def k0_off66 (i : grid0.Coords) (c0_i32_1419 : BitVec 32) : Fin 2 → Nat :=
  let c2_1420 : Index := 2#32
  let arg0 : BitVec 32 := BitVec.ofNat 32 (i 0).val
  let c21_i32 : BitVec 32 := 21#32
  let v22 : BitVec 32 := Scalar.minsi arg0 c21_i32
  let c2_i32_1418 : BitVec 32 := 2#32
  let v3457 : BitVec 32 := Scalar.muli v22 c2_i32_1418
  let v3458 : BitVec 32 := Scalar.addi v3457 c0_i32_1419
  let v3459 : Index := Scalar.indexCast v3458
  ![2, v3459.toNat]
def k0_off67 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1424 : BitVec 32 := 0#32
  ![v3400.toNat, 256, 0]
def k0_off68 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 256, 128]
def k0_off69 (i : grid0.Coords) (c0_i32_1437 : BitVec 32) : Fin 2 → Nat :=
  let c3_1438 : Index := 3#32
  let arg0 : BitVec 32 := BitVec.ofNat 32 (i 0).val
  let c21_i32 : BitVec 32 := 21#32
  let v22 : BitVec 32 := Scalar.minsi arg0 c21_i32
  let c2_i32_1436 : BitVec 32 := 2#32
  let v3485 : BitVec 32 := Scalar.muli v22 c2_i32_1436
  let v3486 : BitVec 32 := Scalar.addi v3485 c0_i32_1437
  let v3487 : Index := Scalar.indexCast v3486
  ![3, v3487.toNat]
def k0_off70 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1442 : BitVec 32 := 0#32
  ![v3400.toNat, 384, 0]
def k0_off71 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 384, 128]
def k0_off72 (i : grid0.Coords) (c0_i32_1455 : BitVec 32) : Fin 2 → Nat :=
  let c4_1456 : Index := 4#32
  let arg0 : BitVec 32 := BitVec.ofNat 32 (i 0).val
  let c21_i32 : BitVec 32 := 21#32
  let v22 : BitVec 32 := Scalar.minsi arg0 c21_i32
  let c2_i32_1454 : BitVec 32 := 2#32
  let v3513 : BitVec 32 := Scalar.muli v22 c2_i32_1454
  let v3514 : BitVec 32 := Scalar.addi v3513 c0_i32_1455
  let v3515 : Index := Scalar.indexCast v3514
  ![4, v3515.toNat]
def k0_off73 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1460 : BitVec 32 := 0#32
  ![v3400.toNat, 512, 0]
def k0_off74 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 512, 128]
def k0_off75 (i : grid0.Coords) (c0_i32_1473 : BitVec 32) : Fin 2 → Nat :=
  let c5_1474 : Index := 5#32
  let arg0 : BitVec 32 := BitVec.ofNat 32 (i 0).val
  let c21_i32 : BitVec 32 := 21#32
  let v22 : BitVec 32 := Scalar.minsi arg0 c21_i32
  let c2_i32_1472 : BitVec 32 := 2#32
  let v3541 : BitVec 32 := Scalar.muli v22 c2_i32_1472
  let v3542 : BitVec 32 := Scalar.addi v3541 c0_i32_1473
  let v3543 : Index := Scalar.indexCast v3542
  ![5, v3543.toNat]
def k0_off76 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1478 : BitVec 32 := 0#32
  ![v3400.toNat, 640, 0]
def k0_off77 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 640, 128]
def k0_off78 (i : grid0.Coords) (c0_i32_1491 : BitVec 32) : Fin 2 → Nat :=
  let c6_1492 : Index := 6#32
  let arg0 : BitVec 32 := BitVec.ofNat 32 (i 0).val
  let c21_i32 : BitVec 32 := 21#32
  let v22 : BitVec 32 := Scalar.minsi arg0 c21_i32
  let c2_i32_1490 : BitVec 32 := 2#32
  let v3569 : BitVec 32 := Scalar.muli v22 c2_i32_1490
  let v3570 : BitVec 32 := Scalar.addi v3569 c0_i32_1491
  let v3571 : Index := Scalar.indexCast v3570
  ![6, v3571.toNat]
def k0_off79 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1496 : BitVec 32 := 0#32
  ![v3400.toNat, 768, 0]
def k0_off80 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 768, 128]
def k0_off81 (i : grid0.Coords) (c0_i32_1509 : BitVec 32) : Fin 2 → Nat :=
  let c7_1510 : Index := 7#32
  let arg0 : BitVec 32 := BitVec.ofNat 32 (i 0).val
  let c21_i32 : BitVec 32 := 21#32
  let v22 : BitVec 32 := Scalar.minsi arg0 c21_i32
  let c2_i32_1508 : BitVec 32 := 2#32
  let v3597 : BitVec 32 := Scalar.muli v22 c2_i32_1508
  let v3598 : BitVec 32 := Scalar.addi v3597 c0_i32_1509
  let v3599 : Index := Scalar.indexCast v3598
  ![7, v3599.toNat]
def k0_off82 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1514 : BitVec 32 := 0#32
  ![v3400.toNat, 896, 0]
def k0_off83 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 896, 128]
def k0_off84 (i : grid0.Coords) (c0_i32_1527 : BitVec 32) : Fin 2 → Nat :=
  let c8_1528 : Index := 8#32
  let arg0 : BitVec 32 := BitVec.ofNat 32 (i 0).val
  let c21_i32 : BitVec 32 := 21#32
  let v22 : BitVec 32 := Scalar.minsi arg0 c21_i32
  let c2_i32_1526 : BitVec 32 := 2#32
  let v3625 : BitVec 32 := Scalar.muli v22 c2_i32_1526
  let v3626 : BitVec 32 := Scalar.addi v3625 c0_i32_1527
  let v3627 : Index := Scalar.indexCast v3626
  ![8, v3627.toNat]
def k0_off85 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1532 : BitVec 32 := 0#32
  ![v3400.toNat, 1024, 0]
def k0_off86 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1024, 128]
def k0_off87 (i : grid0.Coords) (c0_i32_1545 : BitVec 32) : Fin 2 → Nat :=
  let c9_1546 : Index := 9#32
  let arg0 : BitVec 32 := BitVec.ofNat 32 (i 0).val
  let c21_i32 : BitVec 32 := 21#32
  let v22 : BitVec 32 := Scalar.minsi arg0 c21_i32
  let c2_i32_1544 : BitVec 32 := 2#32
  let v3653 : BitVec 32 := Scalar.muli v22 c2_i32_1544
  let v3654 : BitVec 32 := Scalar.addi v3653 c0_i32_1545
  let v3655 : Index := Scalar.indexCast v3654
  ![9, v3655.toNat]
def k0_off88 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1550 : BitVec 32 := 0#32
  ![v3400.toNat, 1152, 0]
def k0_off89 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1152, 128]
def k0_off90 (i : grid0.Coords) (c0_i32_1563 : BitVec 32) : Fin 2 → Nat :=
  let c10_1564 : Index := 10#32
  let arg0 : BitVec 32 := BitVec.ofNat 32 (i 0).val
  let c21_i32 : BitVec 32 := 21#32
  let v22 : BitVec 32 := Scalar.minsi arg0 c21_i32
  let c2_i32_1562 : BitVec 32 := 2#32
  let v3681 : BitVec 32 := Scalar.muli v22 c2_i32_1562
  let v3682 : BitVec 32 := Scalar.addi v3681 c0_i32_1563
  let v3683 : Index := Scalar.indexCast v3682
  ![10, v3683.toNat]
def k0_off91 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1568 : BitVec 32 := 0#32
  ![v3400.toNat, 1280, 0]
def k0_off92 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1280, 128]
def k0_off93 (i : grid0.Coords) (c0_i32_1581 : BitVec 32) : Fin 2 → Nat :=
  let c11_1582 : Index := 11#32
  let arg0 : BitVec 32 := BitVec.ofNat 32 (i 0).val
  let c21_i32 : BitVec 32 := 21#32
  let v22 : BitVec 32 := Scalar.minsi arg0 c21_i32
  let c2_i32_1580 : BitVec 32 := 2#32
  let v3709 : BitVec 32 := Scalar.muli v22 c2_i32_1580
  let v3710 : BitVec 32 := Scalar.addi v3709 c0_i32_1581
  let v3711 : Index := Scalar.indexCast v3710
  ![11, v3711.toNat]
def k0_off94 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1586 : BitVec 32 := 0#32
  ![v3400.toNat, 1408, 0]
def k0_off95 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1408, 128]
def k0_off96 (i : grid0.Coords) (c0_i32_1599 : BitVec 32) : Fin 2 → Nat :=
  let c12_1600 : Index := 12#32
  let arg0 : BitVec 32 := BitVec.ofNat 32 (i 0).val
  let c21_i32 : BitVec 32 := 21#32
  let v22 : BitVec 32 := Scalar.minsi arg0 c21_i32
  let c2_i32_1598 : BitVec 32 := 2#32
  let v3737 : BitVec 32 := Scalar.muli v22 c2_i32_1598
  let v3738 : BitVec 32 := Scalar.addi v3737 c0_i32_1599
  let v3739 : Index := Scalar.indexCast v3738
  ![12, v3739.toNat]
def k0_off97 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1604 : BitVec 32 := 0#32
  ![v3400.toNat, 1536, 0]
def k0_off98 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1536, 128]
def k0_off99 (i : grid0.Coords) (c0_i32_1617 : BitVec 32) : Fin 2 → Nat :=
  let c13_1618 : Index := 13#32
  let arg0 : BitVec 32 := BitVec.ofNat 32 (i 0).val
  let c21_i32 : BitVec 32 := 21#32
  let v22 : BitVec 32 := Scalar.minsi arg0 c21_i32
  let c2_i32_1616 : BitVec 32 := 2#32
  let v3765 : BitVec 32 := Scalar.muli v22 c2_i32_1616
  let v3766 : BitVec 32 := Scalar.addi v3765 c0_i32_1617
  let v3767 : Index := Scalar.indexCast v3766
  ![13, v3767.toNat]
def k0_off100 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1622 : BitVec 32 := 0#32
  ![v3400.toNat, 1664, 0]
def k0_off101 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1664, 128]
def k0_off102 (i : grid0.Coords) (c0_i32_1635 : BitVec 32) : Fin 2 → Nat :=
  let c14 : Index := 14#32
  let arg0 : BitVec 32 := BitVec.ofNat 32 (i 0).val
  let c21_i32 : BitVec 32 := 21#32
  let v22 : BitVec 32 := Scalar.minsi arg0 c21_i32
  let c2_i32_1634 : BitVec 32 := 2#32
  let v3793 : BitVec 32 := Scalar.muli v22 c2_i32_1634
  let v3794 : BitVec 32 := Scalar.addi v3793 c0_i32_1635
  let v3795 : Index := Scalar.indexCast v3794
  ![14, v3795.toNat]
def k0_off103 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1638 : BitVec 32 := 0#32
  ![v3400.toNat, 1792, 0]
def k0_off104 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1792, 128]
def k0_off105 (i : grid0.Coords) (c0_i32_1651 : BitVec 32) : Fin 2 → Nat :=
  let c15 : Index := 15#32
  let arg0 : BitVec 32 := BitVec.ofNat 32 (i 0).val
  let c21_i32 : BitVec 32 := 21#32
  let v22 : BitVec 32 := Scalar.minsi arg0 c21_i32
  let c2_i32_1650 : BitVec 32 := 2#32
  let v3821 : BitVec 32 := Scalar.muli v22 c2_i32_1650
  let v3822 : BitVec 32 := Scalar.addi v3821 c0_i32_1651
  let v3823 : Index := Scalar.indexCast v3822
  ![15, v3823.toNat]
def k0_off106 (i : grid0.Coords) : Fin 3 → Nat :=
  let arg0 : BitVec 32 := BitVec.ofNat 32 (i 0).val
  let c2_i32_1381 : BitVec 32 := 2#32
  let v3400 : BitVec 32 := Scalar.remsi arg0 c2_i32_1381
  let c0_i32_1654 : BitVec 32 := 0#32
  ![v3400.toNat, 1920, 0]
def k0_off107 (i : grid0.Coords) : Fin 3 → Nat :=
  let arg0 : BitVec 32 := BitVec.ofNat 32 (i 0).val
  let c2_i32_1381 : BitVec 32 := 2#32
  let v3400 : BitVec 32 := Scalar.remsi arg0 c2_i32_1381
  ![v3400.toNat, 1920, 128]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off108 (i : grid0.Coords) : Fin 3 → Nat :=
  let arg0 : BitVec 32 := BitVec.ofNat 32 (i 0).val
  let c1_i32_6 : BitVec 32 := 1#32
  let v16 : BitVec 32 := Scalar.addi arg0 c1_i32_6
  let c2_i32 : BitVec 32 := 2#32
  let v17 : BitVec 32 := Scalar.remsi v16 c2_i32
  let v19 : Index := Scalar.indexCast v17
  let c0_8 : Index := 0#32
  let c0_9 : Index := 0#32
  ![v19.toNat, 0, 0]
def k0_off109 (i : grid0.Coords) : Fin 3 → Nat :=
  let arg0 : BitVec 32 := BitVec.ofNat 32 (i 0).val
  let c1_i32_6 : BitVec 32 := 1#32
  let v16 : BitVec 32 := Scalar.addi arg0 c1_i32_6
  let c2_i32 : BitVec 32 := 2#32
  let v17 : BitVec 32 := Scalar.remsi v16 c2_i32
  let v22 : Index := Scalar.indexCast v17
  let c0_10 : Index := 0#32
  let c0_11 : Index := 0#32
  ![v22.toNat, 0, 0]
def k0_off110 (i : grid0.Coords) (c0_i32_20 : BitVec 32) : Fin 2 → Nat :=
  let arg0 : BitVec 32 := BitVec.ofNat 32 (i 0).val
  let c1_i32_14 : BitVec 32 := 1#32
  let v30 : BitVec 32 := Scalar.subi arg0 c1_i32_14
  let c256_i32 : BitVec 32 := 256#32
  let v42 : BitVec 32 := Scalar.muli v30 c256_i32
  let v43 : BitVec 32 := Scalar.addi v42 c0_i32_20
  let v44 : Index := Scalar.indexCast v43
  let c0_21 : Index := 0#32
  ![v44.toNat, 0]
def k0_off111 (i : grid0.Coords) (c0_i32_113 : BitVec 32) : Fin 2 → Nat :=
  let arg0 : BitVec 32 := BitVec.ofNat 32 (i 0).val
  let c1_i32_14 : BitVec 32 := 1#32
  let v30 : BitVec 32 := Scalar.subi arg0 c1_i32_14
  let c256_i32_112 : BitVec 32 := 256#32
  let v304 : BitVec 32 := Scalar.muli v30 c256_i32_112
  let v305 : BitVec 32 := Scalar.addi v304 c0_i32_113
  let v306 : Index := Scalar.indexCast v305
  let c0_114 : Index := 0#32
  ![v306.toNat, 0]
def k0_off112 (i : grid0.Coords) (c0_i32_140 : BitVec 32) : Fin 2 → Nat :=
  let c0_141 : Index := 0#32
  let arg0 : BitVec 32 := BitVec.ofNat 32 (i 0).val
  let c1_i32_14 : BitVec 32 := 1#32
  let v30 : BitVec 32 := Scalar.subi arg0 c1_i32_14
  let c256_i32_139 : BitVec 32 := 256#32
  let v373 : BitVec 32 := Scalar.muli v30 c256_i32_139
  let v374 : BitVec 32 := Scalar.addi v373 c0_i32_140
  let v375 : Index := Scalar.indexCast v374
  ![0, v375.toNat]
def k0_off113 (i : grid0.Coords) (c0_i32_170 : BitVec 32) : Fin 2 → Nat :=
  let c128_171 : Index := 128#32
  let arg0 : BitVec 32 := BitVec.ofNat 32 (i 0).val
  let c1_i32_14 : BitVec 32 := 1#32
  let v30 : BitVec 32 := Scalar.subi arg0 c1_i32_14
  let c256_i32_169 : BitVec 32 := 256#32
  let v444 : BitVec 32 := Scalar.muli v30 c256_i32_169
  let v445 : BitVec 32 := Scalar.addi v444 c0_i32_170
  let v446 : Index := Scalar.indexCast v445
  ![128, v446.toNat]
def k0_off114 (i : grid0.Coords) (c0_i32_199 : BitVec 32) : Fin 2 → Nat :=
  let c256_200 : Index := 256#32
  let arg0 : BitVec 32 := BitVec.ofNat 32 (i 0).val
  let c1_i32_14 : BitVec 32 := 1#32
  let v30 : BitVec 32 := Scalar.subi arg0 c1_i32_14
  let c256_i32_198 : BitVec 32 := 256#32
  let v515 : BitVec 32 := Scalar.muli v30 c256_i32_198
  let v516 : BitVec 32 := Scalar.addi v515 c0_i32_199
  let v517 : Index := Scalar.indexCast v516
  ![256, v517.toNat]
def k0_off115 (i : grid0.Coords) (c0_i32_228 : BitVec 32) : Fin 2 → Nat :=
  let c384_229 : Index := 384#32
  let arg0 : BitVec 32 := BitVec.ofNat 32 (i 0).val
  let c1_i32_14 : BitVec 32 := 1#32
  let v30 : BitVec 32 := Scalar.subi arg0 c1_i32_14
  let c256_i32_227 : BitVec 32 := 256#32
  let v586 : BitVec 32 := Scalar.muli v30 c256_i32_227
  let v587 : BitVec 32 := Scalar.addi v586 c0_i32_228
  let v588 : Index := Scalar.indexCast v587
  ![384, v588.toNat]
def k0_off116 (i : grid0.Coords) (c0_i32_257 : BitVec 32) : Fin 2 → Nat :=
  let c512_258 : Index := 512#32
  let arg0 : BitVec 32 := BitVec.ofNat 32 (i 0).val
  let c1_i32_14 : BitVec 32 := 1#32
  let v30 : BitVec 32 := Scalar.subi arg0 c1_i32_14
  let c256_i32_256 : BitVec 32 := 256#32
  let v657 : BitVec 32 := Scalar.muli v30 c256_i32_256
  let v658 : BitVec 32 := Scalar.addi v657 c0_i32_257
  let v659 : Index := Scalar.indexCast v658
  ![512, v659.toNat]
def k0_off117 (i : grid0.Coords) (c0_i32_286 : BitVec 32) : Fin 2 → Nat :=
  let c640_287 : Index := 640#32
  let arg0 : BitVec 32 := BitVec.ofNat 32 (i 0).val
  let c1_i32_14 : BitVec 32 := 1#32
  let v30 : BitVec 32 := Scalar.subi arg0 c1_i32_14
  let c256_i32_285 : BitVec 32 := 256#32
  let v728 : BitVec 32 := Scalar.muli v30 c256_i32_285
  let v729 : BitVec 32 := Scalar.addi v728 c0_i32_286
  let v730 : Index := Scalar.indexCast v729
  ![640, v730.toNat]
def k0_off118 (i : grid0.Coords) (c0_i32_315 : BitVec 32) : Fin 2 → Nat :=
  let c768_316 : Index := 768#32
  let arg0 : BitVec 32 := BitVec.ofNat 32 (i 0).val
  let c1_i32_14 : BitVec 32 := 1#32
  let v30 : BitVec 32 := Scalar.subi arg0 c1_i32_14
  let c256_i32_314 : BitVec 32 := 256#32
  let v799 : BitVec 32 := Scalar.muli v30 c256_i32_314
  let v800 : BitVec 32 := Scalar.addi v799 c0_i32_315
  let v801 : Index := Scalar.indexCast v800
  ![768, v801.toNat]
def k0_off119 (i : grid0.Coords) (c0_i32_344 : BitVec 32) : Fin 2 → Nat :=
  let c896_345 : Index := 896#32
  let arg0 : BitVec 32 := BitVec.ofNat 32 (i 0).val
  let c1_i32_14 : BitVec 32 := 1#32
  let v30 : BitVec 32 := Scalar.subi arg0 c1_i32_14
  let c256_i32_343 : BitVec 32 := 256#32
  let v870 : BitVec 32 := Scalar.muli v30 c256_i32_343
  let v871 : BitVec 32 := Scalar.addi v870 c0_i32_344
  let v872 : Index := Scalar.indexCast v871
  ![896, v872.toNat]
def k0_off120 (i : grid0.Coords) (c0_i32_373 : BitVec 32) : Fin 2 → Nat :=
  let c1024_374 : Index := 1024#32
  let arg0 : BitVec 32 := BitVec.ofNat 32 (i 0).val
  let c1_i32_14 : BitVec 32 := 1#32
  let v30 : BitVec 32 := Scalar.subi arg0 c1_i32_14
  let c256_i32_372 : BitVec 32 := 256#32
  let v941 : BitVec 32 := Scalar.muli v30 c256_i32_372
  let v942 : BitVec 32 := Scalar.addi v941 c0_i32_373
  let v943 : Index := Scalar.indexCast v942
  ![1024, v943.toNat]
def k0_off121 (i : grid0.Coords) (c0_i32_402 : BitVec 32) : Fin 2 → Nat :=
  let c1152_403 : Index := 1152#32
  let arg0 : BitVec 32 := BitVec.ofNat 32 (i 0).val
  let c1_i32_14 : BitVec 32 := 1#32
  let v30 : BitVec 32 := Scalar.subi arg0 c1_i32_14
  let c256_i32_401 : BitVec 32 := 256#32
  let v1012 : BitVec 32 := Scalar.muli v30 c256_i32_401
  let v1013 : BitVec 32 := Scalar.addi v1012 c0_i32_402
  let v1014 : Index := Scalar.indexCast v1013
  ![1152, v1014.toNat]
def k0_off122 (i : grid0.Coords) (c0_i32_431 : BitVec 32) : Fin 2 → Nat :=
  let c1280_432 : Index := 1280#32
  let arg0 : BitVec 32 := BitVec.ofNat 32 (i 0).val
  let c1_i32_14 : BitVec 32 := 1#32
  let v30 : BitVec 32 := Scalar.subi arg0 c1_i32_14
  let c256_i32_430 : BitVec 32 := 256#32
  let v1083 : BitVec 32 := Scalar.muli v30 c256_i32_430
  let v1084 : BitVec 32 := Scalar.addi v1083 c0_i32_431
  let v1085 : Index := Scalar.indexCast v1084
  ![1280, v1085.toNat]
def k0_off123 (i : grid0.Coords) (c0_i32_460 : BitVec 32) : Fin 2 → Nat :=
  let c1408_461 : Index := 1408#32
  let arg0 : BitVec 32 := BitVec.ofNat 32 (i 0).val
  let c1_i32_14 : BitVec 32 := 1#32
  let v30 : BitVec 32 := Scalar.subi arg0 c1_i32_14
  let c256_i32_459 : BitVec 32 := 256#32
  let v1154 : BitVec 32 := Scalar.muli v30 c256_i32_459
  let v1155 : BitVec 32 := Scalar.addi v1154 c0_i32_460
  let v1156 : Index := Scalar.indexCast v1155
  ![1408, v1156.toNat]
def k0_off124 (i : grid0.Coords) (c0_i32_489 : BitVec 32) : Fin 2 → Nat :=
  let c1536_490 : Index := 1536#32
  let arg0 : BitVec 32 := BitVec.ofNat 32 (i 0).val
  let c1_i32_14 : BitVec 32 := 1#32
  let v30 : BitVec 32 := Scalar.subi arg0 c1_i32_14
  let c256_i32_488 : BitVec 32 := 256#32
  let v1225 : BitVec 32 := Scalar.muli v30 c256_i32_488
  let v1226 : BitVec 32 := Scalar.addi v1225 c0_i32_489
  let v1227 : Index := Scalar.indexCast v1226
  ![1536, v1227.toNat]
def k0_off125 (i : grid0.Coords) (c0_i32_518 : BitVec 32) : Fin 2 → Nat :=
  let c1664_519 : Index := 1664#32
  let arg0 : BitVec 32 := BitVec.ofNat 32 (i 0).val
  let c1_i32_14 : BitVec 32 := 1#32
  let v30 : BitVec 32 := Scalar.subi arg0 c1_i32_14
  let c256_i32_517 : BitVec 32 := 256#32
  let v1296 : BitVec 32 := Scalar.muli v30 c256_i32_517
  let v1297 : BitVec 32 := Scalar.addi v1296 c0_i32_518
  let v1298 : Index := Scalar.indexCast v1297
  ![1664, v1298.toNat]
def k0_off126 (i : grid0.Coords) (c0_i32_547 : BitVec 32) : Fin 2 → Nat :=
  let c1792_548 : Index := 1792#32
  let arg0 : BitVec 32 := BitVec.ofNat 32 (i 0).val
  let c1_i32_14 : BitVec 32 := 1#32
  let v30 : BitVec 32 := Scalar.subi arg0 c1_i32_14
  let c256_i32_546 : BitVec 32 := 256#32
  let v1367 : BitVec 32 := Scalar.muli v30 c256_i32_546
  let v1368 : BitVec 32 := Scalar.addi v1367 c0_i32_547
  let v1369 : Index := Scalar.indexCast v1368
  ![1792, v1369.toNat]
def k0_off127 (i : grid0.Coords) (c0_i32_576 : BitVec 32) : Fin 2 → Nat :=
  let c1920_577 : Index := 1920#32
  let arg0 : BitVec 32 := BitVec.ofNat 32 (i 0).val
  let c1_i32_14 : BitVec 32 := 1#32
  let v30 : BitVec 32 := Scalar.subi arg0 c1_i32_14
  let c256_i32_575 : BitVec 32 := 256#32
  let v1438 : BitVec 32 := Scalar.muli v30 c256_i32_575
  let v1439 : BitVec 32 := Scalar.addi v1438 c0_i32_576
  let v1440 : Index := Scalar.indexCast v1439
  ![1920, v1440.toNat]
def k0_off128 (i : grid0.Coords) : Fin 3 → Nat :=
  let arg0 : BitVec 32 := BitVec.ofNat 32 (i 0).val
  let c9_i32 : BitVec 32 := 9#32
  let v2586 : BitVec 32 := Scalar.remsi arg0 c9_i32
  let c0_i32_1085 : BitVec 32 := 0#32
  let c0_i32_1086 : BitVec 32 := 0#32
  ![v2586.toNat, 0, 0]
def k0_off129 (i : grid0.Coords) : Fin 3 → Nat :=
  let arg0 : BitVec 32 := BitVec.ofNat 32 (i 0).val
  let c9_i32 : BitVec 32 := 9#32
  let v2586 : BitVec 32 := Scalar.remsi arg0 c9_i32
  let c0_i32_1085 : BitVec 32 := 0#32
  let c0_i32_1086 : BitVec 32 := 0#32
  ![v2586.toNat, 0, 0]
def k0_off130 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1108 : BitVec 32 := 0#32
  let c0_i32_1109 : BitVec 32 := 0#32
  ![v2585.toNat, 0, 0]
def k0_off131 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1108 : BitVec 32 := 0#32
  let c0_i32_1109 : BitVec 32 := 0#32
  ![v2585.toNat, 0, 0]
def k0_off132 (i : grid0.Coords) : Fin 3 → Nat :=
  let arg0 : BitVec 32 := BitVec.ofNat 32 (i 0).val
  let c9_i32 : BitVec 32 := 9#32
  let v2586 : BitVec 32 := Scalar.remsi arg0 c9_i32
  let c0_i32_1133 : BitVec 32 := 0#32
  ![v2586.toNat, 0, 128]
def k0_off133 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1156 : BitVec 32 := 0#32
  ![v2585.toNat, 0, 128]
def k0_off134 (i : grid0.Coords) : Fin 3 → Nat :=
  let arg0 : BitVec 32 := BitVec.ofNat 32 (i 0).val
  let c9_i32 : BitVec 32 := 9#32
  let v2586 : BitVec 32 := Scalar.remsi arg0 c9_i32
  let c0_i32_1185 : BitVec 32 := 0#32
  ![v2586.toNat, 128, 0]
def k0_off135 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1208 : BitVec 32 := 0#32
  ![v2585.toNat, 128, 0]
def k0_off136 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 128, 128]
def k0_off137 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 128, 128]
def k0_off138 (i : grid0.Coords) : Fin 3 → Nat :=
  let arg0 : BitVec 32 := BitVec.ofNat 32 (i 0).val
  let c9_i32 : BitVec 32 := 9#32
  let v2586 : BitVec 32 := Scalar.remsi arg0 c9_i32
  let c0_i32_1284 : BitVec 32 := 0#32
  ![v2586.toNat, 256, 0]
def k0_off139 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1307 : BitVec 32 := 0#32
  ![v2585.toNat, 256, 0]
def k0_off140 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 256, 128]
def k0_off141 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 256, 128]
def k0_off142 (i : grid0.Coords) : Fin 3 → Nat :=
  let arg0 : BitVec 32 := BitVec.ofNat 32 (i 0).val
  let c9_i32 : BitVec 32 := 9#32
  let v2586 : BitVec 32 := Scalar.remsi arg0 c9_i32
  let c0_i32_1383 : BitVec 32 := 0#32
  ![v2586.toNat, 384, 0]
def k0_off143 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1406 : BitVec 32 := 0#32
  ![v2585.toNat, 384, 0]
def k0_off144 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 384, 128]
def k0_off145 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 384, 128]
def k0_off146 (i : grid0.Coords) : Fin 3 → Nat :=
  let arg0 : BitVec 32 := BitVec.ofNat 32 (i 0).val
  let c9_i32 : BitVec 32 := 9#32
  let v2586 : BitVec 32 := Scalar.remsi arg0 c9_i32
  let c0_i32_1482 : BitVec 32 := 0#32
  ![v2586.toNat, 512, 0]
def k0_off147 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1505 : BitVec 32 := 0#32
  ![v2585.toNat, 512, 0]
def k0_off148 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 512, 128]
def k0_off149 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 512, 128]
def k0_off150 (i : grid0.Coords) : Fin 3 → Nat :=
  let arg0 : BitVec 32 := BitVec.ofNat 32 (i 0).val
  let c9_i32 : BitVec 32 := 9#32
  let v2586 : BitVec 32 := Scalar.remsi arg0 c9_i32
  let c0_i32_1581 : BitVec 32 := 0#32
  ![v2586.toNat, 640, 0]
def k0_off151 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1604 : BitVec 32 := 0#32
  ![v2585.toNat, 640, 0]
def k0_off152 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 640, 128]
def k0_off153 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 640, 128]
def k0_off154 (i : grid0.Coords) : Fin 3 → Nat :=
  let arg0 : BitVec 32 := BitVec.ofNat 32 (i 0).val
  let c9_i32 : BitVec 32 := 9#32
  let v2586 : BitVec 32 := Scalar.remsi arg0 c9_i32
  let c0_i32_1680 : BitVec 32 := 0#32
  ![v2586.toNat, 768, 0]
def k0_off155 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1703 : BitVec 32 := 0#32
  ![v2585.toNat, 768, 0]
def k0_off156 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 768, 128]
def k0_off157 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 768, 128]
def k0_off158 (i : grid0.Coords) : Fin 3 → Nat :=
  let arg0 : BitVec 32 := BitVec.ofNat 32 (i 0).val
  let c9_i32 : BitVec 32 := 9#32
  let v2586 : BitVec 32 := Scalar.remsi arg0 c9_i32
  let c0_i32_1779 : BitVec 32 := 0#32
  ![v2586.toNat, 896, 0]
def k0_off159 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1802 : BitVec 32 := 0#32
  ![v2585.toNat, 896, 0]
def k0_off160 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 896, 128]
def k0_off161 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 896, 128]
def k0_off162 (i : grid0.Coords) : Fin 3 → Nat :=
  let arg0 : BitVec 32 := BitVec.ofNat 32 (i 0).val
  let c9_i32 : BitVec 32 := 9#32
  let v2586 : BitVec 32 := Scalar.remsi arg0 c9_i32
  let c0_i32_1878 : BitVec 32 := 0#32
  ![v2586.toNat, 1024, 0]
def k0_off163 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_1901 : BitVec 32 := 0#32
  ![v2585.toNat, 1024, 0]
def k0_off164 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1024, 128]
def k0_off165 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1024, 128]
def k0_off166 (i : grid0.Coords) : Fin 3 → Nat :=
  let arg0 : BitVec 32 := BitVec.ofNat 32 (i 0).val
  let c9_i32 : BitVec 32 := 9#32
  let v2586 : BitVec 32 := Scalar.remsi arg0 c9_i32
  let c0_i32_1977 : BitVec 32 := 0#32
  ![v2586.toNat, 1152, 0]
def k0_off167 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_2000 : BitVec 32 := 0#32
  ![v2585.toNat, 1152, 0]
def k0_off168 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1152, 128]
def k0_off169 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1152, 128]
def k0_off170 (i : grid0.Coords) : Fin 3 → Nat :=
  let arg0 : BitVec 32 := BitVec.ofNat 32 (i 0).val
  let c9_i32 : BitVec 32 := 9#32
  let v2586 : BitVec 32 := Scalar.remsi arg0 c9_i32
  let c0_i32_2076 : BitVec 32 := 0#32
  ![v2586.toNat, 1280, 0]
def k0_off171 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_2099 : BitVec 32 := 0#32
  ![v2585.toNat, 1280, 0]
def k0_off172 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1280, 128]
def k0_off173 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1280, 128]
def k0_off174 (i : grid0.Coords) : Fin 3 → Nat :=
  let arg0 : BitVec 32 := BitVec.ofNat 32 (i 0).val
  let c9_i32 : BitVec 32 := 9#32
  let v2586 : BitVec 32 := Scalar.remsi arg0 c9_i32
  let c0_i32_2175 : BitVec 32 := 0#32
  ![v2586.toNat, 1408, 0]
def k0_off175 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_2198 : BitVec 32 := 0#32
  ![v2585.toNat, 1408, 0]
def k0_off176 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1408, 128]
def k0_off177 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1408, 128]
def k0_off178 (i : grid0.Coords) : Fin 3 → Nat :=
  let arg0 : BitVec 32 := BitVec.ofNat 32 (i 0).val
  let c9_i32 : BitVec 32 := 9#32
  let v2586 : BitVec 32 := Scalar.remsi arg0 c9_i32
  let c0_i32_2274 : BitVec 32 := 0#32
  ![v2586.toNat, 1536, 0]
def k0_off179 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_2297 : BitVec 32 := 0#32
  ![v2585.toNat, 1536, 0]
def k0_off180 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1536, 128]
def k0_off181 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1536, 128]
def k0_off182 (i : grid0.Coords) : Fin 3 → Nat :=
  let arg0 : BitVec 32 := BitVec.ofNat 32 (i 0).val
  let c9_i32 : BitVec 32 := 9#32
  let v2586 : BitVec 32 := Scalar.remsi arg0 c9_i32
  let c0_i32_2373 : BitVec 32 := 0#32
  ![v2586.toNat, 1664, 0]
def k0_off183 (i : grid0.Coords) : Fin 3 → Nat :=
  let arg0 : BitVec 32 := BitVec.ofNat 32 (i 0).val
  let c2_i32_1061 : BitVec 32 := 2#32
  let v2585 : BitVec 32 := Scalar.remsi arg0 c2_i32_1061
  let c0_i32_2396 : BitVec 32 := 0#32
  ![v2585.toNat, 1664, 0]
def k0_off184 (i : grid0.Coords) : Fin 3 → Nat :=
  let arg0 : BitVec 32 := BitVec.ofNat 32 (i 0).val
  let c9_i32 : BitVec 32 := 9#32
  let v2586 : BitVec 32 := Scalar.remsi arg0 c9_i32
  ![v2586.toNat, 1664, 128]
def k0_off185 (i : grid0.Coords) : Fin 3 → Nat :=
  let arg0 : BitVec 32 := BitVec.ofNat 32 (i 0).val
  let c2_i32_1061 : BitVec 32 := 2#32
  let v2585 : BitVec 32 := Scalar.remsi arg0 c2_i32_1061
  ![v2585.toNat, 1664, 128]
def k0_off186 (i : grid0.Coords) (c0_i32_2451 : BitVec 32) : Fin 2 → Nat :=
  let c0_2452 : Index := 0#32
  let arg0 : BitVec 32 := BitVec.ofNat 32 (i 0).val
  let c21_i32 : BitVec 32 := 21#32
  let v2584 : BitVec 32 := Scalar.minsi arg0 c21_i32
  let c2_i32_2450 : BitVec 32 := 2#32
  let v5963 : BitVec 32 := Scalar.muli v2584 c2_i32_2450
  let v5964 : BitVec 32 := Scalar.addi v5963 c0_i32_2451
  let v5965 : Index := Scalar.indexCast v5964
  ![0, v5965.toNat]
def k0_off187 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2455 : BitVec 32 := 0#32
  let c0_i32_2456 : BitVec 32 := 0#32
  ![v5962.toNat, 0, 0]
def k0_off188 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2455 : BitVec 32 := 0#32
  let c0_i32_2456 : BitVec 32 := 0#32
  ![v5962.toNat, 0, 0]
def k0_off189 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2464 : BitVec 32 := 0#32
  ![v5962.toNat, 0, 128]
def k0_off190 (i : grid0.Coords) (c0_i32_2469 : BitVec 32) : Fin 2 → Nat :=
  let c1_2470 : Index := 1#32
  let arg0 : BitVec 32 := BitVec.ofNat 32 (i 0).val
  let c21_i32 : BitVec 32 := 21#32
  let v2584 : BitVec 32 := Scalar.minsi arg0 c21_i32
  let c2_i32_2468 : BitVec 32 := 2#32
  let v5991 : BitVec 32 := Scalar.muli v2584 c2_i32_2468
  let v5992 : BitVec 32 := Scalar.addi v5991 c0_i32_2469
  let v5993 : Index := Scalar.indexCast v5992
  ![1, v5993.toNat]
def k0_off191 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2474 : BitVec 32 := 0#32
  ![v5962.toNat, 128, 0]
def k0_off192 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 128, 128]
def k0_off193 (i : grid0.Coords) (c0_i32_2487 : BitVec 32) : Fin 2 → Nat :=
  let c2_2488 : Index := 2#32
  let arg0 : BitVec 32 := BitVec.ofNat 32 (i 0).val
  let c21_i32 : BitVec 32 := 21#32
  let v2584 : BitVec 32 := Scalar.minsi arg0 c21_i32
  let c2_i32_2486 : BitVec 32 := 2#32
  let v6019 : BitVec 32 := Scalar.muli v2584 c2_i32_2486
  let v6020 : BitVec 32 := Scalar.addi v6019 c0_i32_2487
  let v6021 : Index := Scalar.indexCast v6020
  ![2, v6021.toNat]
def k0_off194 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2492 : BitVec 32 := 0#32
  ![v5962.toNat, 256, 0]
def k0_off195 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 256, 128]
def k0_off196 (i : grid0.Coords) (c0_i32_2505 : BitVec 32) : Fin 2 → Nat :=
  let c3_2506 : Index := 3#32
  let arg0 : BitVec 32 := BitVec.ofNat 32 (i 0).val
  let c21_i32 : BitVec 32 := 21#32
  let v2584 : BitVec 32 := Scalar.minsi arg0 c21_i32
  let c2_i32_2504 : BitVec 32 := 2#32
  let v6047 : BitVec 32 := Scalar.muli v2584 c2_i32_2504
  let v6048 : BitVec 32 := Scalar.addi v6047 c0_i32_2505
  let v6049 : Index := Scalar.indexCast v6048
  ![3, v6049.toNat]
def k0_off197 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2510 : BitVec 32 := 0#32
  ![v5962.toNat, 384, 0]
def k0_off198 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 384, 128]
def k0_off199 (i : grid0.Coords) (c0_i32_2523 : BitVec 32) : Fin 2 → Nat :=
  let c4_2524 : Index := 4#32
  let arg0 : BitVec 32 := BitVec.ofNat 32 (i 0).val
  let c21_i32 : BitVec 32 := 21#32
  let v2584 : BitVec 32 := Scalar.minsi arg0 c21_i32
  let c2_i32_2522 : BitVec 32 := 2#32
  let v6075 : BitVec 32 := Scalar.muli v2584 c2_i32_2522
  let v6076 : BitVec 32 := Scalar.addi v6075 c0_i32_2523
  let v6077 : Index := Scalar.indexCast v6076
  ![4, v6077.toNat]
def k0_off200 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2528 : BitVec 32 := 0#32
  ![v5962.toNat, 512, 0]
def k0_off201 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 512, 128]
def k0_off202 (i : grid0.Coords) (c0_i32_2541 : BitVec 32) : Fin 2 → Nat :=
  let c5_2542 : Index := 5#32
  let arg0 : BitVec 32 := BitVec.ofNat 32 (i 0).val
  let c21_i32 : BitVec 32 := 21#32
  let v2584 : BitVec 32 := Scalar.minsi arg0 c21_i32
  let c2_i32_2540 : BitVec 32 := 2#32
  let v6103 : BitVec 32 := Scalar.muli v2584 c2_i32_2540
  let v6104 : BitVec 32 := Scalar.addi v6103 c0_i32_2541
  let v6105 : Index := Scalar.indexCast v6104
  ![5, v6105.toNat]
def k0_off203 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2546 : BitVec 32 := 0#32
  ![v5962.toNat, 640, 0]
def k0_off204 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 640, 128]
def k0_off205 (i : grid0.Coords) (c0_i32_2559 : BitVec 32) : Fin 2 → Nat :=
  let c6_2560 : Index := 6#32
  let arg0 : BitVec 32 := BitVec.ofNat 32 (i 0).val
  let c21_i32 : BitVec 32 := 21#32
  let v2584 : BitVec 32 := Scalar.minsi arg0 c21_i32
  let c2_i32_2558 : BitVec 32 := 2#32
  let v6131 : BitVec 32 := Scalar.muli v2584 c2_i32_2558
  let v6132 : BitVec 32 := Scalar.addi v6131 c0_i32_2559
  let v6133 : Index := Scalar.indexCast v6132
  ![6, v6133.toNat]
def k0_off206 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2564 : BitVec 32 := 0#32
  ![v5962.toNat, 768, 0]
def k0_off207 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 768, 128]
def k0_off208 (i : grid0.Coords) (c0_i32_2577 : BitVec 32) : Fin 2 → Nat :=
  let c7_2578 : Index := 7#32
  let arg0 : BitVec 32 := BitVec.ofNat 32 (i 0).val
  let c21_i32 : BitVec 32 := 21#32
  let v2584 : BitVec 32 := Scalar.minsi arg0 c21_i32
  let c2_i32_2576 : BitVec 32 := 2#32
  let v6159 : BitVec 32 := Scalar.muli v2584 c2_i32_2576
  let v6160 : BitVec 32 := Scalar.addi v6159 c0_i32_2577
  let v6161 : Index := Scalar.indexCast v6160
  ![7, v6161.toNat]
def k0_off209 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2582 : BitVec 32 := 0#32
  ![v5962.toNat, 896, 0]
def k0_off210 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 896, 128]
def k0_off211 (i : grid0.Coords) (c0_i32_2595 : BitVec 32) : Fin 2 → Nat :=
  let c8_2596 : Index := 8#32
  let arg0 : BitVec 32 := BitVec.ofNat 32 (i 0).val
  let c21_i32 : BitVec 32 := 21#32
  let v2584 : BitVec 32 := Scalar.minsi arg0 c21_i32
  let c2_i32_2594 : BitVec 32 := 2#32
  let v6187 : BitVec 32 := Scalar.muli v2584 c2_i32_2594
  let v6188 : BitVec 32 := Scalar.addi v6187 c0_i32_2595
  let v6189 : Index := Scalar.indexCast v6188
  ![8, v6189.toNat]
def k0_off212 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2600 : BitVec 32 := 0#32
  ![v5962.toNat, 1024, 0]
def k0_off213 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1024, 128]
def k0_off214 (i : grid0.Coords) (c0_i32_2613 : BitVec 32) : Fin 2 → Nat :=
  let c9_2614 : Index := 9#32
  let arg0 : BitVec 32 := BitVec.ofNat 32 (i 0).val
  let c21_i32 : BitVec 32 := 21#32
  let v2584 : BitVec 32 := Scalar.minsi arg0 c21_i32
  let c2_i32_2612 : BitVec 32 := 2#32
  let v6215 : BitVec 32 := Scalar.muli v2584 c2_i32_2612
  let v6216 : BitVec 32 := Scalar.addi v6215 c0_i32_2613
  let v6217 : Index := Scalar.indexCast v6216
  ![9, v6217.toNat]
def k0_off215 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2618 : BitVec 32 := 0#32
  ![v5962.toNat, 1152, 0]
def k0_off216 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1152, 128]
def k0_off217 (i : grid0.Coords) (c0_i32_2631 : BitVec 32) : Fin 2 → Nat :=
  let c10_2632 : Index := 10#32
  let arg0 : BitVec 32 := BitVec.ofNat 32 (i 0).val
  let c21_i32 : BitVec 32 := 21#32
  let v2584 : BitVec 32 := Scalar.minsi arg0 c21_i32
  let c2_i32_2630 : BitVec 32 := 2#32
  let v6243 : BitVec 32 := Scalar.muli v2584 c2_i32_2630
  let v6244 : BitVec 32 := Scalar.addi v6243 c0_i32_2631
  let v6245 : Index := Scalar.indexCast v6244
  ![10, v6245.toNat]
def k0_off218 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2636 : BitVec 32 := 0#32
  ![v5962.toNat, 1280, 0]
def k0_off219 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1280, 128]
def k0_off220 (i : grid0.Coords) (c0_i32_2649 : BitVec 32) : Fin 2 → Nat :=
  let c11_2650 : Index := 11#32
  let arg0 : BitVec 32 := BitVec.ofNat 32 (i 0).val
  let c21_i32 : BitVec 32 := 21#32
  let v2584 : BitVec 32 := Scalar.minsi arg0 c21_i32
  let c2_i32_2648 : BitVec 32 := 2#32
  let v6271 : BitVec 32 := Scalar.muli v2584 c2_i32_2648
  let v6272 : BitVec 32 := Scalar.addi v6271 c0_i32_2649
  let v6273 : Index := Scalar.indexCast v6272
  ![11, v6273.toNat]
def k0_off221 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2654 : BitVec 32 := 0#32
  ![v5962.toNat, 1408, 0]
def k0_off222 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1408, 128]
def k0_off223 (i : grid0.Coords) (c0_i32_2667 : BitVec 32) : Fin 2 → Nat :=
  let c12_2668 : Index := 12#32
  let arg0 : BitVec 32 := BitVec.ofNat 32 (i 0).val
  let c21_i32 : BitVec 32 := 21#32
  let v2584 : BitVec 32 := Scalar.minsi arg0 c21_i32
  let c2_i32_2666 : BitVec 32 := 2#32
  let v6299 : BitVec 32 := Scalar.muli v2584 c2_i32_2666
  let v6300 : BitVec 32 := Scalar.addi v6299 c0_i32_2667
  let v6301 : Index := Scalar.indexCast v6300
  ![12, v6301.toNat]
def k0_off224 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2672 : BitVec 32 := 0#32
  ![v5962.toNat, 1536, 0]
def k0_off225 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1536, 128]
def k0_off226 (i : grid0.Coords) (c0_i32_2685 : BitVec 32) : Fin 2 → Nat :=
  let c13_2686 : Index := 13#32
  let arg0 : BitVec 32 := BitVec.ofNat 32 (i 0).val
  let c21_i32 : BitVec 32 := 21#32
  let v2584 : BitVec 32 := Scalar.minsi arg0 c21_i32
  let c2_i32_2684 : BitVec 32 := 2#32
  let v6327 : BitVec 32 := Scalar.muli v2584 c2_i32_2684
  let v6328 : BitVec 32 := Scalar.addi v6327 c0_i32_2685
  let v6329 : Index := Scalar.indexCast v6328
  ![13, v6329.toNat]
def k0_off227 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2690 : BitVec 32 := 0#32
  ![v5962.toNat, 1664, 0]
def k0_off228 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1664, 128]
def k0_off229 (i : grid0.Coords) (c0_i32_2703 : BitVec 32) : Fin 2 → Nat :=
  let c14 : Index := 14#32
  let arg0 : BitVec 32 := BitVec.ofNat 32 (i 0).val
  let c21_i32 : BitVec 32 := 21#32
  let v2584 : BitVec 32 := Scalar.minsi arg0 c21_i32
  let c2_i32_2702 : BitVec 32 := 2#32
  let v6355 : BitVec 32 := Scalar.muli v2584 c2_i32_2702
  let v6356 : BitVec 32 := Scalar.addi v6355 c0_i32_2703
  let v6357 : Index := Scalar.indexCast v6356
  ![14, v6357.toNat]
def k0_off230 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2707 : BitVec 32 := 0#32
  ![v5962.toNat, 1792, 0]
def k0_off231 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1792, 128]
def k0_off232 (i : grid0.Coords) (c0_i32_2720 : BitVec 32) : Fin 2 → Nat :=
  let c15 : Index := 15#32
  let arg0 : BitVec 32 := BitVec.ofNat 32 (i 0).val
  let c21_i32 : BitVec 32 := 21#32
  let v2584 : BitVec 32 := Scalar.minsi arg0 c21_i32
  let c2_i32_2719 : BitVec 32 := 2#32
  let v6383 : BitVec 32 := Scalar.muli v2584 c2_i32_2719
  let v6384 : BitVec 32 := Scalar.addi v6383 c0_i32_2720
  let v6385 : Index := Scalar.indexCast v6384
  ![15, v6385.toNat]
def k0_off233 (i : grid0.Coords) : Fin 3 → Nat :=
  let arg0 : BitVec 32 := BitVec.ofNat 32 (i 0).val
  let c2_i32_2449 : BitVec 32 := 2#32
  let v5962 : BitVec 32 := Scalar.remsi arg0 c2_i32_2449
  let c0_i32_2724 : BitVec 32 := 0#32
  ![v5962.toNat, 1920, 0]
def k0_off234 (i : grid0.Coords) : Fin 3 → Nat :=
  let arg0 : BitVec 32 := BitVec.ofNat 32 (i 0).val
  let c2_i32_2449 : BitVec 32 := 2#32
  let v5962 : BitVec 32 := Scalar.remsi arg0 c2_i32_2449
  ![v5962.toNat, 1920, 128]
def k0_cond3 (i : grid0.Coords) : BitVec 1 :=
  let arg0 : BitVec 32 := BitVec.ofNat 32 (i 0).val
  let c8_i32_2 : BitVec 32 := 8#32
  let v8 : BitVec 1 := Scalar.cmpi .sge arg0 c8_i32_2
  let c22_i32 : BitVec 32 := 22#32
  let v9 : BitVec 1 := Scalar.cmpi .sle arg0 c22_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off235 (i : grid0.Coords) : Fin 3 → Nat :=
  let arg0 : BitVec 32 := BitVec.ofNat 32 (i 0).val
  let c1_i32_6 : BitVec 32 := 1#32
  let v16 : BitVec 32 := Scalar.addi arg0 c1_i32_6
  let c2_i32 : BitVec 32 := 2#32
  let v17 : BitVec 32 := Scalar.remsi v16 c2_i32
  let v19 : Index := Scalar.indexCast v17
  let c0_8 : Index := 0#32
  let c0_9 : Index := 0#32
  ![v19.toNat, 0, 0]
def k0_off236 (i : grid0.Coords) : Fin 3 → Nat :=
  let arg0 : BitVec 32 := BitVec.ofNat 32 (i 0).val
  let c1_i32_6 : BitVec 32 := 1#32
  let v16 : BitVec 32 := Scalar.addi arg0 c1_i32_6
  let c2_i32 : BitVec 32 := 2#32
  let v17 : BitVec 32 := Scalar.remsi v16 c2_i32
  let v22 : Index := Scalar.indexCast v17
  let c0_10 : Index := 0#32
  let c0_11 : Index := 0#32
  ![v22.toNat, 0, 0]
def k0_off237 (i : grid0.Coords) : Fin 3 → Nat :=
  let arg0 : BitVec 32 := BitVec.ofNat 32 (i 0).val
  let c8_i32_14 : BitVec 32 := 8#32
  let v30 : BitVec 32 := Scalar.subi arg0 c8_i32_14
  let c9_i32 : BitVec 32 := 9#32
  let v31 : BitVec 32 := Scalar.remsi v30 c9_i32
  let v33 : Index := Scalar.indexCast v31
  let c0_17 : Index := 0#32
  let c0_18 : Index := 0#32
  ![v33.toNat, 0, 0]
def k0_off238 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_44 : BitVec 32 := 0#32
  let c0_i32_45 : BitVec 32 := 0#32
  ![v40.toNat, 0, 0]
def k0_off239 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_44 : BitVec 32 := 0#32
  let c0_i32_45 : BitVec 32 := 0#32
  ![v40.toNat, 0, 0]
def k0_off240 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_67 : BitVec 32 := 0#32
  let c0_i32_68 : BitVec 32 := 0#32
  ![v39.toNat, 0, 0]
def k0_off241 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_67 : BitVec 32 := 0#32
  let c0_i32_68 : BitVec 32 := 0#32
  ![v39.toNat, 0, 0]
def k0_off242 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_91 : BitVec 32 := 0#32
  ![v40.toNat, 0, 128]
def k0_off243 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_114 : BitVec 32 := 0#32
  ![v39.toNat, 0, 128]
def k0_off244 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_143 : BitVec 32 := 0#32
  ![v40.toNat, 128, 0]
def k0_off245 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_166 : BitVec 32 := 0#32
  ![v39.toNat, 128, 0]
def k0_off246 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 128, 128]
def k0_off247 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 128, 128]
def k0_off248 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_241 : BitVec 32 := 0#32
  ![v40.toNat, 256, 0]
def k0_off249 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_264 : BitVec 32 := 0#32
  ![v39.toNat, 256, 0]
def k0_off250 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 256, 128]
def k0_off251 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 256, 128]
def k0_off252 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_339 : BitVec 32 := 0#32
  ![v40.toNat, 384, 0]
def k0_off253 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_362 : BitVec 32 := 0#32
  ![v39.toNat, 384, 0]
def k0_off254 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 384, 128]
def k0_off255 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 384, 128]
def k0_off256 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_437 : BitVec 32 := 0#32
  ![v40.toNat, 512, 0]
def k0_off257 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_460 : BitVec 32 := 0#32
  ![v39.toNat, 512, 0]
def k0_off258 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 512, 128]
def k0_off259 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 512, 128]
def k0_off260 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_535 : BitVec 32 := 0#32
  ![v40.toNat, 640, 0]
def k0_off261 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_558 : BitVec 32 := 0#32
  ![v39.toNat, 640, 0]
def k0_off262 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 640, 128]
def k0_off263 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 640, 128]
def k0_off264 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_633 : BitVec 32 := 0#32
  ![v40.toNat, 768, 0]
def k0_off265 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_656 : BitVec 32 := 0#32
  ![v39.toNat, 768, 0]
def k0_off266 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 768, 128]
def k0_off267 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 768, 128]
def k0_off268 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_731 : BitVec 32 := 0#32
  ![v40.toNat, 896, 0]
def k0_off269 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_754 : BitVec 32 := 0#32
  ![v39.toNat, 896, 0]
def k0_off270 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 896, 128]
def k0_off271 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 896, 128]
def k0_off272 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_829 : BitVec 32 := 0#32
  ![v40.toNat, 1024, 0]
def k0_off273 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_852 : BitVec 32 := 0#32
  ![v39.toNat, 1024, 0]
def k0_off274 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1024, 128]
def k0_off275 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1024, 128]
def k0_off276 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_927 : BitVec 32 := 0#32
  ![v40.toNat, 1152, 0]
def k0_off277 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_950 : BitVec 32 := 0#32
  ![v39.toNat, 1152, 0]
def k0_off278 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1152, 128]
def k0_off279 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1152, 128]
def k0_off280 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_1025 : BitVec 32 := 0#32
  ![v40.toNat, 1280, 0]
def k0_off281 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_1048 : BitVec 32 := 0#32
  ![v39.toNat, 1280, 0]
def k0_off282 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1280, 128]
def k0_off283 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1280, 128]
def k0_off284 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_1123 : BitVec 32 := 0#32
  ![v40.toNat, 1408, 0]
def k0_off285 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_1146 : BitVec 32 := 0#32
  ![v39.toNat, 1408, 0]
def k0_off286 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1408, 128]
def k0_off287 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1408, 128]
def k0_off288 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_1221 : BitVec 32 := 0#32
  ![v40.toNat, 1536, 0]
def k0_off289 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_1244 : BitVec 32 := 0#32
  ![v39.toNat, 1536, 0]
def k0_off290 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1536, 128]
def k0_off291 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1536, 128]
def k0_off292 (i : grid0.Coords) : Fin 3 → Nat :=
  let arg0 : BitVec 32 := BitVec.ofNat 32 (i 0).val
  let c9_i32_23 : BitVec 32 := 9#32
  let v40 : BitVec 32 := Scalar.remsi arg0 c9_i32_23
  let c0_i32_1319 : BitVec 32 := 0#32
  ![v40.toNat, 1664, 0]
def k0_off293 (i : grid0.Coords) : Fin 3 → Nat :=
  let arg0 : BitVec 32 := BitVec.ofNat 32 (i 0).val
  let c2_i32_22 : BitVec 32 := 2#32
  let v39 : BitVec 32 := Scalar.remsi arg0 c2_i32_22
  let c0_i32_1342 : BitVec 32 := 0#32
  ![v39.toNat, 1664, 0]
def k0_off294 (i : grid0.Coords) : Fin 3 → Nat :=
  let arg0 : BitVec 32 := BitVec.ofNat 32 (i 0).val
  let c9_i32_23 : BitVec 32 := 9#32
  let v40 : BitVec 32 := Scalar.remsi arg0 c9_i32_23
  ![v40.toNat, 1664, 128]
def k0_off295 (i : grid0.Coords) : Fin 3 → Nat :=
  let arg0 : BitVec 32 := BitVec.ofNat 32 (i 0).val
  let c2_i32_22 : BitVec 32 := 2#32
  let v39 : BitVec 32 := Scalar.remsi arg0 c2_i32_22
  ![v39.toNat, 1664, 128]
def k0_off296 (i : grid0.Coords) (c0_i32_1397 : BitVec 32) : Fin 2 → Nat :=
  let c0_1398 : Index := 0#32
  let arg0 : BitVec 32 := BitVec.ofNat 32 (i 0).val
  let c21_i32 : BitVec 32 := 21#32
  let v38 : BitVec 32 := Scalar.minsi arg0 c21_i32
  let c2_i32_1396 : BitVec 32 := 2#32
  let v3417 : BitVec 32 := Scalar.muli v38 c2_i32_1396
  let v3418 : BitVec 32 := Scalar.addi v3417 c0_i32_1397
  let v3419 : Index := Scalar.indexCast v3418
  ![0, v3419.toNat]
def k0_off297 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1401 : BitVec 32 := 0#32
  let c0_i32_1402 : BitVec 32 := 0#32
  ![v3416.toNat, 0, 0]
def k0_off298 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1401 : BitVec 32 := 0#32
  let c0_i32_1402 : BitVec 32 := 0#32
  ![v3416.toNat, 0, 0]
def k0_off299 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1410 : BitVec 32 := 0#32
  ![v3416.toNat, 0, 128]
def k0_off300 (i : grid0.Coords) (c0_i32_1415 : BitVec 32) : Fin 2 → Nat :=
  let c1_1416 : Index := 1#32
  let arg0 : BitVec 32 := BitVec.ofNat 32 (i 0).val
  let c21_i32 : BitVec 32 := 21#32
  let v38 : BitVec 32 := Scalar.minsi arg0 c21_i32
  let c2_i32_1414 : BitVec 32 := 2#32
  let v3445 : BitVec 32 := Scalar.muli v38 c2_i32_1414
  let v3446 : BitVec 32 := Scalar.addi v3445 c0_i32_1415
  let v3447 : Index := Scalar.indexCast v3446
  ![1, v3447.toNat]
def k0_off301 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1420 : BitVec 32 := 0#32
  ![v3416.toNat, 128, 0]
def k0_off302 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 128, 128]
def k0_off303 (i : grid0.Coords) (c0_i32_1433 : BitVec 32) : Fin 2 → Nat :=
  let c2_1434 : Index := 2#32
  let arg0 : BitVec 32 := BitVec.ofNat 32 (i 0).val
  let c21_i32 : BitVec 32 := 21#32
  let v38 : BitVec 32 := Scalar.minsi arg0 c21_i32
  let c2_i32_1432 : BitVec 32 := 2#32
  let v3473 : BitVec 32 := Scalar.muli v38 c2_i32_1432
  let v3474 : BitVec 32 := Scalar.addi v3473 c0_i32_1433
  let v3475 : Index := Scalar.indexCast v3474
  ![2, v3475.toNat]
def k0_off304 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1438 : BitVec 32 := 0#32
  ![v3416.toNat, 256, 0]
def k0_off305 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 256, 128]
def k0_off306 (i : grid0.Coords) (c0_i32_1451 : BitVec 32) : Fin 2 → Nat :=
  let c3_1452 : Index := 3#32
  let arg0 : BitVec 32 := BitVec.ofNat 32 (i 0).val
  let c21_i32 : BitVec 32 := 21#32
  let v38 : BitVec 32 := Scalar.minsi arg0 c21_i32
  let c2_i32_1450 : BitVec 32 := 2#32
  let v3501 : BitVec 32 := Scalar.muli v38 c2_i32_1450
  let v3502 : BitVec 32 := Scalar.addi v3501 c0_i32_1451
  let v3503 : Index := Scalar.indexCast v3502
  ![3, v3503.toNat]
def k0_off307 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1456 : BitVec 32 := 0#32
  ![v3416.toNat, 384, 0]
def k0_off308 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 384, 128]
def k0_off309 (i : grid0.Coords) (c0_i32_1469 : BitVec 32) : Fin 2 → Nat :=
  let c4_1470 : Index := 4#32
  let arg0 : BitVec 32 := BitVec.ofNat 32 (i 0).val
  let c21_i32 : BitVec 32 := 21#32
  let v38 : BitVec 32 := Scalar.minsi arg0 c21_i32
  let c2_i32_1468 : BitVec 32 := 2#32
  let v3529 : BitVec 32 := Scalar.muli v38 c2_i32_1468
  let v3530 : BitVec 32 := Scalar.addi v3529 c0_i32_1469
  let v3531 : Index := Scalar.indexCast v3530
  ![4, v3531.toNat]
def k0_off310 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1474 : BitVec 32 := 0#32
  ![v3416.toNat, 512, 0]
def k0_off311 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 512, 128]
def k0_off312 (i : grid0.Coords) (c0_i32_1487 : BitVec 32) : Fin 2 → Nat :=
  let c5_1488 : Index := 5#32
  let arg0 : BitVec 32 := BitVec.ofNat 32 (i 0).val
  let c21_i32 : BitVec 32 := 21#32
  let v38 : BitVec 32 := Scalar.minsi arg0 c21_i32
  let c2_i32_1486 : BitVec 32 := 2#32
  let v3557 : BitVec 32 := Scalar.muli v38 c2_i32_1486
  let v3558 : BitVec 32 := Scalar.addi v3557 c0_i32_1487
  let v3559 : Index := Scalar.indexCast v3558
  ![5, v3559.toNat]
def k0_off313 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1492 : BitVec 32 := 0#32
  ![v3416.toNat, 640, 0]
def k0_off314 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 640, 128]
def k0_off315 (i : grid0.Coords) (c0_i32_1505 : BitVec 32) : Fin 2 → Nat :=
  let c6_1506 : Index := 6#32
  let arg0 : BitVec 32 := BitVec.ofNat 32 (i 0).val
  let c21_i32 : BitVec 32 := 21#32
  let v38 : BitVec 32 := Scalar.minsi arg0 c21_i32
  let c2_i32_1504 : BitVec 32 := 2#32
  let v3585 : BitVec 32 := Scalar.muli v38 c2_i32_1504
  let v3586 : BitVec 32 := Scalar.addi v3585 c0_i32_1505
  let v3587 : Index := Scalar.indexCast v3586
  ![6, v3587.toNat]
def k0_off316 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1510 : BitVec 32 := 0#32
  ![v3416.toNat, 768, 0]
def k0_off317 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 768, 128]
def k0_off318 (i : grid0.Coords) (c0_i32_1523 : BitVec 32) : Fin 2 → Nat :=
  let c7_1524 : Index := 7#32
  let arg0 : BitVec 32 := BitVec.ofNat 32 (i 0).val
  let c21_i32 : BitVec 32 := 21#32
  let v38 : BitVec 32 := Scalar.minsi arg0 c21_i32
  let c2_i32_1522 : BitVec 32 := 2#32
  let v3613 : BitVec 32 := Scalar.muli v38 c2_i32_1522
  let v3614 : BitVec 32 := Scalar.addi v3613 c0_i32_1523
  let v3615 : Index := Scalar.indexCast v3614
  ![7, v3615.toNat]
def k0_off319 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1528 : BitVec 32 := 0#32
  ![v3416.toNat, 896, 0]
def k0_off320 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 896, 128]
def k0_off321 (i : grid0.Coords) (c0_i32_1541 : BitVec 32) : Fin 2 → Nat :=
  let c8_1542 : Index := 8#32
  let arg0 : BitVec 32 := BitVec.ofNat 32 (i 0).val
  let c21_i32 : BitVec 32 := 21#32
  let v38 : BitVec 32 := Scalar.minsi arg0 c21_i32
  let c2_i32_1540 : BitVec 32 := 2#32
  let v3641 : BitVec 32 := Scalar.muli v38 c2_i32_1540
  let v3642 : BitVec 32 := Scalar.addi v3641 c0_i32_1541
  let v3643 : Index := Scalar.indexCast v3642
  ![8, v3643.toNat]
def k0_off322 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1546 : BitVec 32 := 0#32
  ![v3416.toNat, 1024, 0]
def k0_off323 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1024, 128]
def k0_off324 (i : grid0.Coords) (c0_i32_1559 : BitVec 32) : Fin 2 → Nat :=
  let c9_1560 : Index := 9#32
  let arg0 : BitVec 32 := BitVec.ofNat 32 (i 0).val
  let c21_i32 : BitVec 32 := 21#32
  let v38 : BitVec 32 := Scalar.minsi arg0 c21_i32
  let c2_i32_1558 : BitVec 32 := 2#32
  let v3669 : BitVec 32 := Scalar.muli v38 c2_i32_1558
  let v3670 : BitVec 32 := Scalar.addi v3669 c0_i32_1559
  let v3671 : Index := Scalar.indexCast v3670
  ![9, v3671.toNat]
def k0_off325 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1564 : BitVec 32 := 0#32
  ![v3416.toNat, 1152, 0]
def k0_off326 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1152, 128]
def k0_off327 (i : grid0.Coords) (c0_i32_1577 : BitVec 32) : Fin 2 → Nat :=
  let c10_1578 : Index := 10#32
  let arg0 : BitVec 32 := BitVec.ofNat 32 (i 0).val
  let c21_i32 : BitVec 32 := 21#32
  let v38 : BitVec 32 := Scalar.minsi arg0 c21_i32
  let c2_i32_1576 : BitVec 32 := 2#32
  let v3697 : BitVec 32 := Scalar.muli v38 c2_i32_1576
  let v3698 : BitVec 32 := Scalar.addi v3697 c0_i32_1577
  let v3699 : Index := Scalar.indexCast v3698
  ![10, v3699.toNat]
def k0_off328 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1582 : BitVec 32 := 0#32
  ![v3416.toNat, 1280, 0]
def k0_off329 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1280, 128]
def k0_off330 (i : grid0.Coords) (c0_i32_1595 : BitVec 32) : Fin 2 → Nat :=
  let c11_1596 : Index := 11#32
  let arg0 : BitVec 32 := BitVec.ofNat 32 (i 0).val
  let c21_i32 : BitVec 32 := 21#32
  let v38 : BitVec 32 := Scalar.minsi arg0 c21_i32
  let c2_i32_1594 : BitVec 32 := 2#32
  let v3725 : BitVec 32 := Scalar.muli v38 c2_i32_1594
  let v3726 : BitVec 32 := Scalar.addi v3725 c0_i32_1595
  let v3727 : Index := Scalar.indexCast v3726
  ![11, v3727.toNat]
def k0_off331 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1600 : BitVec 32 := 0#32
  ![v3416.toNat, 1408, 0]
def k0_off332 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1408, 128]
def k0_off333 (i : grid0.Coords) (c0_i32_1613 : BitVec 32) : Fin 2 → Nat :=
  let c12_1614 : Index := 12#32
  let arg0 : BitVec 32 := BitVec.ofNat 32 (i 0).val
  let c21_i32 : BitVec 32 := 21#32
  let v38 : BitVec 32 := Scalar.minsi arg0 c21_i32
  let c2_i32_1612 : BitVec 32 := 2#32
  let v3753 : BitVec 32 := Scalar.muli v38 c2_i32_1612
  let v3754 : BitVec 32 := Scalar.addi v3753 c0_i32_1613
  let v3755 : Index := Scalar.indexCast v3754
  ![12, v3755.toNat]
def k0_off334 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1618 : BitVec 32 := 0#32
  ![v3416.toNat, 1536, 0]
def k0_off335 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1536, 128]
def k0_off336 (i : grid0.Coords) (c0_i32_1631 : BitVec 32) : Fin 2 → Nat :=
  let c13_1632 : Index := 13#32
  let arg0 : BitVec 32 := BitVec.ofNat 32 (i 0).val
  let c21_i32 : BitVec 32 := 21#32
  let v38 : BitVec 32 := Scalar.minsi arg0 c21_i32
  let c2_i32_1630 : BitVec 32 := 2#32
  let v3781 : BitVec 32 := Scalar.muli v38 c2_i32_1630
  let v3782 : BitVec 32 := Scalar.addi v3781 c0_i32_1631
  let v3783 : Index := Scalar.indexCast v3782
  ![13, v3783.toNat]
def k0_off337 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1636 : BitVec 32 := 0#32
  ![v3416.toNat, 1664, 0]
def k0_off338 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1664, 128]
def k0_off339 (i : grid0.Coords) (c0_i32_1649 : BitVec 32) : Fin 2 → Nat :=
  let c14 : Index := 14#32
  let arg0 : BitVec 32 := BitVec.ofNat 32 (i 0).val
  let c21_i32 : BitVec 32 := 21#32
  let v38 : BitVec 32 := Scalar.minsi arg0 c21_i32
  let c2_i32_1648 : BitVec 32 := 2#32
  let v3809 : BitVec 32 := Scalar.muli v38 c2_i32_1648
  let v3810 : BitVec 32 := Scalar.addi v3809 c0_i32_1649
  let v3811 : Index := Scalar.indexCast v3810
  ![14, v3811.toNat]
def k0_off340 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1652 : BitVec 32 := 0#32
  ![v3416.toNat, 1792, 0]
def k0_off341 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1792, 128]
def k0_off342 (i : grid0.Coords) (c0_i32_1665 : BitVec 32) : Fin 2 → Nat :=
  let c15 : Index := 15#32
  let arg0 : BitVec 32 := BitVec.ofNat 32 (i 0).val
  let c21_i32 : BitVec 32 := 21#32
  let v38 : BitVec 32 := Scalar.minsi arg0 c21_i32
  let c2_i32_1664 : BitVec 32 := 2#32
  let v3837 : BitVec 32 := Scalar.muli v38 c2_i32_1664
  let v3838 : BitVec 32 := Scalar.addi v3837 c0_i32_1665
  let v3839 : Index := Scalar.indexCast v3838
  ![15, v3839.toNat]
def k0_off343 (i : grid0.Coords) : Fin 3 → Nat :=
  let arg0 : BitVec 32 := BitVec.ofNat 32 (i 0).val
  let c2_i32_1395 : BitVec 32 := 2#32
  let v3416 : BitVec 32 := Scalar.remsi arg0 c2_i32_1395
  let c0_i32_1668 : BitVec 32 := 0#32
  ![v3416.toNat, 1920, 0]
def k0_off344 (i : grid0.Coords) : Fin 3 → Nat :=
  let arg0 : BitVec 32 := BitVec.ofNat 32 (i 0).val
  let c2_i32_1395 : BitVec 32 := 2#32
  let v3416 : BitVec 32 := Scalar.remsi arg0 c2_i32_1395
  ![v3416.toNat, 1920, 128]
def k0_cond4 (i : grid0.Coords) : BitVec 1 :=
  let arg0 : BitVec 32 := BitVec.ofNat 32 (i 0).val
  let c22_i32_4 : BitVec 32 := 22#32
  let v13 : BitVec 1 := Scalar.cmpi .sgt arg0 c22_i32_4
  let v14 : BitVec 32 := Scalar.extui v13
  let c0_i32_5 : BitVec 32 := 0#32
  let v15 : BitVec 1 := Scalar.cmpi .ne v14 c0_i32_5
  v15

def k0_off345 (i : grid0.Coords) : Fin 3 → Nat :=
  let arg0 : BitVec 32 := BitVec.ofNat 32 (i 0).val
  let c8_i32_6 : BitVec 32 := 8#32
  let v16 : BitVec 32 := Scalar.subi arg0 c8_i32_6
  let c9_i32 : BitVec 32 := 9#32
  let v17 : BitVec 32 := Scalar.remsi v16 c9_i32
  let v19 : Index := Scalar.indexCast v17
  let c0_8 : Index := 0#32
  let c0_9 : Index := 0#32
  ![v19.toNat, 0, 0]
def k0_off346 (i : grid0.Coords) (c0_i32_17 : BitVec 32) : Fin 2 → Nat :=
  let arg0 : BitVec 32 := BitVec.ofNat 32 (i 0).val
  let c22_i32_12 : BitVec 32 := 22#32
  let v24 : BitVec 32 := Scalar.subi arg0 c22_i32_12
  let c1_i32_13 : BitVec 32 := 1#32
  let v25 : BitVec 32 := Scalar.subi v24 c1_i32_13
  let c256_i32 : BitVec 32 := 256#32
  let v29 : BitVec 32 := Scalar.muli v25 c256_i32
  let v30 : BitVec 32 := Scalar.addi v29 c0_i32_17
  let v31 : Index := Scalar.indexCast v30
  let c0_18 : Index := 0#32
  ![v31.toNat, 0]
def k0_off347 (i : grid0.Coords) (c0_i32_17 : BitVec 32) : Fin 2 → Nat :=
  let arg0 : BitVec 32 := BitVec.ofNat 32 (i 0).val
  let c22_i32_12 : BitVec 32 := 22#32
  let v24 : BitVec 32 := Scalar.subi arg0 c22_i32_12
  let c1_i32_13 : BitVec 32 := 1#32
  let v25 : BitVec 32 := Scalar.subi v24 c1_i32_13
  let c256_i32 : BitVec 32 := 256#32
  let v29 : BitVec 32 := Scalar.muli v25 c256_i32
  let v30 : BitVec 32 := Scalar.addi v29 c0_i32_17
  let v33 : Index := Scalar.indexCast v30
  let c0_19 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c22_i32 : BitVec 32 := 22#32
  let v0 : BitVec 1 := Scalar.cmpi .sle arg0 c22_i32
  let c1_i32 : BitVec 32 := 1#32
  let v1 : BitVec 32 := Scalar.subi arg0 c1_i32
  let c0_i32 : BitVec 32 := 0#32
  let c6_i32 : BitVec 32 := 6#32
  let v2 : BitVec 32 := Scalar.maxsi c0_i32 v1
  let v3 : BitVec 32 := Scalar.minsi c6_i32 v2
  let c22_i32_0 : BitVec 32 := 22#32
  let v4 : BitVec 32 := Scalar.subi arg0 c22_i32_0
  let c1_i32_1 : BitVec 32 := 1#32
  let v5 : BitVec 32 := Scalar.subi v4 c1_i32_1
  let v6 : BitVec 32 := Scalar.select v0 v3 v5
  let c0_i32_2 : BitVec 32 := 0#32
  let c0_i32_3 : BitVec 32 := 0#32
  ![v6.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

abbrev stage0_0 : Fin 1 → Memref sig .tc .smem S16x44 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S14x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1792x256 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1792x44 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1792x256 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S14x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S1x1792x2048 : Shape := ⟨3, ![1, 1792, 2048]⟩
abbrev S2048 : Shape := ⟨1, ![2048]⟩
abbrev S2048x5632 : Shape := ⟨2, ![2048, 5632]⟩
abbrev S16x44 : Shape := ⟨2, ![16, 44]⟩
abbrev S1x1792x5632 : Shape := ⟨3, ![1, 1792, 5632]⟩
abbrev S1792x2048 : Shape := ⟨2, ![1792, 2048]⟩
abbrev S1x2048 : Shape := ⟨2, ![1, 2048]⟩
abbrev S1792x5632 : Shape := ⟨2, ![1792, 5632]⟩
abbrev S14x2048 : Shape := ⟨2, ![14, 2048]⟩
abbrev S1792x44 : Shape := ⟨2, ![1792, 44]⟩
abbrev S14x5632 : Shape := ⟨2, ![14, 5632]⟩
abbrev S1792 : Shape := ⟨1, ![1792]⟩
abbrev S1792x1 : Shape := ⟨2, ![1792, 1]⟩
abbrev S14x128x2048 : Shape := ⟨3, ![14, 128, 2048]⟩
abbrev S253x1x1 : Shape := ⟨3, ![253, 1, 1]⟩
abbrev S1x14x2048 : Shape := ⟨3, ![1, 14, 2048]⟩
abbrev S253x14x2048 : Shape := ⟨3, ![253, 14, 2048]⟩
abbrev S14x1x2048 : Shape := ⟨3, ![14, 1, 2048]⟩
abbrev S1792x44x128 : Shape := ⟨3, ![1792, 44, 128]⟩
abbrev S1x1792x44 : Shape := ⟨3, ![1, 1792, 44]⟩
abbrev S253x1792x44 : Shape := ⟨3, ![253, 1792, 44]⟩
abbrev S1792x44x1 : Shape := ⟨3, ![1792, 44, 1]⟩
abbrev S14x128x5632 : Shape := ⟨3, ![14, 128, 5632]⟩
abbrev S1x14x5632 : Shape := ⟨3, ![1, 14, 5632]⟩
abbrev S253x14x5632 : Shape := ⟨3, ![253, 14, 5632]⟩
abbrev S14x1x5632 : Shape := ⟨3, ![14, 1, 5632]⟩
abbrev S16x128x44x128 : Shape := ⟨4, ![16, 128, 44, 128]⟩
abbrev S16x1x44x1 : Shape := ⟨4, ![16, 1, 44, 1]⟩

abbrev nBuf : Space → Nat
  | .hbm => 17
  | .vmem => 14
  | .smem => 0
  | _ => 0

abbrev bufTy : (tb : Table) → Fin (tcTables nBuf tb) → BufTy
  | .hbm, ⟨0, _⟩ => ⟨S1x1792x2048, .bf16⟩
  | .hbm, ⟨1, _⟩ => ⟨S2048, .f32⟩
  | .hbm, ⟨2, _⟩ => ⟨S2048x5632, .fp8e4m3⟩
  | .hbm, ⟨3, _⟩ => ⟨S16x44, .f32⟩
  | .hbm, ⟨4, _⟩ => ⟨S1x1792x5632, .bf16⟩
  | .hbm, ⟨5, _⟩ => ⟨S1792x2048, .bf16⟩
  | .hbm, ⟨6, _⟩ => ⟨S1x2048, .f32⟩
  | .hbm, ⟨7, _⟩ => ⟨S1792x5632, .bf16⟩
  | .hbm, ⟨8, _⟩ => ⟨S1792x2048, .bf16⟩
  | .hbm, ⟨9, _⟩ => ⟨S2048x5632, .f32⟩
  | .hbm, ⟨10, _⟩ => ⟨S1x2048, .f32⟩
  | .hbm, ⟨11, _⟩ => ⟨S1792x2048, .fp8e4m3⟩
  | .hbm, ⟨12, _⟩ => ⟨S14x2048, .f32⟩
  | .hbm, ⟨13, _⟩ => ⟨S1792x5632, .fp8e5m2⟩
  | .hbm, ⟨14, _⟩ => ⟨S1792x44, .f32⟩
  | .hbm, ⟨15, _⟩ => ⟨S1792x5632, .fp8e5m2⟩
  | .hbm, ⟨16, _⟩ => ⟨S14x5632, .f32⟩
  | .local _ .vmem, ⟨0, _⟩ => ⟨S1792x2048, .bf16⟩
  | .local _ .vmem, ⟨1, _⟩ => ⟨S1x2048, .f32⟩
  | .local _ .vmem, ⟨2, _⟩ => ⟨S2048x5632, .fp8e4m3⟩
  | .local _ .vmem, ⟨3, _⟩ => ⟨S16x44, .f32⟩
  | .local _ .vmem, ⟨4, _⟩ => ⟨S1792x5632, .bf16⟩
  | .local _ .vmem, ⟨5, _⟩ => ⟨S1792x2048, .bf16⟩
  | .local _ .vmem, ⟨6, _⟩ => ⟨S2048x5632, .f32⟩
  | .local _ .vmem, ⟨7, _⟩ => ⟨S1x2048, .f32⟩
  | .local _ .vmem, ⟨8, _⟩ => ⟨S1792x2048, .fp8e4m3⟩
  | .local _ .vmem, ⟨9, _⟩ => ⟨S14x2048, .f32⟩
  | .local _ .vmem, ⟨10, _⟩ => ⟨S1792x5632, .fp8e5m2⟩
  | .local _ .vmem, ⟨11, _⟩ => ⟨S1792x44, .f32⟩
  | .local _ .vmem, ⟨12, _⟩ => ⟨S1792x5632, .fp8e5m2⟩
  | .local _ .vmem, ⟨13, _⟩ => ⟨S14x5632, .f32⟩
  | _, _ => ⟨S1x1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1792x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x44 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x5632 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x44 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1792x5632 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S14x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Chains.lean ====
module

public import proofs.«01_k».proof.Proof.Gen.KernelIdeal.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The chains of offsets that the four phases of the body read at a grid point, in closed form where a phase's
own condition is needed for it: rows and columns of the chunk that is prepared (`1 ≤ t < 8`), the ring's slot that
the second product reads (`8 ≤ t`), rows of the chunk that is normalised back (`22 < t`). -/

variable {F : FTy → Type} [FloatOps F]

local notation "𝕄" => MT nD τ sig Unit (Elt F) ℕ (UR sig nD τ) ℕ

/-- The contents of the buffer that `M` views. -/
abbrev Bf (c : Dev nD) {sp : Space} {S : Shape} {e : EltTy} (M : Memref sig .tc sp S e) : Type :=
  Buf (Elt F) (M.view.loc (c : Thread nD τ))

/-- The buffer that `M` views is held in full and holds `f`. -/
abbrev pt (c : Dev nD) {sp : Space} {S : Shape} {e : EltTy} (M : Memref sig .tc sp S e) (f : Bf (F := F) c M) : sProp 𝕄 :=
  M.view.loc (c : Thread nD τ) ↦{fullShare} f

theorem off110_eq : ∀ i : grid0.Coords, k0_cond2 i = 1#1 → ∀ r : Fin 16, k0_off110 i (BitVec.ofNat 32 (16 * r.val)) = ![256 * ((i 0).val - 1) + 16 * r.val, 0] := by decide +kernel
theorem off111_eq : ∀ i : grid0.Coords, k0_cond2 i = 1#1 → ∀ r : Fin 2, k0_off111 i (BitVec.ofNat 32 (128 * r.val)) = ![256 * ((i 0).val - 1) + 128 * r.val, 0] := by decide +kernel
theorem off112_eq : ∀ i : grid0.Coords, k0_cond2 i = 1#1 → ∀ r : Fin 2, k0_off112 i (BitVec.ofNat 32 (128 * r.val)) = ![0, 256 * ((i 0).val - 1) + 128 * r.val] := by decide +kernel
theorem off113_eq : ∀ i : grid0.Coords, k0_cond2 i = 1#1 → ∀ r : Fin 2, k0_off113 i (BitVec.ofNat 32 (128 * r.val)) = ![128, 256 * ((i 0).val - 1) + 128 * r.val] := by decide +kernel
theorem off114_eq : ∀ i : grid0.Coords, k0_cond2 i = 1#1 → ∀ r : Fin 2, k0_off114 i (BitVec.ofNat 32 (128 * r.val)) = ![256, 256 * ((i 0).val - 1) + 128 * r.val] := by decide +kernel
theorem off115_eq : ∀ i : grid0.Coords, k0_cond2 i = 1#1 → ∀ r : Fin 2, k0_off115 i (BitVec.ofNat 32 (128 * r.val)) = ![384, 256 * ((i 0).val - 1) + 128 * r.val] := by decide +kernel
theorem off116_eq : ∀ i : grid0.Coords, k0_cond2 i = 1#1 → ∀ r : Fin 2, k0_off116 i (BitVec.ofNat 32 (128 * r.val)) = ![512, 256 * ((i 0).val - 1) + 128 * r.val] := by decide +kernel
theorem off117_eq : ∀ i : grid0.Coords, k0_cond2 i = 1#1 → ∀ r : Fin 2, k0_off117 i (BitVec.ofNat 32 (128 * r.val)) = ![640, 256 * ((i 0).val - 1) + 128 * r.val] := by decide +kernel
theorem off118_eq : ∀ i : grid0.Coords, k0_cond2 i = 1#1 → ∀ r : Fin 2, k0_off118 i (BitVec.ofNat 32 (128 * r.val)) = ![768, 256 * ((i 0).val - 1) + 128 * r.val] := by decide +kernel
theorem off119_eq : ∀ i : grid0.Coords, k0_cond2 i = 1#1 → ∀ r : Fin 2, k0_off119 i (BitVec.ofNat 32 (128 * r.val)) = ![896, 256 * ((i 0).val - 1) + 128 * r.val] := by decide +kernel
theorem off120_eq : ∀ i : grid0.Coords, k0_cond2 i = 1#1 → ∀ r : Fin 2, k0_off120 i (BitVec.ofNat 32 (128 * r.val)) = ![1024, 256 * ((i 0).val - 1) + 128 * r.val] := by decide +kernel
theorem off121_eq : ∀ i : grid0.Coords, k0_cond2 i = 1#1 → ∀ r : Fin 2, k0_off121 i (BitVec.ofNat 32 (128 * r.val)) = ![1152, 256 * ((i 0).val - 1) + 128 * r.val] := by decide +kernel
theorem off122_eq : ∀ i : grid0.Coords, k0_cond2 i = 1#1 → ∀ r : Fin 2, k0_off122 i (BitVec.ofNat 32 (128 * r.val)) = ![1280, 256 * ((i 0).val - 1) + 128 * r.val] := by decide +kernel
theorem off123_eq : ∀ i : grid0.Coords, k0_cond2 i = 1#1 → ∀ r : Fin 2, k0_off123 i (BitVec.ofNat 32 (128 * r.val)) = ![1408, 256 * ((i 0).val - 1) + 128 * r.val] := by decide +kernel
theorem off124_eq : ∀ i : grid0.Coords, k0_cond2 i = 1#1 → ∀ r : Fin 2, k0_off124 i (BitVec.ofNat 32 (128 * r.val)) = ![1536, 256 * ((i 0).val - 1) + 128 * r.val] := by decide +kernel
theorem off125_eq : ∀ i : grid0.Coords, k0_cond2 i = 1#1 → ∀ r : Fin 2, k0_off125 i (BitVec.ofNat 32 (128 * r.val)) = ![1664, 256 * ((i 0).val - 1) + 128 * r.val] := by decide +kernel
theorem off126_eq : ∀ i : grid0.Coords, k0_cond2 i = 1#1 → ∀ r : Fin 2, k0_off126 i (BitVec.ofNat 32 (128 * r.val)) = ![1792, 256 * ((i 0).val - 1) + 128 * r.val] := by decide +kernel
theorem off127_eq : ∀ i : grid0.Coords, k0_cond2 i = 1#1 → ∀ r : Fin 2, k0_off127 i (BitVec.ofNat 32 (128 * r.val)) = ![1920, 256 * ((i 0).val - 1) + 128 * r.val] := by decide +kernel
theorem off346_eq : ∀ i : grid0.Coords, k0_cond4 i = 1#1 → ∀ r : Fin 16, k0_off346 i (BitVec.ofNat 32 (16 * r.val)) = ![256 * ((i 0).val - 23) + 16 * r.val, 0] := by decide +kernel
theorem off347_eq : ∀ i : grid0.Coords, k0_cond4 i = 1#1 → ∀ r : Fin 16, k0_off347 i (BitVec.ofNat 32 (16 * r.val)) = ![256 * ((i 0).val - 23) + 16 * r.val, 0] := by decide +kernel
theorem off237_eq : ∀ i : grid0.Coords, k0_cond3 i = 1#1 → k0_off237 i = ![((i 0).val - 8) % 9, 0, 0] := by decide +kernel
theorem off345_eq : ∀ i : grid0.Coords, k0_cond4 i = 1#1 → k0_off345 i = ![((i 0).val - 8) % 9, 0, 0] := by decide +kernel

variable {i : grid0.Coords}

instance [h : Fact (k0_cond2 i = 1#1)] : ClosedOff (k0_off110 i 0#32) := ⟨![256 * ((i 0).val - 1) + 0, 0], off110_eq i h.out ⟨0, by decide⟩⟩
instance [h : Fact (k0_cond2 i = 1#1)] : ClosedOff (k0_off110 i 16#32) := ⟨![256 * ((i 0).val - 1) + 16, 0], off110_eq i h.out ⟨1, by decide⟩⟩
instance [h : Fact (k0_cond2 i = 1#1)] : ClosedOff (k0_off110 i 32#32) := ⟨![256 * ((i 0).val - 1) + 32, 0], off110_eq i h.out ⟨2, by decide⟩⟩
instance [h : Fact (k0_cond2 i = 1#1)] : ClosedOff (k0_off110 i 48#32) := ⟨![256 * ((i 0).val - 1) + 48, 0], off110_eq i h.out ⟨3, by decide⟩⟩
instance [h : Fact (k0_cond2 i = 1#1)] : ClosedOff (k0_off110 i 64#32) := ⟨![256 * ((i 0).val - 1) + 64, 0], off110_eq i h.out ⟨4, by decide⟩⟩
instance [h : Fact (k0_cond2 i = 1#1)] : ClosedOff (k0_off110 i 80#32) := ⟨![256 * ((i 0).val - 1) + 80, 0], off110_eq i h.out ⟨5, by decide⟩⟩
instance [h : Fact (k0_cond2 i = 1#1)] : ClosedOff (k0_off110 i 96#32) := ⟨![256 * ((i 0).val - 1) + 96, 0], off110_eq i h.out ⟨6, by decide⟩⟩
instance [h : Fact (k0_cond2 i = 1#1)] : ClosedOff (k0_off110 i 112#32) := ⟨![256 * ((i 0).val - 1) + 112, 0], off110_eq i h.out ⟨7, by decide⟩⟩
instance [h : Fact (k0_cond2 i = 1#1)] : ClosedOff (k0_off110 i 128#32) := ⟨![256 * ((i 0).val - 1) + 128, 0], off110_eq i h.out ⟨8, by decide⟩⟩
instance [h : Fact (k0_cond2 i = 1#1)] : ClosedOff (k0_off110 i 144#32) := ⟨![256 * ((i 0).val - 1) + 144, 0], off110_eq i h.out ⟨9, by decide⟩⟩
instance [h : Fact (k0_cond2 i = 1#1)] : ClosedOff (k0_off110 i 160#32) := ⟨![256 * ((i 0).val - 1) + 160, 0], off110_eq i h.out ⟨10, by decide⟩⟩
instance [h : Fact (k0_cond2 i = 1#1)] : ClosedOff (k0_off110 i 176#32) := ⟨![256 * ((i 0).val - 1) + 176, 0], off110_eq i h.out ⟨11, by decide⟩⟩
instance [h : Fact (k0_cond2 i = 1#1)] : ClosedOff (k0_off110 i 192#32) := ⟨![256 * ((i 0).val - 1) + 192, 0], off110_eq i h.out ⟨12, by decide⟩⟩
instance [h : Fact (k0_cond2 i = 1#1)] : ClosedOff (k0_off110 i 208#32) := ⟨![256 * ((i 0).val - 1) + 208, 0], off110_eq i h.out ⟨13, by decide⟩⟩
instance [h : Fact (k0_cond2 i = 1#1)] : ClosedOff (k0_off110 i 224#32) := ⟨![256 * ((i 0).val - 1) + 224, 0], off110_eq i h.out ⟨14, by decide⟩⟩
instance [h : Fact (k0_cond2 i = 1#1)] : ClosedOff (k0_off110 i 240#32) := ⟨![256 * ((i 0).val - 1) + 240, 0], off110_eq i h.out ⟨15, by decide⟩⟩
instance [h : Fact (k0_cond2 i = 1#1)] : ClosedOff (k0_off111 i 0#32) := ⟨![256 * ((i 0).val - 1) + 0, 0], off111_eq i h.out ⟨0, by decide⟩⟩
instance [h : Fact (k0_cond2 i = 1#1)] : ClosedOff (k0_off111 i 128#32) := ⟨![256 * ((i 0).val - 1) + 128, 0], off111_eq i h.out ⟨1, by decide⟩⟩
instance [h : Fact (k0_cond2 i = 1#1)] : ClosedOff (k0_off112 i 0#32) := ⟨![0, 256 * ((i 0).val - 1) + 0], off112_eq i h.out ⟨0, by decide⟩⟩
instance [h : Fact (k0_cond2 i = 1#1)] : ClosedOff (k0_off112 i 128#32) := ⟨![0, 256 * ((i 0).val - 1) + 128], off112_eq i h.out ⟨1, by decide⟩⟩
instance [h : Fact (k0_cond2 i = 1#1)] : ClosedOff (k0_off113 i 0#32) := ⟨![128, 256 * ((i 0).val - 1) + 0], off113_eq i h.out ⟨0, by decide⟩⟩
instance [h : Fact (k0_cond2 i = 1#1)] : ClosedOff (k0_off113 i 128#32) := ⟨![128, 256 * ((i 0).val - 1) + 128], off113_eq i h.out ⟨1, by decide⟩⟩
instance [h : Fact (k0_cond2 i = 1#1)] : ClosedOff (k0_off114 i 0#32) := ⟨![256, 256 * ((i 0).val - 1) + 0], off114_eq i h.out ⟨0, by decide⟩⟩
instance [h : Fact (k0_cond2 i = 1#1)] : ClosedOff (k0_off114 i 128#32) := ⟨![256, 256 * ((i 0).val - 1) + 128], off114_eq i h.out ⟨1, by decide⟩⟩
instance [h : Fact (k0_cond2 i = 1#1)] : ClosedOff (k0_off115 i 0#32) := ⟨![384, 256 * ((i 0).val - 1) + 0], off115_eq i h.out ⟨0, by decide⟩⟩
instance [h : Fact (k0_cond2 i = 1#1)] : ClosedOff (k0_off115 i 128#32) := ⟨![384, 256 * ((i 0).val - 1) + 128], off115_eq i h.out ⟨1, by decide⟩⟩
instance [h : Fact (k0_cond2 i = 1#1)] : ClosedOff (k0_off116 i 0#32) := ⟨![512, 256 * ((i 0).val - 1) + 0], off116_eq i h.out ⟨0, by decide⟩⟩
instance [h : Fact (k0_cond2 i = 1#1)] : ClosedOff (k0_off116 i 128#32) := ⟨![512, 256 * ((i 0).val - 1) + 128], off116_eq i h.out ⟨1, by decide⟩⟩
instance [h : Fact (k0_cond2 i = 1#1)] : ClosedOff (k0_off117 i 0#32) := ⟨![640, 256 * ((i 0).val - 1) + 0], off117_eq i h.out ⟨0, by decide⟩⟩
instance [h : Fact (k0_cond2 i = 1#1)] : ClosedOff (k0_off117 i 128#32) := ⟨![640, 256 * ((i 0).val - 1) + 128], off117_eq i h.out ⟨1, by decide⟩⟩
instance [h : Fact (k0_cond2 i = 1#1)] : ClosedOff (k0_off118 i 0#32) := ⟨![768, 256 * ((i 0).val - 1) + 0], off118_eq i h.out ⟨0, by decide⟩⟩
instance [h : Fact (k0_cond2 i = 1#1)] : ClosedOff (k0_off118 i 128#32) := ⟨![768, 256 * ((i 0).val - 1) + 128], off118_eq i h.out ⟨1, by decide⟩⟩
instance [h : Fact (k0_cond2 i = 1#1)] : ClosedOff (k0_off119 i 0#32) := ⟨![896, 256 * ((i 0).val - 1) + 0], off119_eq i h.out ⟨0, by decide⟩⟩
instance [h : Fact (k0_cond2 i = 1#1)] : ClosedOff (k0_off119 i 128#32) := ⟨![896, 256 * ((i 0).val - 1) + 128], off119_eq i h.out ⟨1, by decide⟩⟩
instance [h : Fact (k0_cond2 i = 1#1)] : ClosedOff (k0_off120 i 0#32) := ⟨![1024, 256 * ((i 0).val - 1) + 0], off120_eq i h.out ⟨0, by decide⟩⟩
instance [h : Fact (k0_cond2 i = 1#1)] : ClosedOff (k0_off120 i 128#32) := ⟨![1024, 256 * ((i 0).val - 1) + 128], off120_eq i h.out ⟨1, by decide⟩⟩
instance [h : Fact (k0_cond2 i = 1#1)] : ClosedOff (k0_off121 i 0#32) := ⟨![1152, 256 * ((i 0).val - 1) + 0], off121_eq i h.out ⟨0, by decide⟩⟩
instance [h : Fact (k0_cond2 i = 1#1)] : ClosedOff (k0_off121 i 128#32) := ⟨![1152, 256 * ((i 0).val - 1) + 128], off121_eq i h.out ⟨1, by decide⟩⟩
instance [h : Fact (k0_cond2 i = 1#1)] : ClosedOff (k0_off122 i 0#32) := ⟨![1280, 256 * ((i 0).val - 1) + 0], off122_eq i h.out ⟨0, by decide⟩⟩
instance [h : Fact (k0_cond2 i = 1#1)] : ClosedOff (k0_off122 i 128#32) := ⟨![1280, 256 * ((i 0).val - 1) + 128], off122_eq i h.out ⟨1, by decide⟩⟩
instance [h : Fact (k0_cond2 i = 1#1)] : ClosedOff (k0_off123 i 0#32) := ⟨![1408, 256 * ((i 0).val - 1) + 0], off123_eq i h.out ⟨0, by decide⟩⟩
instance [h : Fact (k0_cond2 i = 1#1)] : ClosedOff (k0_off123 i 128#32) := ⟨![1408, 256 * ((i 0).val - 1) + 128], off123_eq i h.out ⟨1, by decide⟩⟩
instance [h : Fact (k0_cond2 i = 1#1)] : ClosedOff (k0_off124 i 0#32) := ⟨![1536, 256 * ((i 0).val - 1) + 0], off124_eq i h.out ⟨0, by decide⟩⟩
instance [h : Fact (k0_cond2 i = 1#1)] : ClosedOff (k0_off124 i 128#32) := ⟨![1536, 256 * ((i 0).val - 1) + 128], off124_eq i h.out ⟨1, by decide⟩⟩
instance [h : Fact (k0_cond2 i = 1#1)] : ClosedOff (k0_off125 i 0#32) := ⟨![1664, 256 * ((i 0).val - 1) + 0], off125_eq i h.out ⟨0, by decide⟩⟩
instance [h : Fact (k0_cond2 i = 1#1)] : ClosedOff (k0_off125 i 128#32) := ⟨![1664, 256 * ((i 0).val - 1) + 128], off125_eq i h.out ⟨1, by decide⟩⟩
instance [h : Fact (k0_cond2 i = 1#1)] : ClosedOff (k0_off126 i 0#32) := ⟨![1792, 256 * ((i 0).val - 1) + 0], off126_eq i h.out ⟨0, by decide⟩⟩
instance [h : Fact (k0_cond2 i = 1#1)] : ClosedOff (k0_off126 i 128#32) := ⟨![1792, 256 * ((i 0).val - 1) + 128], off126_eq i h.out ⟨1, by decide⟩⟩
instance [h : Fact (k0_cond2 i = 1#1)] : ClosedOff (k0_off127 i 0#32) := ⟨![1920, 256 * ((i 0).val - 1) + 0], off127_eq i h.out ⟨0, by decide⟩⟩
instance [h : Fact (k0_cond2 i = 1#1)] : ClosedOff (k0_off127 i 128#32) := ⟨![1920, 256 * ((i 0).val - 1) + 128], off127_eq i h.out ⟨1, by decide⟩⟩
instance [h : Fact (k0_cond4 i = 1#1)] : ClosedOff (k0_off346 i 0#32) := ⟨![256 * ((i 0).val - 23) + 0, 0], off346_eq i h.out ⟨0, by decide⟩⟩
instance [h : Fact (k0_cond4 i = 1#1)] : ClosedOff (k0_off346 i 16#32) := ⟨![256 * ((i 0).val - 23) + 16, 0], off346_eq i h.out ⟨1, by decide⟩⟩
instance [h : Fact (k0_cond4 i = 1#1)] : ClosedOff (k0_off346 i 32#32) := ⟨![256 * ((i 0).val - 23) + 32, 0], off346_eq i h.out ⟨2, by decide⟩⟩
instance [h : Fact (k0_cond4 i = 1#1)] : ClosedOff (k0_off346 i 48#32) := ⟨![256 * ((i 0).val - 23) + 48, 0], off346_eq i h.out ⟨3, by decide⟩⟩
instance [h : Fact (k0_cond4 i = 1#1)] : ClosedOff (k0_off346 i 64#32) := ⟨![256 * ((i 0).val - 23) + 64, 0], off346_eq i h.out ⟨4, by decide⟩⟩
instance [h : Fact (k0_cond4 i = 1#1)] : ClosedOff (k0_off346 i 80#32) := ⟨![256 * ((i 0).val - 23) + 80, 0], off346_eq i h.out ⟨5, by decide⟩⟩
instance [h : Fact (k0_cond4 i = 1#1)] : ClosedOff (k0_off346 i 96#32) := ⟨![256 * ((i 0).val - 23) + 96, 0], off346_eq i h.out ⟨6, by decide⟩⟩
instance [h : Fact (k0_cond4 i = 1#1)] : ClosedOff (k0_off346 i 112#32) := ⟨![256 * ((i 0).val - 23) + 112, 0], off346_eq i h.out ⟨7, by decide⟩⟩
instance [h : Fact (k0_cond4 i = 1#1)] : ClosedOff (k0_off346 i 128#32) := ⟨![256 * ((i 0).val - 23) + 128, 0], off346_eq i h.out ⟨8, by decide⟩⟩
instance [h : Fact (k0_cond4 i = 1#1)] : ClosedOff (k0_off346 i 144#32) := ⟨![256 * ((i 0).val - 23) + 144, 0], off346_eq i h.out ⟨9, by decide⟩⟩
instance [h : Fact (k0_cond4 i = 1#1)] : ClosedOff (k0_off346 i 160#32) := ⟨![256 * ((i 0).val - 23) + 160, 0], off346_eq i h.out ⟨10, by decide⟩⟩
instance [h : Fact (k0_cond4 i = 1#1)] : ClosedOff (k0_off346 i 176#32) := ⟨![256 * ((i 0).val - 23) + 176, 0], off346_eq i h.out ⟨11, by decide⟩⟩
instance [h : Fact (k0_cond4 i = 1#1)] : ClosedOff (k0_off346 i 192#32) := ⟨![256 * ((i 0).val - 23) + 192, 0], off346_eq i h.out ⟨12, by decide⟩⟩
instance [h : Fact (k0_cond4 i = 1#1)] : ClosedOff (k0_off346 i 208#32) := ⟨![256 * ((i 0).val - 23) + 208, 0], off346_eq i h.out ⟨13, by decide⟩⟩
instance [h : Fact (k0_cond4 i = 1#1)] : ClosedOff (k0_off346 i 224#32) := ⟨![256 * ((i 0).val - 23) + 224, 0], off346_eq i h.out ⟨14, by decide⟩⟩
instance [h : Fact (k0_cond4 i = 1#1)] : ClosedOff (k0_off346 i 240#32) := ⟨![256 * ((i 0).val - 23) + 240, 0], off346_eq i h.out ⟨15, by decide⟩⟩
instance [h : Fact (k0_cond4 i = 1#1)] : ClosedOff (k0_off347 i 0#32) := ⟨![256 * ((i 0).val - 23) + 0, 0], off347_eq i h.out ⟨0, by decide⟩⟩
instance [h : Fact (k0_cond4 i = 1#1)] : ClosedOff (k0_off347 i 16#32) := ⟨![256 * ((i 0).val - 23) + 16, 0], off347_eq i h.out ⟨1, by decide⟩⟩
instance [h : Fact (k0_cond4 i = 1#1)] : ClosedOff (k0_off347 i 32#32) := ⟨![256 * ((i 0).val - 23) + 32, 0], off347_eq i h.out ⟨2, by decide⟩⟩
instance [h : Fact (k0_cond4 i = 1#1)] : ClosedOff (k0_off347 i 48#32) := ⟨![256 * ((i 0).val - 23) + 48, 0], off347_eq i h.out ⟨3, by decide⟩⟩
instance [h : Fact (k0_cond4 i = 1#1)] : ClosedOff (k0_off347 i 64#32) := ⟨![256 * ((i 0).val - 23) + 64, 0], off347_eq i h.out ⟨4, by decide⟩⟩
instance [h : Fact (k0_cond4 i = 1#1)] : ClosedOff (k0_off347 i 80#32) := ⟨![256 * ((i 0).val - 23) + 80, 0], off347_eq i h.out ⟨5, by decide⟩⟩
instance [h : Fact (k0_cond4 i = 1#1)] : ClosedOff (k0_off347 i 96#32) := ⟨![256 * ((i 0).val - 23) + 96, 0], off347_eq i h.out ⟨6, by decide⟩⟩
instance [h : Fact (k0_cond4 i = 1#1)] : ClosedOff (k0_off347 i 112#32) := ⟨![256 * ((i 0).val - 23) + 112, 0], off347_eq i h.out ⟨7, by decide⟩⟩
instance [h : Fact (k0_cond4 i = 1#1)] : ClosedOff (k0_off347 i 128#32) := ⟨![256 * ((i 0).val - 23) + 128, 0], off347_eq i h.out ⟨8, by decide⟩⟩
instance [h : Fact (k0_cond4 i = 1#1)] : ClosedOff (k0_off347 i 144#32) := ⟨![256 * ((i 0).val - 23) + 144, 0], off347_eq i h.out ⟨9, by decide⟩⟩
instance [h : Fact (k0_cond4 i = 1#1)] : ClosedOff (k0_off347 i 160#32) := ⟨![256 * ((i 0).val - 23) + 160, 0], off347_eq i h.out ⟨10, by decide⟩⟩
instance [h : Fact (k0_cond4 i = 1#1)] : ClosedOff (k0_off347 i 176#32) := ⟨![256 * ((i 0).val - 23) + 176, 0], off347_eq i h.out ⟨11, by decide⟩⟩
instance [h : Fact (k0_cond4 i = 1#1)] : ClosedOff (k0_off347 i 192#32) := ⟨![256 * ((i 0).val - 23) + 192, 0], off347_eq i h.out ⟨12, by decide⟩⟩
instance [h : Fact (k0_cond4 i = 1#1)] : ClosedOff (k0_off347 i 208#32) := ⟨![256 * ((i 0).val - 23) + 208, 0], off347_eq i h.out ⟨13, by decide⟩⟩
instance [h : Fact (k0_cond4 i = 1#1)] : ClosedOff (k0_off347 i 224#32) := ⟨![256 * ((i 0).val - 23) + 224, 0], off347_eq i h.out ⟨14, by decide⟩⟩
instance [h : Fact (k0_cond4 i = 1#1)] : ClosedOff (k0_off347 i 240#32) := ⟨![256 * ((i 0).val - 23) + 240, 0], off347_eq i h.out ⟨15, by decide⟩⟩
instance [h : Fact (k0_cond3 i = 1#1)] : ClosedOff (k0_off237 i) := ⟨![((i 0).val - 8) % 9, 0, 0], off237_eq i h.out⟩
instance [h : Fact (k0_cond4 i = 1#1)] : ClosedOff (k0_off345 i) := ⟨![((i 0).val - 8) % 9, 0, 0], off345_eq i h.out⟩

end Cert.KernelIdeal.Hand

end
-- ==== Proof.Run1.lean ====
module

public import proofs.«01_k».proof.Proof.Chains
public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at the first point (`t = 0`), run once: what it leaves in every buffer that it writes, and that it does. -/
def run1 (c : Dev nD) (i : grid0.Coords) (h1 : k0_cond1 i = 1#1) (h2 : ¬ k0_cond2 i = 1#1) (h3 : ¬ k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    { W : Bf (F := F) c arg8 × Bf (F := F) c arg11 × Bf (F := F) c arg12 × Bf (F := F) c arg13 × Bf (F := F) c arg14 × Bf (F := F) c arg16 × Bf (F := F) c arg17 × Bf (F := F) c arg18 × Bf (F := F) c arg19 //
      ∀ Q : PUnit → sProp 𝕄,
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
        ∗ (iprop(pt c arg1 (f1) ∗ pt c arg2 (f2) ∗ pt c arg3 (f3) ∗ pt c arg4 (f4) ∗ pt c arg5 (f5) ∗ pt c arg6 (f6) ∗ pt c arg7 (f7) ∗ pt c arg8 (W.1) ∗ pt c arg9 (f9) ∗ pt c arg10 (f10) ∗ pt c arg11 (W.2.1) ∗ pt c arg12 (W.2.2.1) ∗ pt c arg13 (W.2.2.2.1) ∗ pt c arg14 (W.2.2.2.2.1) ∗ pt c arg15 (f15) ∗ pt c arg16 (W.2.2.2.2.2.1) ∗ pt c arg17 (W.2.2.2.2.2.2.1) ∗ pt c arg18 (W.2.2.2.2.2.2.2.1) ∗ pt c arg19 (W.2.2.2.2.2.2.2.2) ∗ pt c arg20 (f20)) -∗ Q ⟨⟩))
      ⊢ wp frame (wpE (defs₀ (F := F)) Variants.none c none) Set.univ (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  haveI : Fact (k0_cond1 i = 1#1) := ⟨h1⟩
  refine ⟨(?w8, ?w11, ?w12, ?w13, ?w14, ?w16, ?w17, ?w18, ?w19), fun Q => ?main⟩
  case main =>
    simp only [cc0_rmsnorm_linear_bwd_eq_skeleton]; unfold cc0_rmsnorm_linear_bwd_skel
    iintro ⟨H1, H2, H3, H4, H5, H6, H7, H8, H9, H10, H11, H12, H13, H14, H15, H16, H17, H18, H19, H20, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Hand

end
-- ==== Proof.Run2.lean ====
module

public import proofs.«01_k».proof.Proof.Chains
public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point with a chunk to prepare (`1 ≤ t < 8`), run once: what it leaves in every buffer that it writes, and that it does. -/
def run2 (c : Dev nD) (i : grid0.Coords) (h1 : ¬ k0_cond1 i = 1#1) (h2 : k0_cond2 i = 1#1) (h3 : ¬ k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    { W : Bf (F := F) c arg9 × Bf (F := F) c arg10 × Bf (F := F) c arg11 × Bf (F := F) c arg12 × Bf (F := F) c arg13 × Bf (F := F) c arg14 × Bf (F := F) c arg15 × Bf (F := F) c arg16 × Bf (F := F) c arg17 × Bf (F := F) c arg18 × Bf (F := F) c arg19 × Bf (F := F) c arg20 //
      ∀ Q : PUnit → sProp 𝕄,
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
        ∗ (iprop(pt c arg1 (f1) ∗ pt c arg2 (f2) ∗ pt c arg3 (f3) ∗ pt c arg4 (f4) ∗ pt c arg5 (f5) ∗ pt c arg6 (f6) ∗ pt c arg7 (f7) ∗ pt c arg8 (f8) ∗ pt c arg9 (W.1) ∗ pt c arg10 (W.2.1) ∗ pt c arg11 (W.2.2.1) ∗ pt c arg12 (W.2.2.2.1) ∗ pt c arg13 (W.2.2.2.2.1) ∗ pt c arg14 (W.2.2.2.2.2.1) ∗ pt c arg15 (W.2.2.2.2.2.2.1) ∗ pt c arg16 (W.2.2.2.2.2.2.2.1) ∗ pt c arg17 (W.2.2.2.2.2.2.2.2.1) ∗ pt c arg18 (W.2.2.2.2.2.2.2.2.2.1) ∗ pt c arg19 (W.2.2.2.2.2.2.2.2.2.2.1) ∗ pt c arg20 (W.2.2.2.2.2.2.2.2.2.2.2)) -∗ Q ⟨⟩))
      ⊢ wp frame (wpE (defs₀ (F := F)) Variants.none c none) Set.univ (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  haveI : Fact (k0_cond2 i = 1#1) := ⟨h2⟩
  refine ⟨(?w9, ?w10, ?w11, ?w12, ?w13, ?w14, ?w15, ?w16, ?w17, ?w18, ?w19, ?w20), fun Q => ?main⟩
  case main =>
    simp only [cc0_rmsnorm_linear_bwd_eq_skeleton]; unfold cc0_rmsnorm_linear_bwd_skel
    iintro ⟨H1, H2, H3, H4, H5, H6, H7, H8, H9, H10, H11, H12, H13, H14, H15, H16, H17, H18, H19, H20, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Hand

end
-- ==== Proof.Run3.lean ====
module

public import proofs.«01_k».proof.Proof.Chains
public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point with both products (`8 ≤ t ≤ 22`), run once: what it leaves in every buffer that it writes, and that it does. -/
def run3 (c : Dev nD) (i : grid0.Coords) (h1 : ¬ k0_cond1 i = 1#1) (h2 : ¬ k0_cond2 i = 1#1) (h3 : k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    { W : Bf (F := F) c arg7 × Bf (F := F) c arg11 × Bf (F := F) c arg12 × Bf (F := F) c arg13 × Bf (F := F) c arg14 × Bf (F := F) c arg16 × Bf (F := F) c arg17 × Bf (F := F) c arg18 × Bf (F := F) c arg19 //
      ∀ Q : PUnit → sProp 𝕄,
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
        ∗ (iprop(pt c arg1 (f1) ∗ pt c arg2 (f2) ∗ pt c arg3 (f3) ∗ pt c arg4 (f4) ∗ pt c arg5 (f5) ∗ pt c arg6 (f6) ∗ pt c arg7 (W.1) ∗ pt c arg8 (f8) ∗ pt c arg9 (f9) ∗ pt c arg10 (f10) ∗ pt c arg11 (W.2.1) ∗ pt c arg12 (W.2.2.1) ∗ pt c arg13 (W.2.2.2.1) ∗ pt c arg14 (W.2.2.2.2.1) ∗ pt c arg15 (f15) ∗ pt c arg16 (W.2.2.2.2.2.1) ∗ pt c arg17 (W.2.2.2.2.2.2.1) ∗ pt c arg18 (W.2.2.2.2.2.2.2.1) ∗ pt c arg19 (W.2.2.2.2.2.2.2.2) ∗ pt c arg20 (f20)) -∗ Q ⟨⟩))
      ⊢ wp frame (wpE (defs₀ (F := F)) Variants.none c none) Set.univ (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  haveI : Fact (k0_cond3 i = 1#1) := ⟨h3⟩
  refine ⟨(?w7, ?w11, ?w12, ?w13, ?w14, ?w16, ?w17, ?w18, ?w19), fun Q => ?main⟩
  case main =>
    simp only [cc0_rmsnorm_linear_bwd_eq_skeleton]; unfold cc0_rmsnorm_linear_bwd_skel
    iintro ⟨H1, H2, H3, H4, H5, H6, H7, H8, H9, H10, H11, H12, H13, H14, H15, H16, H17, H18, H19, H20, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Hand

end
-- ==== Proof.Run4.lean ====
module

public import proofs.«01_k».proof.Proof.Chains
public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point after the last column block (`22 < t`), run once: what it leaves in every buffer that it writes, and that it does. -/
def run4 (c : Dev nD) (i : grid0.Coords) (h1 : ¬ k0_cond1 i = 1#1) (h2 : ¬ k0_cond2 i = 1#1) (h3 : ¬ k0_cond3 i = 1#1) (h4 : k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    { W : Bf (F := F) c arg6 × Bf (F := F) c arg7 × Bf (F := F) c arg8 //
      ∀ Q : PUnit → sProp 𝕄,
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
        ∗ (iprop(pt c arg1 (f1) ∗ pt c arg2 (f2) ∗ pt c arg3 (f3) ∗ pt c arg4 (f4) ∗ pt c arg5 (f5) ∗ pt c arg6 (W.1) ∗ pt c arg7 (W.2.1) ∗ pt c arg8 (W.2.2) ∗ pt c arg9 (f9) ∗ pt c arg10 (f10) ∗ pt c arg11 (f11) ∗ pt c arg12 (f12) ∗ pt c arg13 (f13) ∗ pt c arg14 (f14) ∗ pt c arg15 (f15) ∗ pt c arg16 (f16) ∗ pt c arg17 (f17) ∗ pt c arg18 (f18) ∗ pt c arg19 (f19) ∗ pt c arg20 (f20)) -∗ Q ⟨⟩))
      ⊢ wp frame (wpE (defs₀ (F := F)) Variants.none c none) Set.univ (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  haveI : Fact (k0_cond4 i = 1#1) := ⟨h4⟩
  refine ⟨(?w6, ?w7, ?w8), fun Q => ?main⟩
  case main =>
    simp only [cc0_rmsnorm_linear_bwd_eq_skeleton]; unfold cc0_rmsnorm_linear_bwd_skel
    iintro ⟨H1, H2, H3, H4, H5, H6, H7, H8, H9, H10, H11, H12, H13, H14, H15, H16, H17, H18, H19, H20, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Hand

end
-- ==== Proof.Body.lean ====
module

public import proofs.«01_k».proof.Proof.Run1
public import proofs.«01_k».proof.Proof.Run2
public import proofs.«01_k».proof.Proof.Run3
public import proofs.«01_k».proof.Proof.Run4
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- What is followed through the grid: for every window a relation between what the body finds in its block and what
it leaves there, and of the six scratch buffers a statement that holds before every point. -/
structure Track (c : Dev nD) where
  after : (w : Fin cfg0.W) → Fin cfg0.N → (Y X : (cfg0.win w).block.Idx → Elt F (cfg0.win w).elt) → Prop
  inv : Fin (cfg0.N + 1) → Bf (F := F) c (Memref.whole cc0_scratch0) → Bf (F := F) c (Memref.whole cc0_scratch1) → Bf (F := F) c (Memref.whole cc0_scratch2) → Bf (F := F) c (Memref.whole cc0_scratch3) → Bf (F := F) c (Memref.whole cc0_scratch4) → Bf (F := F) c (Memref.whole cc0_scratch5) → Prop

variable {m} in
/-- The proof data that follows `T`. -/
def Track.rd (m : (ℓ : Loc nD τ sig) → Buf (Elt F) ℓ) {c : Dev nD} (T : Track (F := F) c) : Pipeline.RDat τ (Elt F) Unit ℕ (UR sig nD τ) ℕ cfg0 c where
  A w := V m c (Pipeline.arrRef spec0 w)
  after := T.after
  Φ t := iprop(∃ f15 f16 f17 f18 f19 f20, ⌜T.inv t f15 f16 f17 f18 f19 f20⌝ ∗ pt c (Memref.whole cc0_scratch0) f15 ∗ pt c (Memref.whole cc0_scratch1) f16 ∗ pt c (Memref.whole cc0_scratch2) f17 ∗ pt c (Memref.whole cc0_scratch3) f18 ∗ pt c (Memref.whole cc0_scratch4) f19 ∗ pt c (Memref.whole cc0_scratch5) f20 ∗ ∃ r, prngReg c r)
  q _ := fullShare
  owed _ := 0

/-- A whole block held at known contents is its buffer held at contents that read so. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- What `T` asks of the body at the first point. -/
def Track.Case1 {c : Dev nD} (T : Track (F := F) c) : Prop :=
  ∀ (t : Fin cfg0.N) (h1 : k0_cond1 (grid0.coords t) = 1#1) (h2 : ¬ k0_cond2 (grid0.coords t) = 1#1) (h3 : ¬ k0_cond3 (grid0.coords t) = 1#1) (h4 : ¬ k0_cond4 (grid0.coords t) = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c (Memref.whole cc0_scratch0)) (f16 : Bf (F := F) c (Memref.whole cc0_scratch1)) (f17 : Bf (F := F) c (Memref.whole cc0_scratch2)) (f18 : Bf (F := F) c (Memref.whole cc0_scratch3)) (f19 : Bf (F := F) c (Memref.whole cc0_scratch4)) (f20 : Bf (F := F) c (Memref.whole cc0_scratch5)),
    (T.rd m).Finds 0 t (arg1.view.read (Elt F) f1) →
    (T.rd m).Finds 1 t (arg2.view.read (Elt F) f2) →
    (T.rd m).Finds 2 t (arg3.view.read (Elt F) f3) →
    (T.rd m).Finds 3 t (arg4.view.read (Elt F) f4) →
    (T.rd m).Finds 4 t (arg5.view.read (Elt F) f5) →
    (T.rd m).Finds 5 t (arg6.view.read (Elt F) f6) →
    (T.rd m).Finds 6 t (arg7.view.read (Elt F) f7) →
    (T.rd m).Finds 7 t (arg8.view.read (Elt F) f8) →
    (T.rd m).Finds 8 t (arg9.view.read (Elt F) f9) →
    (T.rd m).Finds 9 t (arg10.view.read (Elt F) f10) →
    (T.rd m).Finds 10 t (arg11.view.read (Elt F) f11) →
    (T.rd m).Finds 11 t (arg12.view.read (Elt F) f12) →
    (T.rd m).Finds 12 t (arg13.view.read (Elt F) f13) →
    (T.rd m).Finds 13 t (arg14.view.read (Elt F) f14) →
    T.inv t.castSucc f15 f16 f17 f18 f19 f20 →
    let W := (run1 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).1
    T.after 0 t (arg1.view.read (Elt F) f1) (arg1.view.read (Elt F) (f1))
    ∧ T.after 1 t (arg2.view.read (Elt F) f2) (arg2.view.read (Elt F) (f2))
    ∧ T.after 2 t (arg3.view.read (Elt F) f3) (arg3.view.read (Elt F) (f3))
    ∧ T.after 3 t (arg4.view.read (Elt F) f4) (arg4.view.read (Elt F) (f4))
    ∧ T.after 4 t (arg5.view.read (Elt F) f5) (arg5.view.read (Elt F) (f5))
    ∧ T.after 5 t (arg6.view.read (Elt F) f6) (arg6.view.read (Elt F) (f6))
    ∧ T.after 6 t (arg7.view.read (Elt F) f7) (arg7.view.read (Elt F) (f7))
    ∧ T.after 7 t (arg8.view.read (Elt F) f8) (arg8.view.read (Elt F) (W.1))
    ∧ T.after 8 t (arg9.view.read (Elt F) f9) (arg9.view.read (Elt F) (f9))
    ∧ T.after 9 t (arg10.view.read (Elt F) f10) (arg10.view.read (Elt F) (f10))
    ∧ T.after 10 t (arg11.view.read (Elt F) f11) (arg11.view.read (Elt F) (W.2.1))
    ∧ T.after 11 t (arg12.view.read (Elt F) f12) (arg12.view.read (Elt F) (W.2.2.1))
    ∧ T.after 12 t (arg13.view.read (Elt F) f13) (arg13.view.read (Elt F) (W.2.2.2.1))
    ∧ T.after 13 t (arg14.view.read (Elt F) f14) (arg14.view.read (Elt F) (W.2.2.2.2.1))
    ∧ T.inv t.succ (f15) (W.2.2.2.2.2.1) (W.2.2.2.2.2.2.1) (W.2.2.2.2.2.2.2.1) (W.2.2.2.2.2.2.2.2) (f20)

/-- What `T` asks of the body at a point with a chunk to prepare. -/
def Track.Case2 {c : Dev nD} (T : Track (F := F) c) : Prop :=
  ∀ (t : Fin cfg0.N) (h1 : ¬ k0_cond1 (grid0.coords t) = 1#1) (h2 : k0_cond2 (grid0.coords t) = 1#1) (h3 : ¬ k0_cond3 (grid0.coords t) = 1#1) (h4 : ¬ k0_cond4 (grid0.coords t) = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c (Memref.whole cc0_scratch0)) (f16 : Bf (F := F) c (Memref.whole cc0_scratch1)) (f17 : Bf (F := F) c (Memref.whole cc0_scratch2)) (f18 : Bf (F := F) c (Memref.whole cc0_scratch3)) (f19 : Bf (F := F) c (Memref.whole cc0_scratch4)) (f20 : Bf (F := F) c (Memref.whole cc0_scratch5)),
    (T.rd m).Finds 0 t (arg1.view.read (Elt F) f1) →
    (T.rd m).Finds 1 t (arg2.view.read (Elt F) f2) →
    (T.rd m).Finds 2 t (arg3.view.read (Elt F) f3) →
    (T.rd m).Finds 3 t (arg4.view.read (Elt F) f4) →
    (T.rd m).Finds 4 t (arg5.view.read (Elt F) f5) →
    (T.rd m).Finds 5 t (arg6.view.read (Elt F) f6) →
    (T.rd m).Finds 6 t (arg7.view.read (Elt F) f7) →
    (T.rd m).Finds 7 t (arg8.view.read (Elt F) f8) →
    (T.rd m).Finds 8 t (arg9.view.read (Elt F) f9) →
    (T.rd m).Finds 9 t (arg10.view.read (Elt F) f10) →
    (T.rd m).Finds 10 t (arg11.view.read (Elt F) f11) →
    (T.rd m).Finds 11 t (arg12.view.read (Elt F) f12) →
    (T.rd m).Finds 12 t (arg13.view.read (Elt F) f13) →
    (T.rd m).Finds 13 t (arg14.view.read (Elt F) f14) →
    T.inv t.castSucc f15 f16 f17 f18 f19 f20 →
    let W := (run2 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).1
    T.after 0 t (arg1.view.read (Elt F) f1) (arg1.view.read (Elt F) (f1))
    ∧ T.after 1 t (arg2.view.read (Elt F) f2) (arg2.view.read (Elt F) (f2))
    ∧ T.after 2 t (arg3.view.read (Elt F) f3) (arg3.view.read (Elt F) (f3))
    ∧ T.after 3 t (arg4.view.read (Elt F) f4) (arg4.view.read (Elt F) (f4))
    ∧ T.after 4 t (arg5.view.read (Elt F) f5) (arg5.view.read (Elt F) (f5))
    ∧ T.after 5 t (arg6.view.read (Elt F) f6) (arg6.view.read (Elt F) (f6))
    ∧ T.after 6 t (arg7.view.read (Elt F) f7) (arg7.view.read (Elt F) (f7))
    ∧ T.after 7 t (arg8.view.read (Elt F) f8) (arg8.view.read (Elt F) (f8))
    ∧ T.after 8 t (arg9.view.read (Elt F) f9) (arg9.view.read (Elt F) (W.1))
    ∧ T.after 9 t (arg10.view.read (Elt F) f10) (arg10.view.read (Elt F) (W.2.1))
    ∧ T.after 10 t (arg11.view.read (Elt F) f11) (arg11.view.read (Elt F) (W.2.2.1))
    ∧ T.after 11 t (arg12.view.read (Elt F) f12) (arg12.view.read (Elt F) (W.2.2.2.1))
    ∧ T.after 12 t (arg13.view.read (Elt F) f13) (arg13.view.read (Elt F) (W.2.2.2.2.1))
    ∧ T.after 13 t (arg14.view.read (Elt F) f14) (arg14.view.read (Elt F) (W.2.2.2.2.2.1))
    ∧ T.inv t.succ (W.2.2.2.2.2.2.1) (W.2.2.2.2.2.2.2.1) (W.2.2.2.2.2.2.2.2.1) (W.2.2.2.2.2.2.2.2.2.1) (W.2.2.2.2.2.2.2.2.2.2.1) (W.2.2.2.2.2.2.2.2.2.2.2)

/-- What `T` asks of the body at a point with both products. -/
def Track.Case3 {c : Dev nD} (T : Track (F := F) c) : Prop :=
  ∀ (t : Fin cfg0.N) (h1 : ¬ k0_cond1 (grid0.coords t) = 1#1) (h2 : ¬ k0_cond2 (grid0.coords t) = 1#1) (h3 : k0_cond3 (grid0.coords t) = 1#1) (h4 : ¬ k0_cond4 (grid0.coords t) = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c (Memref.whole cc0_scratch0)) (f16 : Bf (F := F) c (Memref.whole cc0_scratch1)) (f17 : Bf (F := F) c (Memref.whole cc0_scratch2)) (f18 : Bf (F := F) c (Memref.whole cc0_scratch3)) (f19 : Bf (F := F) c (Memref.whole cc0_scratch4)) (f20 : Bf (F := F) c (Memref.whole cc0_scratch5)),
    (T.rd m).Finds 0 t (arg1.view.read (Elt F) f1) →
    (T.rd m).Finds 1 t (arg2.view.read (Elt F) f2) →
    (T.rd m).Finds 2 t (arg3.view.read (Elt F) f3) →
    (T.rd m).Finds 3 t (arg4.view.read (Elt F) f4) →
    (T.rd m).Finds 4 t (arg5.view.read (Elt F) f5) →
    (T.rd m).Finds 5 t (arg6.view.read (Elt F) f6) →
    (T.rd m).Finds 6 t (arg7.view.read (Elt F) f7) →
    (T.rd m).Finds 7 t (arg8.view.read (Elt F) f8) →
    (T.rd m).Finds 8 t (arg9.view.read (Elt F) f9) →
    (T.rd m).Finds 9 t (arg10.view.read (Elt F) f10) →
    (T.rd m).Finds 10 t (arg11.view.read (Elt F) f11) →
    (T.rd m).Finds 11 t (arg12.view.read (Elt F) f12) →
    (T.rd m).Finds 12 t (arg13.view.read (Elt F) f13) →
    (T.rd m).Finds 13 t (arg14.view.read (Elt F) f14) →
    T.inv t.castSucc f15 f16 f17 f18 f19 f20 →
    let W := (run3 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).1
    T.after 0 t (arg1.view.read (Elt F) f1) (arg1.view.read (Elt F) (f1))
    ∧ T.after 1 t (arg2.view.read (Elt F) f2) (arg2.view.read (Elt F) (f2))
    ∧ T.after 2 t (arg3.view.read (Elt F) f3) (arg3.view.read (Elt F) (f3))
    ∧ T.after 3 t (arg4.view.read (Elt F) f4) (arg4.view.read (Elt F) (f4))
    ∧ T.after 4 t (arg5.view.read (Elt F) f5) (arg5.view.read (Elt F) (f5))
    ∧ T.after 5 t (arg6.view.read (Elt F) f6) (arg6.view.read (Elt F) (f6))
    ∧ T.after 6 t (arg7.view.read (Elt F) f7) (arg7.view.read (Elt F) (W.1))
    ∧ T.after 7 t (arg8.view.read (Elt F) f8) (arg8.view.read (Elt F) (f8))
    ∧ T.after 8 t (arg9.view.read (Elt F) f9) (arg9.view.read (Elt F) (f9))
    ∧ T.after 9 t (arg10.view.read (Elt F) f10) (arg10.view.read (Elt F) (f10))
    ∧ T.after 10 t (arg11.view.read (Elt F) f11) (arg11.view.read (Elt F) (W.2.1))
    ∧ T.after 11 t (arg12.view.read (Elt F) f12) (arg12.view.read (Elt F) (W.2.2.1))
    ∧ T.after 12 t (arg13.view.read (Elt F) f13) (arg13.view.read (Elt F) (W.2.2.2.1))
    ∧ T.after 13 t (arg14.view.read (Elt F) f14) (arg14.view.read (Elt F) (W.2.2.2.2.1))
    ∧ T.inv t.succ (f15) (W.2.2.2.2.2.1) (W.2.2.2.2.2.2.1) (W.2.2.2.2.2.2.2.1) (W.2.2.2.2.2.2.2.2) (f20)

/-- What `T` asks of the body at a point after the last column block. -/
def Track.Case4 {c : Dev nD} (T : Track (F := F) c) : Prop :=
  ∀ (t : Fin cfg0.N) (h1 : ¬ k0_cond1 (grid0.coords t) = 1#1) (h2 : ¬ k0_cond2 (grid0.coords t) = 1#1) (h3 : ¬ k0_cond3 (grid0.coords t) = 1#1) (h4 : k0_cond4 (grid0.coords t) = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c (Memref.whole cc0_scratch0)) (f16 : Bf (F := F) c (Memref.whole cc0_scratch1)) (f17 : Bf (F := F) c (Memref.whole cc0_scratch2)) (f18 : Bf (F := F) c (Memref.whole cc0_scratch3)) (f19 : Bf (F := F) c (Memref.whole cc0_scratch4)) (f20 : Bf (F := F) c (Memref.whole cc0_scratch5)),
    (T.rd m).Finds 0 t (arg1.view.read (Elt F) f1) →
    (T.rd m).Finds 1 t (arg2.view.read (Elt F) f2) →
    (T.rd m).Finds 2 t (arg3.view.read (Elt F) f3) →
    (T.rd m).Finds 3 t (arg4.view.read (Elt F) f4) →
    (T.rd m).Finds 4 t (arg5.view.read (Elt F) f5) →
    (T.rd m).Finds 5 t (arg6.view.read (Elt F) f6) →
    (T.rd m).Finds 6 t (arg7.view.read (Elt F) f7) →
    (T.rd m).Finds 7 t (arg8.view.read (Elt F) f8) →
    (T.rd m).Finds 8 t (arg9.view.read (Elt F) f9) →
    (T.rd m).Finds 9 t (arg10.view.read (Elt F) f10) →
    (T.rd m).Finds 10 t (arg11.view.read (Elt F) f11) →
    (T.rd m).Finds 11 t (arg12.view.read (Elt F) f12) →
    (T.rd m).Finds 12 t (arg13.view.read (Elt F) f13) →
    (T.rd m).Finds 13 t (arg14.view.read (Elt F) f14) →
    T.inv t.castSucc f15 f16 f17 f18 f19 f20 →
    let W := (run4 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).1
    T.after 0 t (arg1.view.read (Elt F) f1) (arg1.view.read (Elt F) (f1))
    ∧ T.after 1 t (arg2.view.read (Elt F) f2) (arg2.view.read (Elt F) (f2))
    ∧ T.after 2 t (arg3.view.read (Elt F) f3) (arg3.view.read (Elt F) (f3))
    ∧ T.after 3 t (arg4.view.read (Elt F) f4) (arg4.view.read (Elt F) (f4))
    ∧ T.after 4 t (arg5.view.read (Elt F) f5) (arg5.view.read (Elt F) (f5))
    ∧ T.after 5 t (arg6.view.read (Elt F) f6) (arg6.view.read (Elt F) (W.1))
    ∧ T.after 6 t (arg7.view.read (Elt F) f7) (arg7.view.read (Elt F) (W.2.1))
    ∧ T.after 7 t (arg8.view.read (Elt F) f8) (arg8.view.read (Elt F) (W.2.2))
    ∧ T.after 8 t (arg9.view.read (Elt F) f9) (arg9.view.read (Elt F) (f9))
    ∧ T.after 9 t (arg10.view.read (Elt F) f10) (arg10.view.read (Elt F) (f10))
    ∧ T.after 10 t (arg11.view.read (Elt F) f11) (arg11.view.read (Elt F) (f11))
    ∧ T.after 11 t (arg12.view.read (Elt F) f12) (arg12.view.read (Elt F) (f12))
    ∧ T.after 12 t (arg13.view.read (Elt F) f13) (arg13.view.read (Elt F) (f13))
    ∧ T.after 13 t (arg14.view.read (Elt F) f14) (arg14.view.read (Elt F) (f14))
    ∧ T.inv t.succ (f15) (f16) (f17) (f18) (f19) (f20)

/-- What `T` asks: nothing of the scratch at the start, and the four cases of the body. -/
structure Track.Ok {c : Dev nD} (T : Track (F := F) c) : Prop where
  start : ∀ f15 f16 f17 f18 f19 f20, T.inv 0 f15 f16 f17 f18 f19 f20
  case1 : T.Case1 m
  case2 : T.Case2 m
  case3 : T.Case3 m
  case4 : T.Case4 m

theorem defs₀_row (t : Fin cfg0.N) :
    defs₀ (F := F) .tc cfg0.body (cfg0.bodyArgs t (cfg0.slots t)) = bodyAt0 t := by
  unfold defs₀; rw [Defs.onTc_tc]

/-- Every point is in exactly one of the four cases. -/
theorem cases4 : ∀ t : Fin cfg0.N, let i := grid0.coords t
    (k0_cond1 i = 1#1 ∧ ¬ k0_cond2 i = 1#1 ∧ ¬ k0_cond3 i = 1#1 ∧ ¬ k0_cond4 i = 1#1)
    ∨ (¬ k0_cond1 i = 1#1 ∧ k0_cond2 i = 1#1 ∧ ¬ k0_cond3 i = 1#1 ∧ ¬ k0_cond4 i = 1#1)
    ∨ (¬ k0_cond1 i = 1#1 ∧ ¬ k0_cond2 i = 1#1 ∧ k0_cond3 i = 1#1 ∧ ¬ k0_cond4 i = 1#1)
    ∨ (¬ k0_cond1 i = 1#1 ∧ ¬ k0_cond2 i = 1#1 ∧ ¬ k0_cond3 i = 1#1 ∧ k0_cond4 i = 1#1) := by decide +kernel

set_option backward.isDefEq.respectTransparency.types false in
set_option maxHeartbeats 0 in
/-- One point: whatever the blocks may hold there, the body does what `T` asks. `P` and `R` are what it does not touch. -/
theorem Track.step {c : Dev nD} {T : Track (F := F) c} (ok : T.Ok m) (t : Fin cfg0.N)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (X1 : Vec F S16x44 .f32) (X2 : Vec F S256x2048 .bf16) (X3 : Vec F S1x2048 .f32) (X4 : Vec F S2048x256 .fp8e4m3) (X5 : Vec F S1792x256 .bf16) (X6 : Vec F S256x2048 .bf16) (X7 : Vec F S2048x256 .f32) (X8 : Vec F S1x2048 .f32) (X9 : Vec F S256x2048 .fp8e4m3) (X10 : Vec F S14x2048 .f32) (X11 : Vec F S1792x256 .fp8e5m2) (X12 : Vec F S1792x44 .f32) (X13 : Vec F S1792x256 .fp8e5m2) (X14 : Vec F S14x256 .f32)
    (a1 : (T.rd m).Finds 0 t X1) (a2 : (T.rd m).Finds 1 t X2) (a3 : (T.rd m).Finds 2 t X3) (a4 : (T.rd m).Finds 3 t X4) (a5 : (T.rd m).Finds 4 t X5) (a6 : (T.rd m).Finds 5 t X6) (a7 : (T.rd m).Finds 6 t X7) (a8 : (T.rd m).Finds 7 t X8) (a9 : (T.rd m).Finds 8 t X9) (a10 : (T.rd m).Finds 9 t X10) (a11 : (T.rd m).Finds 10 t X11) (a12 : (T.rd m).Finds 11 t X12) (a13 : (T.rd m).Finds 12 t X13) (a14 : (T.rd m).Finds 13 t X14) (P R : sProp 𝕄) :
    iprop((∃ f15 f16 f17 f18 f19 f20, ⌜T.inv t.castSucc f15 f16 f17 f18 f19 f20⌝ ∗ pt c (Memref.whole cc0_scratch0) f15 ∗ pt c (Memref.whole cc0_scratch1) f16 ∗ pt c (Memref.whole cc0_scratch2) f17 ∗ pt c (Memref.whole cc0_scratch3) f18 ∗ pt c (Memref.whole cc0_scratch4) f19 ∗ pt c (Memref.whole cc0_scratch5) f20 ∗ P) ∗ R ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14)
    ⊢ wp frame (wpE (defs₀ (F := F)) Variants.none c none) Set.univ (cc0_rmsnorm_linear_bwd (grid0.coords t) arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
      iprop((∃ f15 f16 f17 f18 f19 f20, ⌜T.inv t.succ f15 f16 f17 f18 f19 f20⌝ ∗ pt c (Memref.whole cc0_scratch0) f15 ∗ pt c (Memref.whole cc0_scratch1) f16 ∗ pt c (Memref.whole cc0_scratch2) f17 ∗ pt c (Memref.whole cc0_scratch3) f18 ∗ pt c (Memref.whole cc0_scratch4) f19 ∗ pt c (Memref.whole cc0_scratch5) f20 ∗ P) ∗ R ∗ (∃ X, ⌜T.after 0 t X1 X⌝ ∗ owns (c : Thread nD τ) arg1 fullShare X) ∗ (∃ X, ⌜T.after 1 t X2 X⌝ ∗ owns (c : Thread nD τ) arg2 fullShare X) ∗ (∃ X, ⌜T.after 2 t X3 X⌝ ∗ owns (c : Thread nD τ) arg3 fullShare X) ∗ (∃ X, ⌜T.after 3 t X4 X⌝ ∗ owns (c : Thread nD τ) arg4 fullShare X) ∗ (∃ X, ⌜T.after 4 t X5 X⌝ ∗ owns (c : Thread nD τ) arg5 fullShare X) ∗ (∃ X, ⌜T.after 5 t X6 X⌝ ∗ owns (c : Thread nD τ) arg6 fullShare X) ∗ (∃ X, ⌜T.after 6 t X7 X⌝ ∗ owns (c : Thread nD τ) arg7 fullShare X) ∗ (∃ X, ⌜T.after 7 t X8 X⌝ ∗ owns (c : Thread nD τ) arg8 fullShare X) ∗ (∃ X, ⌜T.after 8 t X9 X⌝ ∗ owns (c : Thread nD τ) arg9 fullShare X) ∗ (∃ X, ⌜T.after 9 t X10 X⌝ ∗ owns (c : Thread nD τ) arg10 fullShare X) ∗ (∃ X, ⌜T.after 10 t X11 X⌝ ∗ owns (c : Thread nD τ) arg11 fullShare X) ∗ (∃ X, ⌜T.after 11 t X12 X⌝ ∗ owns (c : Thread nD τ) arg12 fullShare X) ∗ (∃ X, ⌜T.after 12 t X13 X⌝ ∗ owns (c : Thread nD τ) arg13 fullShare X) ∗ (∃ X, ⌜T.after 13 t X14 X⌝ ∗ owns (c : Thread nD τ) arg14 fullShare X)) := by
  simp only [owns_pt c harg1, owns_pt c harg2, owns_pt c harg3, owns_pt c harg4, owns_pt c harg5, owns_pt c harg6, owns_pt c harg7, owns_pt c harg8, owns_pt c harg9, owns_pt c harg10, owns_pt c harg11, owns_pt c harg12, owns_pt c harg13, owns_pt c harg14]
  iintro ⟨⟨%f15, %f16, %f17, %f18, %f19, %f20, %hi, H15, H16, H17, H18, H19, H20, Hp⟩, Ho, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩
  subst e1 e2 e3 e4 e5 e6 e7 e8 e9 e10 e11 e12 e13 e14
  rcases cases4 t with ⟨h1, h2, h3, h4⟩ | ⟨h1, h2, h3, h4⟩ | ⟨h1, h2, h3, h4⟩ | ⟨h1, h2, h3, h4⟩
  · obtain ⟨b1, b2, b3, b4, b5, b6, b7, b8, b9, b10, b11, b12, b13, b14, bi⟩ := ok.case1 t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 a1 a2 a3 a4 a5 a6 a7 a8 a9 a10 a11 a12 a13 a14 hi
    iapply (run1 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, H18, H19, H20⟩
    isplitl [H15 H16 H17 H18 H19 H20 Hp]
    · iexists _, _, _, _, _, _; isplitr; · ipureintro; exact bi
      isplitl [H15]; · iexact H15
      isplitl [H16]; · iexact H16
      isplitl [H17]; · iexact H17
      isplitl [H18]; · iexact H18
      isplitl [H19]; · iexact H19
      isplitl [H20]; · iexact H20
      iexact Hp
    isplitl [Ho]; · iexact Ho
    isplitl [H1]
    · iexists _; isplitr; · ipureintro; exact b1
      iexists _; isplitr; · ipureintro; rfl
      iexact H1
    isplitl [H2]
    · iexists _; isplitr; · ipureintro; exact b2
      iexists _; isplitr; · ipureintro; rfl
      iexact H2
    isplitl [H3]
    · iexists _; isplitr; · ipureintro; exact b3
      iexists _; isplitr; · ipureintro; rfl
      iexact H3
    isplitl [H4]
    · iexists _; isplitr; · ipureintro; exact b4
      iexists _; isplitr; · ipureintro; rfl
      iexact H4
    isplitl [H5]
    · iexists _; isplitr; · ipureintro; exact b5
      iexists _; isplitr; · ipureintro; rfl
      iexact H5
    isplitl [H6]
    · iexists _; isplitr; · ipureintro; exact b6
      iexists _; isplitr; · ipureintro; rfl
      iexact H6
    isplitl [H7]
    · iexists _; isplitr; · ipureintro; exact b7
      iexists _; isplitr; · ipureintro; rfl
      iexact H7
    isplitl [H8]
    · iexists _; isplitr; · ipureintro; exact b8
      iexists _; isplitr; · ipureintro; rfl
      iexact H8
    isplitl [H9]
    · iexists _; isplitr; · ipureintro; exact b9
      iexists _; isplitr; · ipureintro; rfl
      iexact H9
    isplitl [H10]
    · iexists _; isplitr; · ipureintro; exact b10
      iexists _; isplitr; · ipureintro; rfl
      iexact H10
    isplitl [H11]
    · iexists _; isplitr; · ipureintro; exact b11
      iexists _; isplitr; · ipureintro; rfl
      iexact H11
    isplitl [H12]
    · iexists _; isplitr; · ipureintro; exact b12
      iexists _; isplitr; · ipureintro; rfl
      iexact H12
    isplitl [H13]
    · iexists _; isplitr; · ipureintro; exact b13
      iexists _; isplitr; · ipureintro; rfl
      iexact H13
    iexists _; isplitr; · ipureintro; exact b14
    iexists _; isplitr; · ipureintro; rfl
    iexact H14
  · obtain ⟨b1, b2, b3, b4, b5, b6, b7, b8, b9, b10, b11, b12, b13, b14, bi⟩ := ok.case2 t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 a1 a2 a3 a4 a5 a6 a7 a8 a9 a10 a11 a12 a13 a14 hi
    iapply (run2 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, H18, H19, H20⟩
    isplitl [H15 H16 H17 H18 H19 H20 Hp]
    · iexists _, _, _, _, _, _; isplitr; · ipureintro; exact bi
      isplitl [H15]; · iexact H15
      isplitl [H16]; · iexact H16
      isplitl [H17]; · iexact H17
      isplitl [H18]; · iexact H18
      isplitl [H19]; · iexact H19
      isplitl [H20]; · iexact H20
      iexact Hp
    isplitl [Ho]; · iexact Ho
    isplitl [H1]
    · iexists _; isplitr; · ipureintro; exact b1
      iexists _; isplitr; · ipureintro; rfl
      iexact H1
    isplitl [H2]
    · iexists _; isplitr; · ipureintro; exact b2
      iexists _; isplitr; · ipureintro; rfl
      iexact H2
    isplitl [H3]
    · iexists _; isplitr; · ipureintro; exact b3
      iexists _; isplitr; · ipureintro; rfl
      iexact H3
    isplitl [H4]
    · iexists _; isplitr; · ipureintro; exact b4
      iexists _; isplitr; · ipureintro; rfl
      iexact H4
    isplitl [H5]
    · iexists _; isplitr; · ipureintro; exact b5
      iexists _; isplitr; · ipureintro; rfl
      iexact H5
    isplitl [H6]
    · iexists _; isplitr; · ipureintro; exact b6
      iexists _; isplitr; · ipureintro; rfl
      iexact H6
    isplitl [H7]
    · iexists _; isplitr; · ipureintro; exact b7
      iexists _; isplitr; · ipureintro; rfl
      iexact H7
    isplitl [H8]
    · iexists _; isplitr; · ipureintro; exact b8
      iexists _; isplitr; · ipureintro; rfl
      iexact H8
    isplitl [H9]
    · iexists _; isplitr; · ipureintro; exact b9
      iexists _; isplitr; · ipureintro; rfl
      iexact H9
    isplitl [H10]
    · iexists _; isplitr; · ipureintro; exact b10
      iexists _; isplitr; · ipureintro; rfl
      iexact H10
    isplitl [H11]
    · iexists _; isplitr; · ipureintro; exact b11
      iexists _; isplitr; · ipureintro; rfl
      iexact H11
    isplitl [H12]
    · iexists _; isplitr; · ipureintro; exact b12
      iexists _; isplitr; · ipureintro; rfl
      iexact H12
    isplitl [H13]
    · iexists _; isplitr; · ipureintro; exact b13
      iexists _; isplitr; · ipureintro; rfl
      iexact H13
    iexists _; isplitr; · ipureintro; exact b14
    iexists _; isplitr; · ipureintro; rfl
    iexact H14
  · obtain ⟨b1, b2, b3, b4, b5, b6, b7, b8, b9, b10, b11, b12, b13, b14, bi⟩ := ok.case3 t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 a1 a2 a3 a4 a5 a6 a7 a8 a9 a10 a11 a12 a13 a14 hi
    iapply (run3 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, H18, H19, H20⟩
    isplitl [H15 H16 H17 H18 H19 H20 Hp]
    · iexists _, _, _, _, _, _; isplitr; · ipureintro; exact bi
      isplitl [H15]; · iexact H15
      isplitl [H16]; · iexact H16
      isplitl [H17]; · iexact H17
      isplitl [H18]; · iexact H18
      isplitl [H19]; · iexact H19
      isplitl [H20]; · iexact H20
      iexact Hp
    isplitl [Ho]; · iexact Ho
    isplitl [H1]
    · iexists _; isplitr; · ipureintro; exact b1
      iexists _; isplitr; · ipureintro; rfl
      iexact H1
    isplitl [H2]
    · iexists _; isplitr; · ipureintro; exact b2
      iexists _; isplitr; · ipureintro; rfl
      iexact H2
    isplitl [H3]
    · iexists _; isplitr; · ipureintro; exact b3
      iexists _; isplitr; · ipureintro; rfl
      iexact H3
    isplitl [H4]
    · iexists _; isplitr; · ipureintro; exact b4
      iexists _; isplitr; · ipureintro; rfl
      iexact H4
    isplitl [H5]
    · iexists _; isplitr; · ipureintro; exact b5
      iexists _; isplitr; · ipureintro; rfl
      iexact H5
    isplitl [H6]
    · iexists _; isplitr; · ipureintro; exact b6
      iexists _; isplitr; · ipureintro; rfl
      iexact H6
    isplitl [H7]
    · iexists _; isplitr; · ipureintro; exact b7
      iexists _; isplitr; · ipureintro; rfl
      iexact H7
    isplitl [H8]
    · iexists _; isplitr; · ipureintro; exact b8
      iexists _; isplitr; · ipureintro; rfl
      iexact H8
    isplitl [H9]
    · iexists _; isplitr; · ipureintro; exact b9
      iexists _; isplitr; · ipureintro; rfl
      iexact H9
    isplitl [H10]
    · iexists _; isplitr; · ipureintro; exact b10
      iexists _; isplitr; · ipureintro; rfl
      iexact H10
    isplitl [H11]
    · iexists _; isplitr; · ipureintro; exact b11
      iexists _; isplitr; · ipureintro; rfl
      iexact H11
    isplitl [H12]
    · iexists _; isplitr; · ipureintro; exact b12
      iexists _; isplitr; · ipureintro; rfl
      iexact H12
    isplitl [H13]
    · iexists _; isplitr; · ipureintro; exact b13
      iexists _; isplitr; · ipureintro; rfl
      iexact H13
    iexists _; isplitr; · ipureintro; exact b14
    iexists _; isplitr; · ipureintro; rfl
    iexact H14
  · obtain ⟨b1, b2, b3, b4, b5, b6, b7, b8, b9, b10, b11, b12, b13, b14, bi⟩ := ok.case4 t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 a1 a2 a3 a4 a5 a6 a7 a8 a9 a10 a11 a12 a13 a14 hi
    iapply (run4 c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 f14 f15 f16 f17 f18 f19 f20).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, H18, H19, H20⟩
    isplitl [H15 H16 H17 H18 H19 H20 Hp]
    · iexists _, _, _, _, _, _; isplitr; · ipureintro; exact bi
      isplitl [H15]; · iexact H15
      isplitl [H16]; · iexact H16
      isplitl [H17]; · iexact H17
      isplitl [H18]; · iexact H18
      isplitl [H19]; · iexact H19
      isplitl [H20]; · iexact H20
      iexact Hp
    isplitl [Ho]; · iexact Ho
    isplitl [H1]
    · iexists _; isplitr; · ipureintro; exact b1
      iexists _; isplitr; · ipureintro; rfl
      iexact H1
    isplitl [H2]
    · iexists _; isplitr; · ipureintro; exact b2
      iexists _; isplitr; · ipureintro; rfl
      iexact H2
    isplitl [H3]
    · iexists _; isplitr; · ipureintro; exact b3
      iexists _; isplitr; · ipureintro; rfl
      iexact H3
    isplitl [H4]
    · iexists _; isplitr; · ipureintro; exact b4
      iexists _; isplitr; · ipureintro; rfl
      iexact H4
    isplitl [H5]
    · iexists _; isplitr; · ipureintro; exact b5
      iexists _; isplitr; · ipureintro; rfl
      iexact H5
    isplitl [H6]
    · iexists _; isplitr; · ipureintro; exact b6
      iexists _; isplitr; · ipureintro; rfl
      iexact H6
    isplitl [H7]
    · iexists _; isplitr; · ipureintro; exact b7
      iexists _; isplitr; · ipureintro; rfl
      iexact H7
    isplitl [H8]
    · iexists _; isplitr; · ipureintro; exact b8
      iexists _; isplitr; · ipureintro; rfl
      iexact H8
    isplitl [H9]
    · iexists _; isplitr; · ipureintro; exact b9
      iexists _; isplitr; · ipureintro; rfl
      iexact H9
    isplitl [H10]
    · iexists _; isplitr; · ipureintro; exact b10
      iexists _; isplitr; · ipureintro; rfl
      iexact H10
    isplitl [H11]
    · iexists _; isplitr; · ipureintro; exact b11
      iexists _; isplitr; · ipureintro; rfl
      iexact H11
    isplitl [H12]
    · iexists _; isplitr; · ipureintro; exact b12
      iexists _; isplitr; · ipureintro; rfl
      iexact H12
    isplitl [H13]
    · iexists _; isplitr; · ipureintro; exact b13
      iexists _; isplitr; · ipureintro; rfl
      iexact H13
    iexists _; isplitr; · ipureintro; exact b14
    iexists _; isplitr; · ipureintro; rfl
    iexact H14

set_option backward.isDefEq.respectTransparency.types false in
set_option maxHeartbeats 0 in
/-- The body's obligation. -/
theorem Track.body {c : Dev nD} {T : Track (F := F) c} (ok : T.Ok m) : (T.rd m).BodyObligation (defs₀ (F := F)) Variants.none () Set.univ := fun t Y hF => by
  rw [bigSep_W0, bigSep_W0, defs₀_row]
  exact triple_restated (Track.step m ok t (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13))
    (Y 0) (Y 1) (Y 2) (Y 3) (Y 4) (Y 5) (Y 6) (Y 7) (Y 8) (Y 9) (Y 10) (Y 11) (Y 12) (Y 13) (hF 0) (hF 1) (hF 2) (hF 3) (hF 4) (hF 5) (hF 6) (hF 7) (hF 8) (hF 9) (hF 10) (hF 11) (hF 12) (hF 13) (iprop(∃ r, prngReg c r)) ((T.rd m).owesAt () t.castSucc)) rfl .rfl fun _ => .rfl

variable (ρ : Dev nD → PrngReg)

/-- Nothing is followed. -/
def Track.none (c : Dev nD) : Track (F := F) c := ⟨fun _ _ _ _ => True, fun _ _ _ _ _ _ _ => True⟩

theorem Track.none_ok (c : Dev nD) : (Track.none (F := F) c).Ok m where
  start _ _ _ _ _ _ := trivial
  case1 := fun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ => ⟨trivial, trivial, trivial, trivial, trivial, trivial, trivial, trivial, trivial, trivial, trivial, trivial, trivial, trivial, trivial⟩
  case2 := fun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ => ⟨trivial, trivial, trivial, trivial, trivial, trivial, trivial, trivial, trivial, trivial, trivial, trivial, trivial, trivial, trivial⟩
  case3 := fun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ => ⟨trivial, trivial, trivial, trivial, trivial, trivial, trivial, trivial, trivial, trivial, trivial, trivial, trivial, trivial, trivial⟩
  case4 := fun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ => ⟨trivial, trivial, trivial, trivial, trivial, trivial, trivial, trivial, trivial, trivial, trivial, trivial, trivial, trivial, trivial⟩

set_option backward.isDefEq.respectTransparency.types false in
set_option maxHeartbeats 0 in
/-- The run: it ends with every window's array in the relation that `T` builds, with every other buffer of the core
as the region found it, and with every semaphore at zero. -/
theorem Track.run (T : (c : Dev nD) → Track (F := F) c) (ok : ∀ c, (T c).Ok m) :
    θ_run defs (onTc (τ := τ) (main (F := F))) (s₀ m ρ)
      (fun r => Pipeline.RDat.FramePost cfg0 (fun c => (T c).rd m) (V m) r ∧ r.2.sem = fun _ => 0) :=
  Pipeline.RDat.θ_run_frame_track cfgs (0 : Fin 1) launch0 defs₀ Variants.none (fun c => (T c).rd m) m ρ main
    (hbody := fun c => (ok c).1 |> fun _ => Track.body m (ok c))
    (hshare := fun c w => by unfold Pipeline.RDat.share; split <;> rfl)
    (howed := fun _ _ => rfl) (V := V m) (hmain := hmain m Variants.none) (hA := fun _ _ => rfl)
    (hin := fun c => by
      show Pipeline.ΦA spec0 c ⊢ _
      rw [Pipeline.ΦA, scopedRest0_eq]; unfold Track.rd; dsimp only
      iintro ⟨⟨⟨%f15, H15⟩, ⟨%f16, H16⟩, ⟨%f17, H17⟩, ⟨%f18, H18⟩, ⟨%f19, H19⟩, ⟨%f20, H20⟩⟩, Hp⟩
      iexists f15, f16, f17, f18, f19, f20
      isplitr; · ipureintro; exact (ok c).start _ _ _ _ _ _
      isplitl [H15]; · iexact H15
      isplitl [H16]; · iexact H16
      isplitl [H17]; · iexact H17
      isplitl [H18]; · iexact H18
      isplitl [H19]; · iexact H19
      isplitl [H20]; · iexact H20
      iexact Hp)
    (hout := fun c => by
      show _ ⊢ Pipeline.ΦA spec0 c
      rw [Pipeline.ΦA, scopedRest0_eq]; unfold Track.rd; dsimp only
      iintro ⟨%f15, %f16, %f17, %f18, %f19, %f20, -, H15, H16, H17, H18, H19, H20, Hp⟩
      isplitr [Hp]
      · isplitl [H15]; · iexists _; iexact H15
        isplitl [H16]; · iexists _; iexact H16
        isplitl [H17]; · iexists _; iexact H17
        isplitl [H18]; · iexists _; iexact H18
        isplitl [H19]; · iexists _; iexact H19
        iexists _; iexact H20
      iexact Hp)
    (Q' := _)

set_option maxHeartbeats 0 in
/-- What the run leaves of the arguments: as launched. -/
theorem args_of_post (T : (c : Dev nD) → Track (F := F) c) (r : PUnit × MemSt nD τ sig (Elt F))
    (h : Pipeline.RDat.FramePost cfg0 (fun c => (T c).rd m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have i0 := (h c).1 0
  have i3 := (h c).1 3
  rw [Pipeline.RDat.ArrAt_in _ 0 rfl] at i0
  rw [Pipeline.RDat.ArrAt_in _ 3 rfl] at i3
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    i3.trans (V_main_arg2 m c), i0.trans (V_main_arg3 m c),
    ((h c).2 main_arg4 (Pipeline.mem_restRefs_of main_arg4 (by decide) (by decide))).trans (V_main_arg4 m c)⟩

/-- The frame: the arguments are left as they were and every semaphore ends at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_of_post m _ r h.1, h.2⟩) (Track.run m ρ (Track.none (F := F)) (Track.none_ok m))

end Cert.KernelIdeal.Hand

end
-- ==== Proof.KernelFrame.lean ====
module

public import proofs.«01_k».proof.Proof.Gen.Kernel.Frame
public import proofs.«01_k».proof.Proof.Body

@[expose] public section

noncomputable section

/-! The kernel's program and its reading over the reals are one text, printed twice: the frame that Body.lean proves
at any number type is the frame of the program in floats. -/

namespace Cert.Kernel.Hand

open Idealize.ShloMosaic Idealize.ShloMosaic.TcCoe Idealize.SL.Sem

variable {F : FTy → Type} [FloatOps F]

set_option maxRecDepth 65536 in
set_option maxHeartbeats 0 in
theorem defs₀_eq : Cert.Kernel.defs₀ (F := F) = Cert.KernelIdeal.defs₀ (F := F) :=
  congrArg Defs.onTc (funext fun l => funext fun a => by
    obtain ⟨n, hn⟩ := l
    cases n with
    | zero => rfl
    | succ n => exact absurd hn (by show ¬ n + 1 < 1; omega))

theorem defs_eq : Cert.Kernel.defs (F := F) = Cert.KernelIdeal.defs (F := F) :=
  congrArg (Pipeline.defs Cert.Kernel.pcfgs) defs₀_eq

set_option maxRecDepth 65536 in
set_option maxHeartbeats 0 in
theorem frame (m : (ℓ : Loc nD τ sig) → Buf (Elt F) ℓ) (ρ : Dev nD → PrngReg) :
    θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [defs_eq]
  exact Cert.KernelIdeal.Hand.frame m ρ

end Cert.Kernel.Hand

end
-- ==== Proof.Blocks.lean ====
module

public import proofs.«01_k».proof.Proof.Gen.KernelIdeal.Skeleton
public import Idealize.ShloMosaic.Lib.Pointwise
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The block functions of the body, each written out once: the quantiser of a column block and of a row block, the
normalised block, the products' summands, the norm's backward of sixteen rows. -/

variable {F : FTy → Type} [FloatOps F]

/-- The largest magnitude of every column, over the format's largest number. -/
def colTop (V : Vec F S128x128 .bf16) : FVec F S1x128 .f32 :=
  mulf (extf .f32 (shapeCast S1x128 (multiReduction .maximumf [0] S128 (absf (shapeCast S128x128 V shapeCasts_S128x128_S128x128)) 0xFF80#16 reduces_S128x128_S128 (.inr rfl) rfl) shapeCasts_S128_S1x128) bitsLt_bf16_f32)
    (broadcast S1x128 (Scalar.ofBits .f32 0x37924925#32))

/-- The same of every row. -/
def rowTop (V : Vec F S128x128 .bf16) : FVec F S128x1 .f32 :=
  mulf (shapeCast S128x1 (multiReduction .maximumf [1] S128 (extf .f32 (absf (shapeCast S128x128 V shapeCasts_S128x128_S128x128)) bitsLt_bf16_f32) 0xFF800000#32 reduces_S128x128_S128_2 (.inl rfl) rfl) shapeCasts_S128_S128x1)
    (broadcast S128x1 (Scalar.ofBits .f32 0x37924925#32))

/-- The exponent field, a column at a time. -/
def colBias (y : FVec F S1x128 .f32) : IVec S1x128 32 :=
  let b : IVec S1x128 32 := subi (shapeCast S1x128 (multiReductionI .add [0] S128
    (select (cmpf .olt (broadcastTo S256x128 y broadcasts_S1x128_S256x128)
      (bitcastToFloat .f32 (shli (iota .tc S256x128 32 [0] iota_S256x128_d0_w32) (broadcast S256x128 23#32))))
      (broadcast S256x128 0#32) (broadcast S256x128 1#32)) 0#32 reduces_S256x128_S128 rfl) shapeCasts_S128_S1x128) (broadcast S1x128 1#32)
  select (cmpi .eq b (broadcast S1x128 0#32)) (broadcast S1x128 126#32) b

/-- The exponent field, a row at a time. -/
def rowBias (y : FVec F S128x1 .f32) : IVec S128x1 32 :=
  let b : IVec S128x1 32 := subi (shapeCast S128x1 (multiReductionI .add [1] S128
    (select (cmpf .olt (broadcastTo S128x256 y broadcasts_S128x1_S128x256)
      (bitcastToFloat .f32 (shli (iota .tc S128x256 32 [1] iota_S128x256_d1_w32) (broadcast S128x256 23#32))))
      (broadcast S128x256 0#32) (broadcast S128x256 1#32)) 0#32 reduces_S128x256_S128 rfl) shapeCasts_S128_S128x1) (broadcast S128x1 1#32)
  select (cmpi .eq b (broadcast S128x1 0#32)) (broadcast S128x1 126#32) b

def colScale (y : FVec F S1x128 .f32) : FVec F S1x128 .f32 :=
  bitcastToFloat .f32 (shli (addi (colBias y) (broadcast S1x128 1#32)) (broadcast S1x128 23#32))
def colInv (y : FVec F S1x128 .f32) : FVec F S1x128 .f32 :=
  bitcastToFloat .f32 (shli (subi (broadcast S1x128 253#32) (colBias y)) (broadcast S1x128 23#32))
def rowScale (y : FVec F S128x1 .f32) : FVec F S128x1 .f32 :=
  bitcastToFloat .f32 (shli (addi (rowBias y) (broadcast S128x1 1#32)) (broadcast S128x1 23#32))
def rowInv (y : FVec F S128x1 .f32) : FVec F S128x1 .f32 :=
  bitcastToFloat .f32 (shli (subi (broadcast S128x1 253#32) (rowBias y)) (broadcast S128x1 23#32))

/-- A block over its scales, clipped. -/
def clipE5 (V : FVec F S128x128 .bf16) (inv : FVec F S128x128 .f32) : FVec F S128x128 .fp8e5m2 :=
  truncf .fp8e5m2 (minimumf (broadcast S128x128 (Scalar.truncf .bf16 bitsLt_bf16_f32 (Scalar.ofBits .f32 0x47600000#32)))
    (maximumf (broadcast S128x128 (Scalar.truncf .bf16 bitsLt_bf16_f32 (Scalar.ofBits .f32 0xC7600000#32)))
      (mulf V (truncf .bf16 inv bitsLt_bf16_f32)))) bitsLt_fp8e5m2_bf16

def colCode (V : Vec F S128x128 .bf16) : FVec F S128x128 .fp8e5m2 :=
  clipE5 (shapeCast S128x128 V shapeCasts_S128x128_S128x128) (broadcastTo S128x128 (shapeCast S1x128 (colInv (colTop V)) shapeCasts_S1x128_S1x128) broadcasts_S1x128_S128x128)
def rowCode (V : Vec F S128x128 .bf16) : FVec F S128x128 .fp8e5m2 :=
  clipE5 (shapeCast S128x128 V shapeCasts_S128x128_S128x128) (broadcastTo S128x128 (shapeCast S128x1 (rowInv (rowTop V)) shapeCasts_S128x1_S128x1) broadcasts_S128x1_S128x128)

def slab (V : FVec F S128x128 .bf16) : Vec F S1x128x128 .bf16 :=
  shapeCast S1x128x128 (shapeCast S128x128 V shapeCasts_S128x128_S128x128) shapeCasts_S128x128_S1x128x128

/-- The block as the products read it, quantised by columns. -/
def colDeq (V : Vec F S128x128 .bf16) : Vec F S1x128x128 .bf16 :=
  slab (mulf (extf .bf16 (colCode V) bitsLt_fp8e5m2_bf16)
    (truncf .bf16 (broadcastTo S128x128 (shapeCast S1x128 (colScale (colTop V)) shapeCasts_S1x128_S1x128) broadcasts_S1x128_S128x128) bitsLt_bf16_f32))
/-- … and by rows. -/
def rowDeq (V : Vec F S128x128 .bf16) : Vec F S1x128x128 .bf16 :=
  slab (mulf (extf .bf16 (rowCode V) bitsLt_fp8e5m2_bf16)
    (truncf .bf16 (broadcastTo S128x128 (shapeCast S128x1 (rowScale (rowTop V)) shapeCasts_S128x1_S128x1) broadcasts_S128x1_S128x128) bitsLt_bf16_f32))

/-- The row scales of one block put in their column of the table. -/
def rowPut (q : BitVec 32) (V : Vec F S128x128 .bf16) (T : FVec F S128x44 .f32) : FVec F S128x44 .f32 :=
  select (cmpi .eq (iota .tc S128x44 32 [1] iota_S128x44_d1_w32) (broadcast S128x44 q))
    (broadcastTo S128x44 (shapeCast S128x1 (rowScale (rowTop V)) shapeCasts_S128x1_S128x1) broadcasts_S128x1_S128x44) T

/-- A block of the weights as the products read it. -/
def wDeq (s : Elt F .f32) (W : Vec F S128x128 .fp8e4m3) : Vec F S1x128x128 .bf16 :=
  slab (mulf (extf .bf16 W bitsLt_fp8e4m3_bf16) (truncf .bf16 (broadcast S128x128 s) bitsLt_bf16_f32))

/-- The norm's factor of sixteen rows. -/
def normR (X : Vec F S16x2048 .bf16) : FVec F S16x1 .f32 := k0_pay491 X

/-- The normalised block. -/
def xnBlk (r : Vec F S128x1 .f32) (X : Vec F S128x128 .bf16) (g : Vec F S1x128 .f32) : FVec F S128x128 .f32 := k0_pay507 r X g

def xTop (N : FVec F S128x128 .f32) : FVec F S1x128 .f32 :=
  mulf (shapeCast S1x128 (multiReduction .maximumf [0] S128 (absf N) 0xFF800000#32 reduces_S128x128_S128 (.inl rfl) rfl) shapeCasts_S128_S1x128)
    (broadcast S1x128 (Scalar.ofBits .f32 0x3B124925#32))

def xCode (N : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32))
      (mulf N (broadcastTo S128x128 (colInv (xTop N)) broadcasts_S1x128_S128x128)))) bitsLt_fp8e4m3_f32

/-- The column scales of one block put in their row of the table. -/
def xPut (q : BitVec 32) (N : FVec F S128x128 .f32) (T : Vec F S14x128 .f32) : FVec F S14x128 .f32 :=
  select (cmpi .eq (iota .tc S14x128 32 [0] iota_S14x128_d0_w32) (broadcast S14x128 q))
    (broadcastTo S14x128 (shapeCast S1x128 (colScale (xTop N)) shapeCasts_S1x128_S1x128) broadcasts_S1x128_S14x128)
    (shapeCast S14x128 T shapeCasts_S14x128_S14x128)

/-- The block as the second product reads it, transposed. -/
def xDeqT (N : FVec F S128x128 .f32) : FVec F S128x128 .bf16 := k0_pay513 (colScale (xTop N)) (xCode N)

/-- One more block of columns in the first product. -/
def dxnAdd (A : Vec F S1792x2048 .f32) (D : Vec F S1x1792x256 .bf16) (W : Vec F S1x2048x256 .bf16) : FVec F S1792x2048 .f32 := k0_pay483 A D W

/-- The second product's block. -/
def dwBlk (X : Vec F S2048x1792 .bf16) (D : Vec F S1x1792x256 .bf16) : FVec F S2048x256 .f32 := k0_pay1228 X D

/-- The norm's backward of sixteen rows. -/
def xhat16 (r : Vec F S16x1 .f32) (X : Vec F S16x2048 .bf16) : FVec F S16x2048 .f32 := k0_pay1709 r X
def dx16 (g : Vec F S1x2048 .f32) (r : Vec F S16x1 .f32) (D : Vec F S16x2048 .f32) (X : Vec F S16x2048 .bf16) : FVec F S16x2048 .bf16 :=
  k0_pay4 (k0_pay1707 g) r D (xhat16 r X)

/-- What sixteen rows add to the eight partial sums of the weight's gradient. -/
def dg16 (A : FVec F S8x2048 .f32) (r : Vec F S16x1 .f32) (D : Vec F S16x2048 .f32) (X : Vec F S16x2048 .bf16) : FVec F S8x2048 .f32 :=
  addf A (multiReduction .add [0] S8x2048 (shapeCast S2x8x2048 (mulf D (xhat16 r X)) shapeCasts_S16x2048_S2x8x2048) 0x00000000#32 reduces_S2x8x2048_S8x2048 (.inl rfl) rfl)
def dgOut (P : FVec F S8x2048 .f32) (old : Vec F S1x2048 .f32) : FVec F S1x2048 .f32 :=
  addf (shapeCast S1x2048 old shapeCasts_S1x2048_S1x2048) (shapeCast S1x2048 (multiReduction .add [0] S2048 P 0x00000000#32 reduces_S8x2048_S2048 (.inl rfl) rfl) shapeCasts_S2048_S1x2048)

end Cert.KernelIdeal.Hand

end
-- ==== Proof.Forms.lean ====
module

public import proofs.«01_k».proof.Proof.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The shape of every store of the quantiser: which block function it stores, of which block of the operand. -/

variable {F : FTy → Type} [FloatOps F]

section
variable (X : S1792x256.Idx → Elt F .bf16)

/-- The block of 128 rows and columns at an offset. -/
def blk (o0 o1 : ℕ) (inb : ∀ a, (![o0, o1] : Fin 2 → ℕ) a + S128x128.size a ≤ S1792x256.size a) : Vec F S128x128 .bf16 :=
  fun y => X ((Rect.unit (s := S1792x256) ![o0, o1] S128x128.size inb).idx y)

def CsForm (p : View.Piece (Elt F) S14x256 .f32) : Prop :=
  ∃ p0 o0 o1 inb inb', p = ⟨Rect.unit (s := S14x256) ![p0, o1] S1x128.size inb', colScale (colTop (blk X o0 o1 inb))⟩ ∧ o0 = 128 * p0
def CcForm (p : View.Piece (Elt F) S1792x256 .fp8e5m2) : Prop :=
  ∃ o0 o1 inb inb', p = ⟨Rect.unit (s := S1792x256) ![o0, o1] S128x128.size inb', colCode (blk X o0 o1 inb)⟩ ∧ o0 = 128 * (o0 / 128)
def RcForm (p : View.Piece (Elt F) S1792x256 .fp8e5m2) : Prop :=
  ∃ o0 o1 inb inb', p = ⟨Rect.unit (s := S1792x256) ![o0, o1] S128x128.size inb', rowCode (blk X o0 o1 inb)⟩ ∧ o1 = 128 * (o1 / 128)
def DqForm (s : ℕ) (p : View.Piece (Elt F) S9x1792x256 .bf16) : Prop :=
  ∃ o0 o1 off inb inb', p = ⟨Rect.unit (s := S9x1792x256) off S1x128x128.size inb', colDeq (blk X o0 o1 inb)⟩ ∧ off = ![s, o0, o1] ∧ o0 = 128 * (o0 / 128)
def DyqForm (s : ℕ) (p : View.Piece (Elt F) S2x1792x256 .bf16) : Prop :=
  ∃ o0 o1 off inb inb', p = ⟨Rect.unit (s := S2x1792x256) off S1x128x128.size inb', rowDeq (blk X o0 o1 inb)⟩ ∧ off = ![s, o0, o1] ∧ o1 = 128 * (o1 / 128)
/-- The row scales of a row of two blocks, put in the table. -/
def RsForm (T : S1792x44.Idx → Elt F .f32) (q : BitVec 32) (p : View.Piece (Elt F) S1792x44 .f32) : Prop :=
  ∃ o0 inb0 inb1 inb', p = ⟨Rect.unit (s := S1792x44) ![o0, 0] S128x44.size inb',
    rowPut (IntOp.addi (IntOp.muli q 2#32) 1#32) (blk X o0 128 inb1) (rowPut (IntOp.addi (IntOp.muli q 2#32) 0#32) (blk X o0 0 inb0)
      (shapeCast S128x44 (fun y => T ((Rect.unit (s := S1792x44) ![o0, 0] S128x44.size inb').idx y)) shapeCasts_S128x44_S128x44))⟩
end

def WqForm (A : S16x44.Idx → Elt F .f32) (W : S2048x256.Idx → Elt F .fp8e4m3) (s n : ℕ) (p : View.Piece (Elt F) S2x2048x256 .bf16) : Prop :=
  ∃ o0 o1 off soff inb inb' inb'' h, p = ⟨Rect.unit (s := S2x2048x256) off S1x128x128.size inb',
    wDeq (A ((Rect.unit (s := S16x44) soff S1x1.size inb'').idx (Shape.Idx.first h)))
      (fun y => W ((Rect.unit (s := S2048x256) ![o0, o1] S128x128.size inb).idx y))⟩ ∧ off = ![s, o0, o1] ∧ soff = ![o0 / 128, 2 * n + o1 / 128]
    ∧ o0 = 128 * (o0 / 128) ∧ o1 = 128 * (o1 / 128)

/-! … and of the other phases. -/

section
variable (X : S256x2048.Idx → Elt F .bf16) (G : S1x2048.Idx → Elt F .f32) (ρ : S1792x1.Idx → Elt F .f32)

/-- The rows' factors of sixteen rows. -/
def RForm (t : ℕ) (p : View.Piece (Elt F) S1792x1 .f32) : Prop :=
  ∃ o0 off inb inb', p = ⟨Rect.unit (s := S1792x1) off S16x1.size inb', normR (fun y => X ((Rect.unit (s := S256x2048) ![o0, 0] S16x2048.size inb).idx y))⟩
    ∧ off = ![256 * (t - 1) + o0, 0]

/-- A normalised block. -/
def xnAt (o0 o1 : ℕ) (roff : Fin 2 → ℕ) (inb : ∀ a, (![o0, o1] : Fin 2 → ℕ) a + S128x128.size a ≤ S256x2048.size a)
    (inb1 : ∀ a, (![0, o1] : Fin 2 → ℕ) a + S1x128.size a ≤ S1x2048.size a) (inb2 : ∀ a, roff a + S128x1.size a ≤ S1792x1.size a) : FVec F S128x128 .f32 :=
  xnBlk (fun y => ρ ((Rect.unit (s := S1792x1) roff S128x1.size inb2).idx y)) (fun y => X ((Rect.unit (s := S256x2048) ![o0, o1] S128x128.size inb).idx y))
    (fun y => G ((Rect.unit (s := S1x2048) ![0, o1] S1x128.size inb1).idx y))

def XcForm (t : ℕ) (p : View.Piece (Elt F) S256x2048 .fp8e4m3) : Prop :=
  ∃ o0 o1 roff inb inb1 inb2 inb', p = ⟨Rect.unit (s := S256x2048) ![o0, o1] S128x128.size inb', xCode (xnAt X G ρ o0 o1 roff inb inb1 inb2)⟩
    ∧ roff = ![256 * (t - 1) + o0, 0] ∧ o0 = 128 * (o0 / 128)
def XqForm (t : ℕ) (p : View.Piece (Elt F) S2048x1792 .bf16) : Prop :=
  ∃ o0 o1 roff off inb inb1 inb2 inb', p = ⟨Rect.unit (s := S2048x1792) off S128x128.size inb', xDeqT (xnAt X G ρ o0 o1 roff inb inb1 inb2)⟩
    ∧ roff = ![256 * (t - 1) + o0, 0] ∧ off = ![o1, 256 * (t - 1) + o0] ∧ o0 = 128 * (o0 / 128)
/-- The column scales of a block of the chunk's first half, put in the table … -/
def XsForm (T : S14x2048.Idx → Elt F .f32) (t : ℕ) (q : BitVec 32) (p : View.Piece (Elt F) S14x2048 .f32) : Prop :=
  ∃ o1 roff inb inb1 inb2 inb', p = ⟨Rect.unit (s := S14x2048) ![0, o1] S14x128.size inb',
      xPut (IntOp.addi (IntOp.muli q 2#32) 0#32) (xnAt X G ρ 0 o1 roff inb inb1 inb2) (fun y => T ((Rect.unit (s := S14x2048) ![0, o1] S14x128.size inb').idx y))⟩
    ∧ roff = ![256 * (t - 1), 0]
/-- … and of its second half, over what the earlier stores left. -/
inductive XsChain {κ : Kind} {sp : Space} (v : View sig κ sp S14x2048 .f32) (t : ℕ) (q : BitVec 32) (L0 : List (View.Piece (Elt F) S14x2048 .f32)) :
    ℕ → List (View.Piece (Elt F) S14x2048 .f32) → Prop
  | nil : XsChain v t q L0 0 L0
  | cons (j : ℕ) (L : List (View.Piece (Elt F) S14x2048 .f32)) (p : View.Piece (Elt F) S14x2048 .f32) (roff inb inb1 inb2 inb')
      (hp : p = ⟨Rect.unit (s := S14x2048) ![0, 128 * j] S14x128.size inb',
        xPut (IntOp.addi (IntOp.muli q 2#32) 1#32) (xnAt X G ρ 128 (128 * j) roff inb inb1 inb2) (v.readCov L (Rect.unit (s := S14x2048) ![0, 128 * j] S14x128.size inb').toLoadRect)⟩)
      (hr : roff = ![256 * (t - 1) + 128, 0]) (h : XsChain v t q L0 j L) : XsChain v t q L0 (j + 1) (p :: L)

variable (N : S1792x2048.Idx → Elt F .f32)

/-- Sixteen rows of the norm's backward. -/
def DxForm (t : ℕ) (p : View.Piece (Elt F) S256x2048 .bf16) : Prop :=
  ∃ o0 roff noff inb inb1 inb2 inb3, p = ⟨Rect.unit (s := S256x2048) ![o0, 0] S16x2048.size inb,
      dx16 (fun y => G ((Rect.unit (s := S1x2048) ![0, 0] S1x2048.size inb1).idx y))
        (fun y => ρ ((Rect.unit (s := S1792x1) roff S16x1.size inb2).idx y))
        (fun y => N ((Rect.unit (s := S1792x2048) noff S16x2048.size inb3).idx y))
        (fun y => X ((Rect.unit (s := S256x2048) ![o0, 0] S16x2048.size inb).idx y))⟩
    ∧ roff = ![256 * (t - 23) + o0, 0] ∧ noff = ![256 * (t - 23) + o0, 0]
/-- The partial sums of the weight's gradient after `k` times sixteen rows. -/
inductive DgChain (t : ℕ) : ℕ → FVec F S8x2048 .f32 → Prop
  | zero : DgChain t 0 (broadcast S8x2048 (Scalar.ofBits .f32 0x00000000#32))
  | succ (k : ℕ) (A A' : FVec F S8x2048 .f32) (roff noff inb inb2 inb3)
      (hA : A' = dg16 A (fun y => ρ ((Rect.unit (s := S1792x1) roff S16x1.size inb2).idx y))
        (fun y => N ((Rect.unit (s := S1792x2048) noff S16x2048.size inb3).idx y))
        (fun y => X ((Rect.unit (s := S256x2048) ![16 * k, 0] S16x2048.size inb).idx y)))
      (hr : roff = ![256 * (t - 23) + 16 * k, 0]) (hn : noff = ![256 * (t - 23) + 16 * k, 0]) (h : DgChain t k A) : DgChain t (k + 1) A'
end

/-! Where the stores of a list go, and the lists of each part of the body. -/

/-- The `k`-th store of a list, the oldest first, goes to the offset `o k`. -/
inductive OffChain {Val : EltTy → Type} {S : Shape} {e : EltTy} (size : Fin S.rank → ℕ) (o : ℕ → Fin S.rank → ℕ) : ℕ → List (View.Piece Val S e) → Prop
  | nil : OffChain size o 0 []
  | cons (k : ℕ) (L : List (View.Piece Val S e)) (p : View.Piece Val S e) (off inb w) (hp : p = ⟨Rect.unit off size inb, w⟩) (ho : off = o k)
      (h : OffChain size o k L) : OffChain size o (k + 1) (p :: L)

/-- What the quantiser stores at point `t`. -/
structure Quant (A : S16x44.Idx → Elt F .f32) (W : S2048x256.Idx → Elt F .fp8e4m3) (X : S1792x256.Idx → Elt F .bf16) (T : S1792x44.Idx → Elt F .f32) (t : ℕ)
    (L11 : List (View.Piece (Elt F) S1792x256 .fp8e5m2)) (L12 : List (View.Piece (Elt F) S1792x44 .f32)) (L13 : List (View.Piece (Elt F) S1792x256 .fp8e5m2))
    (L14 : List (View.Piece (Elt F) S14x256 .f32)) (L17 : List (View.Piece (Elt F) S2x1792x256 .bf16)) (L18 : List (View.Piece (Elt F) S9x1792x256 .bf16))
    (L19 : List (View.Piece (Elt F) S2x2048x256 .bf16)) : Prop where
  rc : ∀ p ∈ L11, RcForm X p
  rcO : OffChain (S := S1792x256) S128x128.size (fun k => ![128 * (k / 2), 128 * (k % 2)]) 28 L11
  rs : ∀ p ∈ L12, RsForm X T (IntOp.minsi (BitVec.ofNat 32 t) 21#32) p
  rsO : OffChain (S := S1792x44) S128x44.size (fun k => ![128 * k, 0]) 14 L12
  cc : ∀ p ∈ L13, CcForm X p
  ccO : OffChain (S := S1792x256) S128x128.size (fun k => ![128 * (k / 2), 128 * (k % 2)]) 28 L13
  cs : ∀ p ∈ L14, CsForm X p
  csO : OffChain (S := S14x256) S1x128.size (fun k => ![k / 2, 128 * (k % 2)]) 28 L14
  dyq : ∀ p ∈ L17, DyqForm X (t % 2) p
  dyqO : OffChain (S := S2x1792x256) S1x128x128.size (fun k => ![t % 2, 128 * (k / 2), 128 * (k % 2)]) 28 L17
  dq : ∀ p ∈ L18, DqForm X (t % 9) p
  dqO : OffChain (S := S9x1792x256) S1x128x128.size (fun k => ![t % 9, 128 * (k / 2), 128 * (k % 2)]) 28 L18
  wq : ∀ p ∈ L19, WqForm A W (t % 2) (min t 21) p
  wqO : OffChain (S := S2x2048x256) S1x128x128.size (fun k => ![t % 2, 128 * (k / 2), 128 * (k % 2)]) 32 L19

/-- What the normalisation stores at point `t`. -/
structure Prep (X : S256x2048.Idx → Elt F .bf16) (G : S1x2048.Idx → Elt F .f32) {κ : Kind} {sp : Space} (v : View sig κ sp S14x2048 .f32) (T : S14x2048.Idx → Elt F .f32)
    {κ' : Kind} {sp' : Space} (v' : View sig κ' sp' S1792x1 .f32) (t : ℕ)
    (L9 : List (View.Piece (Elt F) S256x2048 .fp8e4m3)) (L10 : List (View.Piece (Elt F) S14x2048 .f32)) (L15 : List (View.Piece (Elt F) S2048x1792 .bf16))
    (L20 : List (View.Piece (Elt F) S1792x1 .f32)) : Prop where
  r : ∀ p ∈ L20, RForm X t p
  rO : OffChain (S := S1792x1) S16x1.size (fun k => ![256 * (t - 1) + 16 * k, 0]) 16 L20
  xc : ∀ p ∈ L9, XcForm X G (v'.read (Elt F) (v'.writes (Elt F) v'.junk L20)) t p
  xcO : OffChain (S := S256x2048) S128x128.size (fun k => ![128 * (k / 16), 128 * (k % 16)]) 32 L9
  xq : ∀ p ∈ L15, XqForm X G (v'.read (Elt F) (v'.writes (Elt F) v'.junk L20)) t p
  xqO : OffChain (S := S2048x1792) S128x128.size (fun k => ![128 * (k % 16), 256 * (t - 1) + 128 * (k / 16)]) 32 L15
  xs : ∃ L0, (∀ p ∈ L0, XsForm X G (v'.read (Elt F) (v'.writes (Elt F) v'.junk L20)) T t (IntOp.subi (BitVec.ofNat 32 t) 1#32) p)
    ∧ OffChain (S := S14x2048) S14x128.size (fun k => ![0, 128 * k]) 16 L0
    ∧ XsChain X G (v'.read (Elt F) (v'.writes (Elt F) v'.junk L20)) v t (IntOp.subi (BitVec.ofNat 32 t) 1#32) L0 16 L10

/-- The whole of an array, as a rectangle. -/
abbrev all2 {a b : ℕ} (inb : ∀ x, (![0, 0] : Fin 2 → ℕ) x + (⟨2, ![a, b]⟩ : Shape).size x ≤ (⟨2, ![a, b]⟩ : Shape).size x) : Rect ⟨2, ![a, b]⟩ :=
  Rect.unit (s := ⟨2, ![a, b]⟩) ![0, 0] (⟨2, ![a, b]⟩ : Shape).size inb

def DxnForm (A : S1792x2048.Idx → Elt F .f32) (D : S2x1792x256.Idx → Elt F .bf16) (W : S2x2048x256.Idx → Elt F .bf16) (s : ℕ) (p : View.Piece (Elt F) S1792x2048 .f32) : Prop :=
  ∃ inb offD inbD offW inbW, p = ⟨Rect.unit (s := S1792x2048) ![0, 0] S1792x2048.size inb, dxnAdd (fun y => A ((Rect.unit (s := S1792x2048) ![0, 0] S1792x2048.size inb).idx y))
      (fun y => D ((Rect.unit (s := S2x1792x256) offD S1x1792x256.size inbD).idx y)) (fun y => W ((Rect.unit (s := S2x2048x256) offW S1x2048x256.size inbW).idx y))⟩
    ∧ offD = ![s, 0, 0] ∧ offW = ![s, 0, 0]
def DwForm (X : S2048x1792.Idx → Elt F .bf16) (D : S9x1792x256.Idx → Elt F .bf16) (s : ℕ) (p : View.Piece (Elt F) S2048x256 .f32) : Prop :=
  ∃ inb inbX offD inbD, p = ⟨Rect.unit (s := S2048x256) ![0, 0] S2048x256.size inb, dwBlk (fun y => X ((Rect.unit (s := S2048x1792) ![0, 0] S2048x1792.size inbX).idx y))
      (fun y => D ((Rect.unit (s := S9x1792x256) offD S1x1792x256.size inbD).idx y))⟩ ∧ offD = ![s, 0, 0]
def DgForm (X : S256x2048.Idx → Elt F .bf16) (ρ : S1792x1.Idx → Elt F .f32) (N : S1792x2048.Idx → Elt F .f32) (old : S1x2048.Idx → Elt F .f32) (t : ℕ) (p : View.Piece (Elt F) S1x2048 .f32) : Prop :=
  ∃ inb A, p = ⟨Rect.unit (s := S1x2048) ![0, 0] S1x2048.size inb, dgOut A (fun y => old ((Rect.unit (s := S1x2048) ![0, 0] S1x2048.size inb).idx y))⟩ ∧ DgChain X ρ N t 16 A
def ZeroForm {a b : ℕ} (p : View.Piece (Elt F) ⟨2, ![a, b]⟩ .f32) : Prop :=
  ∃ inb, p = ⟨Rect.unit (s := ⟨2, ![a, b]⟩) ![0, 0] (⟨2, ![a, b]⟩ : Shape).size inb, broadcast ⟨2, ![a, b]⟩ (Scalar.ofBits .f32 0x00000000#32)⟩

end Cert.KernelIdeal.Hand

end
-- ==== Proof.Spec.lean ====
module

public import Idealize.ShloMosaic.PureOps.Ideal
public import Idealize.ShloMosaic.PureOps.Reduce
public import Idealize.ShloMosaic.Lib.Tactic

@[expose] public section

noncomputable section

namespace Cert.Spec

open Idealize.ShloMosaic Idealize.ShloMosaic.Tactic

/-! The computation on arrays indexed by natural numbers, for any scalar functions `sc` and `inv` that give the
scale of a block and its inverse. -/

abbrev Arr := ℕ → ℕ → EReal

/-- The largest of 128 magnitudes, times a constant. -/
def top (m : EReal) (v : ℕ → EReal) : EReal :=
  Finset.fold max (⊥ : EReal) (fun k : Fin 128 => max (v k.val) (-v k.val)) Finset.univ * m

/-- One over the largest number of each format. -/
def c5 : EReal := Ideal.ofBits .f32 932333861#32
def c4 : EReal := Ideal.ofBits .f32 991054117#32
def hi5 : EReal := Ideal.ofBits .f32 1197473792#32
def lo5 : EReal := Ideal.ofBits .f32 3344957440#32
def hi4 : EReal := Ideal.ofBits .f32 1138753536#32
def lo4 : EReal := Ideal.ofBits .f32 3286237184#32

/-- The two formats' clips. -/
def clip5 (v : EReal) : EReal := min hi5 (max lo5 v)
def clip4 (v : EReal) : EReal := min hi4 (max lo4 v)

/-- A column's and a row's quotients. -/
def cTop (D : Arr) (a c : ℕ) : EReal := top c5 fun k => D (128 * a + k) c
def rTop (D : Arr) (r b : ℕ) : EReal := top c5 fun k => D r (128 * b + k)
def xTop (N : Arr) (a c : ℕ) : EReal := top c4 fun k => N (128 * a + k) c

section
variable (sc inv : EReal → EReal)

def CS (D : Arr) : Arr := fun a c => sc (cTop D a c)
def CC (D : Arr) : Arr := fun r c => clip5 (D r c * inv (cTop D (r / 128) c))
def CD (D : Arr) : Arr := fun r c => CC inv D r c * CS sc D (r / 128) c
def RS (D : Arr) : Arr := fun r b => sc (rTop D r b)
def RC (D : Arr) : Arr := fun r c => clip5 (D r c * inv (rTop D r (c / 128)))
def RD (D : Arr) : Arr := fun r c => RC inv D r c * RS sc D r (c / 128)
def XS (N : Arr) : Arr := fun a c => sc (xTop N a c)
def XC (N : Arr) : Arr := fun r c => clip4 (N r c * inv (xTop N (r / 128) c))
def XD (N : Arr) : Arr := fun r c => XC inv N r c * XS sc N (r / 128) c
end

/-- The weights as the product reads them. -/
def WD (W S : Arr) : Arr := fun i c => W i c * S (i / 128) (c / 128)

/-- The norm's factor of a row. -/
def R (X : Arr) (r : ℕ) : EReal :=
  Ideal.rsqrt (Ideal.div (∑ k : Fin 2048, X r k.val * X r k.val) (Ideal.ofBits .f32 1157627904#32) + Ideal.ofBits .f32 897988541#32)

def XN (X : Arr) (g : ℕ → EReal) : Arr := fun r c => X r c * R X r * g c

/-- The first product, summed over the first `n` columns. -/
def DXN (D W : Arr) (n : ℕ) : Arr := fun r i => ∑ c ∈ Finset.range n, D r c * W i c

/-- The second product. -/
def DW (X D : Arr) : Arr := fun i c => ∑ r : Fin 1792, X r.val i * D r.val c

/-- The norm's backward. -/
def DX (X : Arr) (g : ℕ → EReal) (P : Arr) : Arr := fun r c =>
  R X r * (P r c * g c - X r c * R X r *
    Ideal.div (∑ k : Fin 2048, P r k.val * g k.val * (X r k.val * R X r)) (Ideal.ofBits .f32 1157627904#32))

/-- The weight's gradient, summed over the first `n` rows. -/
def DG (X P : Arr) (n : ℕ) : ℕ → EReal := fun c => ∑ r ∈ Finset.range n, P r c * (X r c * R X r)

/-- The exponent field of a quotient: how many powers of two are at most it. -/
def bias (y : EReal) : BitVec 32 :=
  let b := IntOp.subi (Finset.fold IntOp.addi 0#32 (fun x : Fin 256 =>
    if y < Ideal.ofBits .f32 (IntOp.shli ArithUnit.vector (BitVec.ofNat 32 x.val) 23#32) then 0#32 else 1#32) Finset.univ) 1#32
  Scalar.select (IntOp.cmpi .eq b 0#32) 126#32 b
/-- The kernel's scale and its inverse, made from that field. -/
def ksc (y : EReal) : EReal := Ideal.ofBits .f32 (IntOp.shli ArithUnit.vector (IntOp.addi (bias y) 1#32) 23#32)
def kinv (y : EReal) : EReal := Ideal.ofBits .f32 (IntOp.shli ArithUnit.vector (IntOp.subi 253#32 (bias y)) 23#32)

/-- The powers of two from `2^-125` on, the least of them above a quotient, and the scale the reference takes. -/
def pw (k : ℕ) : EReal :=
  FloatOps.exp2 (F := Ideal) (φ := .f32) (FloatOps.sitofp .f32 (IntOp.subi (BitVec.ofNat 32 k) 125#32))
def least (y : EReal) : EReal :=
  Finset.fold min (Ideal.ofBits .f32 2139095040#32)
    (fun k : Fin 253 => if y < pw k.val then pw k.val else Ideal.ofBits .f32 2139095040#32) Finset.univ
def rsc (y : EReal) : EReal := if y < Ideal.ofBits .f32 8388608#32 then Ideal.ofBits .f32 1065353216#32 else least y
def rinv (y : EReal) : EReal := Ideal.div (Ideal.ofBits .f32 1065353216#32) (rsc y)

end Cert.Spec

end
-- ==== Proof.Pieces.lean ====
module

public import proofs.«01_k».proof.Proof.Blocks
public import proofs.«01_k».proof.Proof.Spec
public import Idealize.ShloMosaic.Lib.Pipeline.ValueKit.Tiles

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pointwise Idealize.ShloMosaic.Pipeline

/-! The block functions at an index, and what a list of stores leaves when every store agrees with one relation. -/

/-- What holds of every store's payload, at its place, holds of what the list leaves, wherever a store reaches or it
held before. -/
theorem read_pieces {κ : Kind} {sp : Space} {S : Shape} {e : EltTy} {Val : EltTy → Type} (v : View sig κ sp S e) (f : v.ty.Contents Val)
    (P : S.Idx → Val e → Prop) : ∀ (L : List (View.Piece Val S e)) (_ : ∀ p ∈ L, ∀ x : p.1.shape.Idx, P (p.1.emb x) (p.2 x)) (y : S.Idx)
    (_ : (∃ p ∈ L, y ∈ p.1.set) ∨ P y (v.read Val f y)), P y (v.read Val (v.writes Val f L) y)
  | [], _, y, h => by
    rcases h with ⟨p, hp, _⟩ | h
    · simp at hp
    · exact h
  | p :: L, hL, y, h => by
    by_cases hm : y ∈ p.1.set
    · obtain ⟨x, rfl⟩ := p.1.exists_idx_of_mem hm
      rw [show p.1.idx x = p.1.emb x from rfl]
      obtain ⟨r, w⟩ := p
      rw [View.read_writes_cons_emb]
      exact hL _ List.mem_cons_self x
    · rw [View.writes_cons, View.read_slice_write_of_not_mem p.1 _ _ _ (by rwa [Rect.map_emb_univ])]
      refine read_pieces v f P L (fun q hq => hL q (List.mem_cons_of_mem _ hq)) y ?_
      rcases h with ⟨q, hq, hy⟩ | h
      · rcases List.mem_cons.mp hq with rfl | hq'
        · exact absurd hy hm
        · exact .inl ⟨q, hq', hy⟩
      · exact .inr h

/-- A block read as an array over the natural numbers. -/
def Is2 {a b : ℕ} (X : Shape.Idx ⟨2, ![a, b]⟩ → EReal) (f : Arr) : Prop := ∀ y, X y = f (y 0).val (y 1).val

theorem bot_bf16 : (Ideal.ofBits .bf16 65408#16 : EReal) = ⊥ := by simp [Ideal.ofBits, Ideal.ieee]
theorem bot_f32 : (Ideal.ofBits .f32 4286578688#32 : EReal) = ⊥ := by simp [Ideal.ofBits, Ideal.ieee]

/-- A block of 128 rows and columns of an array, from a row and a column on. -/
def At (V : S128x128.Idx → EReal) (D : Arr) (o0 o1 : ℕ) : Prop := ∀ j, V j = D (o0 + (j 0).val) (o1 + (j 1).val)

theorem colTop_at {V : Vec Ideal S128x128 .bf16} {D : Arr} {a o1 : ℕ} (h : At V D (128 * a) o1) (j : S1x128.Idx) :
    colTop V j = cTop D a (o1 + (j 1).val) := by
  pointwise [colTop]
  rw [bot_bf16]
  exact congrArg (· * c5) (congrArg (fun f => Finset.fold max ⊥ f Finset.univ) (funext fun k =>
    congrArg (fun v : EReal => max v (-v)) (h (ix2 k (j 1)))))
theorem rowTop_at {V : Vec Ideal S128x128 .bf16} {D : Arr} {b o0 : ℕ} (h : At V D o0 (128 * b)) (j : S128x1.Idx) :
    rowTop V j = rTop D (o0 + (j 0).val) b := by
  pointwise [rowTop]
  rw [bot_f32]
  exact congrArg (· * c5) (congrArg (fun f => Finset.fold max ⊥ f Finset.univ) (funext fun k =>
    congrArg (fun v : EReal => max v (-v)) (h (ix2 (j 0) k))))
theorem xTop_at {V : FVec Ideal S128x128 .f32} {D : Arr} {a o1 : ℕ} (h : At V D (128 * a) o1) (j : S1x128.Idx) :
    Hand.xTop V j = Spec.xTop D a (o1 + (j 1).val) := by
  pointwise [Hand.xTop]
  rw [bot_f32]
  exact congrArg (· * c4) (congrArg (fun f => Finset.fold max ⊥ f Finset.univ) (funext fun k =>
    congrArg (fun v : EReal => max v (-v)) (h (ix2 k (j 1)))))

theorem colScale_at (y : FVec Ideal S1x128 .f32) (j : S1x128.Idx) : colScale y j = ksc (y (ix2 0 (j 1))) := by
  pointwise [colScale, colBias]
  rfl
theorem rowScale_at (y : FVec Ideal S128x1 .f32) (j : S128x1.Idx) : rowScale y j = ksc (y (ix2 (j 0) 0)) := by
  pointwise [rowScale, rowBias]
  rfl
theorem colCode_at (V : Vec Ideal S128x128 .bf16) (j) : colCode V j = clip5 (V j * kinv (colTop V (ix2 0 (j 1)))) := by
  pointwise [colCode, clipE5, colInv, colBias]
  rfl
theorem rowCode_at (V : Vec Ideal S128x128 .bf16) (j) : rowCode V j = clip5 (V j * kinv (rowTop V (ix2 (j 0) 0))) := by
  pointwise [rowCode, clipE5, rowInv, rowBias]
  rfl
theorem xCode_at (V : FVec Ideal S128x128 .f32) (j) : xCode V j = clip4 (V j * kinv (Hand.xTop V (ix2 0 (j 1)))) := by
  pointwise [xCode, colInv, colBias]
  rfl
theorem colDeq_at (V : Vec Ideal S128x128 .bf16) (j) : colDeq V j =
    colCode V (ix2 (j 1) (j 2)) * colScale (colTop V) (ix2 0 (j 2)) := by
  pointwise [colDeq, slab]
theorem rowDeq_at (V : Vec Ideal S128x128 .bf16) (j) : rowDeq V j =
    rowCode V (ix2 (j 1) (j 2)) * rowScale (rowTop V) (ix2 (j 1) 0) := by
  pointwise [rowDeq, slab]
theorem xDeqT_at (V : FVec Ideal S128x128 .f32) (j) : xDeqT V j =
    xCode V (ix2 (j 1) (j 0)) * colScale (Hand.xTop V) (ix2 0 (j 0)) := by
  pointwise [xDeqT, k0_pay513]
theorem wDeq_at (s : EReal) (W : Vec Ideal S128x128 .fp8e4m3) (j) : wDeq s W j = W (ix2 (j 1) (j 2)) * s := by
  pointwise [wDeq, slab]
theorem rowPut_at (q : BitVec 32) (V : Vec Ideal S128x128 .bf16) (T : FVec Ideal S128x44 .f32) (j) :
    rowPut q V T j = if BitVec.ofNat 32 (j 1).val = q then rowScale (rowTop V) (ix2 (j 0) 0) else T j := by
  pointwise [rowPut]
  by_cases h : BitVec.ofNat 32 (j 1).val = q
  · simp [Scalar.select, IntOp.cmpi, h]
  · simp [Scalar.select, IntOp.cmpi, h, beq_false_of_ne h]
theorem xPut_at (q : BitVec 32) (V : FVec Ideal S128x128 .f32) (T : Vec Ideal S14x128 .f32) (j) :
    xPut q V T j = if BitVec.ofNat 32 (j 0).val = q then colScale (Hand.xTop V) (ix2 0 (j 1)) else T j := by
  pointwise [xPut]
  by_cases h : BitVec.ofNat 32 (j 0).val = q
  · simp [Scalar.select, IntOp.cmpi, h]
  · simp [Scalar.select, IntOp.cmpi, h, beq_false_of_ne h]
theorem xnBlk_at (r : Vec Ideal S128x1 .f32) (X : Vec Ideal S128x128 .bf16) (g : Vec Ideal S1x128 .f32) (j) :
    xnBlk r X g j = X j * r (ix2 (j 0) 0) * g (ix2 0 (j 1)) := by
  pointwise [xnBlk, k0_pay507]
theorem normR_at (X : Vec Ideal S16x2048 .bf16) (j) : normR X j =
    Ideal.rsqrt (Ideal.div (∑ k, X (ix2 (j 0) k) * X (ix2 (j 0) k)) (Ideal.ofBits .f32 1157627904#32) + Ideal.ofBits .f32 897988541#32) := by
  pointwise [normR, k0_pay491]
theorem dxnAdd_at (A D W) (j : S1792x2048.Idx) : dxnAdd (F := Ideal) A D W j = A j + ∑ x, D (ix3 0 (j 0) x) * W (ix3 0 (j 1) x) := by
  pointwise [dxnAdd, k0_pay483]
theorem dwBlk_at (X D) (j : S2048x256.Idx) : dwBlk (F := Ideal) X D j = ∑ x, X (ix2 (j 0) x) * D (ix3 0 x (j 1)) := by
  pointwise [dwBlk, k0_pay1228]
theorem dx16_at (g r D X) (j : S16x2048.Idx) : dx16 (F := Ideal) g r D X j =
    r (ix2 (j 0) 0) * (D j * g (ix2 0 (j 1)) - X j * r (ix2 (j 0) 0) *
      Ideal.div (∑ x, D (ix2 (j 0) x) * g (ix2 0 x) * (X (ix2 (j 0) x) * r (ix2 (j 0) 0))) (Ideal.ofBits .f32 1157627904#32)) := by
  pointwise [dx16, k0_pay4, k0_pay1707, xhat16, k0_pay1709]
theorem dg16_at (A r D X) (j : S8x2048.Idx) : dg16 (F := Ideal) A r D X j = A j + ∑ x : Fin 2,
    D (ix2 ⟨x.val * 8 + (j 0).val, by have := (j 0).isLt; have := x.isLt; show _ < 16; change _ < 8 at *; omega⟩ (j 1)) *
      (X (ix2 ⟨x.val * 8 + (j 0).val, by have := (j 0).isLt; have := x.isLt; show _ < 16; change _ < 8 at *; omega⟩ (j 1)) *
        r (ix2 ⟨x.val * 8 + (j 0).val, by have := (j 0).isLt; have := x.isLt; show _ < 16; change _ < 8 at *; omega⟩ 0)) := by
  pointwise [dg16, xhat16, k0_pay1709]
theorem dgOut_at (A old) (j : S1x2048.Idx) : dgOut (F := Ideal) A old j = old j + ∑ x, A (ix2 x (j 1)) := by
  pointwise [dgOut]

/-! ## The block functions of a block of an array -/

section
variable {V : S128x128.Idx → EReal} {D : Arr} {a b o0 o1 : ℕ}

theorem cs_at (h : At V D (128 * a) o1) (j : S1x128.Idx) : colScale (F := Ideal) (colTop V) j = CS ksc D a (o1 + (j 1).val) := by
  rw [colScale_at, colTop_at h]; rfl
theorem cc_at (h : At V D (128 * a) o1) (j : S128x128.Idx) : colCode (F := Ideal) V j = CC kinv D (128 * a + (j 0).val) (o1 + (j 1).val) := by
  have h0 : (j 0).val < 128 := (j 0).isLt
  rw [colCode_at, colTop_at h, h j, CC, show (128 * a + (j 0).val) / 128 = a by omega]; rfl
theorem cd_at (h : At V D (128 * a) o1) (j : S1x128x128.Idx) : colDeq (F := Ideal) V j = CD ksc kinv D (128 * a + (j 1).val) (o1 + (j 2).val) := by
  have h0 : (j 1).val < 128 := (j 1).isLt
  rw [colDeq_at, cc_at h, cs_at h, CD, show (128 * a + (j 1).val) / 128 = a by omega]; rfl
theorem rs_at (h : At V D o0 (128 * b)) (j : S128x1.Idx) : rowScale (F := Ideal) (rowTop V) j = RS ksc D (o0 + (j 0).val) b := by
  rw [rowScale_at, rowTop_at h]; rfl
theorem rc_at (h : At V D o0 (128 * b)) (j : S128x128.Idx) : rowCode (F := Ideal) V j = RC kinv D (o0 + (j 0).val) (128 * b + (j 1).val) := by
  have h0 : (j 1).val < 128 := (j 1).isLt
  rw [rowCode_at, rowTop_at h, h j, RC, show (128 * b + (j 1).val) / 128 = b by omega]; rfl
theorem rd_at (h : At V D o0 (128 * b)) (j : S1x128x128.Idx) : rowDeq (F := Ideal) V j = RD ksc kinv D (o0 + (j 1).val) (128 * b + (j 2).val) := by
  have h0 : (j 2).val < 128 := (j 2).isLt
  rw [rowDeq_at, rc_at h, rs_at h, RD, show (128 * b + (j 2).val) / 128 = b by omega]; rfl
theorem xs_at (h : At V D (128 * a) o1) (j : S1x128.Idx) : colScale (F := Ideal) (Hand.xTop V) j = XS ksc D a (o1 + (j 1).val) := by
  rw [colScale_at, xTop_at h]; rfl
theorem xc_at (h : At V D (128 * a) o1) (j : S128x128.Idx) : xCode (F := Ideal) V j = XC kinv D (128 * a + (j 0).val) (o1 + (j 1).val) := by
  have h0 : (j 0).val < 128 := (j 0).isLt
  rw [xCode_at, xTop_at h, h j, XC, show (128 * a + (j 0).val) / 128 = a by omega]; rfl
theorem xd_at (h : At V D (128 * a) o1) (j : S128x128.Idx) : xDeqT (F := Ideal) V j = XD ksc kinv D (128 * a + (j 1).val) (o1 + (j 0).val) := by
  have h0 : (j 1).val < 128 := (j 1).isLt
  rw [xDeqT_at, xc_at h, xs_at h, XD, show (128 * a + (j 1).val) / 128 = a by omega]; rfl
theorem wd_at {S : Arr} {s : EReal} (h : At V D (128 * a) (128 * b)) (hs : s = S a b) (j : S1x128x128.Idx) :
    wDeq (F := Ideal) s V j = WD D S (128 * a + (j 1).val) (128 * b + (j 2).val) := by
  have h0 : (j 1).val < 128 := (j 1).isLt
  have h1 : (j 2).val < 128 := (j 2).isLt
  rw [wDeq_at, h, hs, WD, show (128 * b + (j 2).val) / 128 = b by omega, show (128 * a + (j 1).val) / 128 = a by omega]; rfl
end

/-! ## What a store puts at its place -/

section
variable {X : S1792x256.Idx → EReal} {D : Arr} {n : ℕ} (hD : Is2 X (fun r c => D r (256 * n + c)))
include hD

theorem at_blk {o0 o1 : ℕ} (inb) : At (fun y => X ((Rect.unit (s := S1792x256) ![o0, o1] S128x128.size inb).idx y)) D o0 (256 * n + o1) := by
  intro j
  refine (hD _).trans (congrArg₂ D ?_ ?_) <;> simp only [Rect.idx_unit_val, Nat.add_assoc] <;> rfl

theorem at_blk' {o0 o1 p0 : ℕ} (inb) (h : o1 = 128 * p0) :
    At (fun y => X ((Rect.unit (s := S1792x256) ![o0, o1] S128x128.size inb).idx y)) D o0 (128 * (2 * n + p0)) := by
  have e := at_blk hD inb
  rwa [show 256 * n + o1 = 128 * (2 * n + p0) by omega] at e

variable {o0 o1 p0 : ℕ} {inb : ∀ a, (![o0, o1] : Fin 2 → ℕ) a + S128x128.size a ≤ S1792x256.size a}

theorem cs_piece (h : o0 = 128 * p0) {inb'} (x : S1x128.Idx) :
    colScale (F := Ideal) (colTop (fun y => X ((Rect.unit (s := S1792x256) ![o0, o1] S128x128.size inb).idx y))) x
      = CS ksc D ((Rect.unit (s := S14x256) ![p0, o1] S1x128.size inb').idx x 0).val (256 * n + ((Rect.unit (s := S14x256) ![p0, o1] S1x128.size inb').idx x 1).val) := by
  subst h
  refine (cs_at (at_blk hD _) x).trans (congrArg₂ _ ?_ ?_) <;> simp only [Rect.idx_unit_val, Nat.add_assoc]
  · have h0 : (x 0).val < 1 := (x 0).isLt
    show p0 = p0 + (x 0).val; omega
  · rfl

theorem cc_piece (h : o0 = 128 * p0) {inb'} (x : S128x128.Idx) :
    colCode (F := Ideal) (fun y => X ((Rect.unit (s := S1792x256) ![o0, o1] S128x128.size inb).idx y)) x
      = CC kinv D ((Rect.unit (s := S1792x256) ![o0, o1] S128x128.size inb').idx x 0).val (256 * n + ((Rect.unit (s := S1792x256) ![o0, o1] S128x128.size inb').idx x 1).val) := by
  subst h
  refine (cc_at (at_blk hD _) x).trans (congrArg₂ _ ?_ ?_) <;> simp only [Rect.idx_unit_val, Nat.add_assoc] <;> rfl

theorem rc_piece (h : o1 = 128 * p0) {inb'} (x : S128x128.Idx) :
    rowCode (F := Ideal) (fun y => X ((Rect.unit (s := S1792x256) ![o0, o1] S128x128.size inb).idx y)) x
      = RC kinv D ((Rect.unit (s := S1792x256) ![o0, o1] S128x128.size inb').idx x 0).val (256 * n + ((Rect.unit (s := S1792x256) ![o0, o1] S128x128.size inb').idx x 1).val) := by
  refine (rc_at (at_blk' hD _ h) x).trans (congrArg₂ _ ?_ ?_) <;> simp only [Rect.idx_unit_val, Nat.add_assoc]
  · rfl
  · show 128 * (2 * n + p0) + (x 1).val = 256 * n + (o1 + (x 1).val); omega

theorem dq_piece {s : ℕ} {off : Fin 3 → ℕ} (ho : off = ![s, o0, o1]) (h : o0 = 128 * p0) {inb'} (x : S1x128x128.Idx) :
    ((Rect.unit (s := S9x1792x256) off S1x128x128.size inb').idx x 0).val = s ∧
    colDeq (F := Ideal) (fun y => X ((Rect.unit (s := S1792x256) ![o0, o1] S128x128.size inb).idx y)) x
      = CD ksc kinv D ((Rect.unit (s := S9x1792x256) off S1x128x128.size inb').idx x 1).val (256 * n + ((Rect.unit (s := S9x1792x256) off S1x128x128.size inb').idx x 2).val) := by
  subst h ho
  have h0 : (x 0).val < 1 := (x 0).isLt
  refine ⟨?_, (cd_at (at_blk hD _) x).trans (congrArg₂ _ ?_ ?_)⟩ <;> simp only [Rect.idx_unit_val, Nat.add_assoc]
  · show s + (x 0).val = s; omega
  · rfl
  · rfl

theorem dyq_piece {s : ℕ} {off : Fin 3 → ℕ} (ho : off = ![s, o0, o1]) (h : o1 = 128 * p0) {inb'} (x : S1x128x128.Idx) :
    ((Rect.unit (s := S2x1792x256) off S1x128x128.size inb').idx x 0).val = s ∧
    rowDeq (F := Ideal) (fun y => X ((Rect.unit (s := S1792x256) ![o0, o1] S128x128.size inb).idx y)) x
      = RD ksc kinv D ((Rect.unit (s := S2x1792x256) off S1x128x128.size inb').idx x 1).val (256 * n + ((Rect.unit (s := S2x1792x256) off S1x128x128.size inb').idx x 2).val) := by
  subst ho
  have h0 : (x 0).val < 1 := (x 0).isLt
  refine ⟨?_, (rd_at (at_blk' hD _ h) x).trans (congrArg₂ _ ?_ ?_)⟩ <;> simp only [Rect.idx_unit_val, Nat.add_assoc]
  · show s + (x 0).val = s; omega
  · rfl
  · show 128 * (2 * n + p0) + (x 2).val = 256 * n + (o1 + (x 2).val); omega

end

theorem wq_piece {W : S2048x256.Idx → EReal} {WA SA : Arr} {n : ℕ} (hW : Is2 W (fun r c => WA r (256 * n + c)))
    {o0 o1 p0 p1 s : ℕ} {inb} {off : Fin 3 → ℕ} (ho : off = ![s, o0, o1]) (h0 : o0 = 128 * p0) (h1 : o1 = 128 * p1)
    {sv : EReal} (hs : sv = SA p0 (2 * n + p1)) {inb'} (x : S1x128x128.Idx) :
    ((Rect.unit (s := S2x2048x256) off S1x128x128.size inb').idx x 0).val = s ∧
    wDeq (F := Ideal) sv (fun y => W ((Rect.unit (s := S2048x256) ![o0, o1] S128x128.size inb).idx y)) x
      = WD WA SA ((Rect.unit (s := S2x2048x256) off S1x128x128.size inb').idx x 1).val (256 * n + ((Rect.unit (s := S2x2048x256) off S1x128x128.size inb').idx x 2).val) := by
  subst h0 h1 ho
  have e : At (fun y => W ((Rect.unit (s := S2048x256) ![128 * p0, 128 * p1] S128x128.size inb).idx y)) WA (128 * p0) (128 * (2 * n + p1)) := by
    intro j
    refine (hW _).trans (congrArg₂ WA ?_ ?_) <;> simp only [Rect.idx_unit_val, Nat.add_assoc]
    · rfl
    · show 256 * n + (128 * p1 + (j 1).val) = 128 * (2 * n + p1) + (j 1).val; omega
  have h0 : (x 0).val < 1 := (x 0).isLt
  refine ⟨?_, (wd_at e hs x).trans (congrArg₂ _ ?_ ?_)⟩ <;> simp only [Rect.idx_unit_val, Nat.add_assoc]
  · show s + (x 0).val = s; omega
  · rfl
  · show 128 * (2 * n + p1) + (x 2).val = 256 * n + (128 * p1 + (x 2).val); omega

end Cert.KernelIdeal.Hand

end
-- ==== Proof.QuantVal.lean ====
module

public import proofs.«01_k».proof.Proof.Forms
public import proofs.«01_k».proof.Proof.Pieces
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pointwise Idealize.ShloMosaic.Pipeline

/-! What each part of the body leaves, over the extended reals, in terms of the arrays. -/

theorem OffChain.mem {Val : EltTy → Type} {S : Shape} {e : EltTy} {size : Fin S.rank → ℕ} {o : ℕ → Fin S.rank → ℕ} {n : ℕ} {L : List (View.Piece Val S e)}
    (h : OffChain size o n L) : ∀ k < n, ∃ p ∈ L, ∀ y : S.Idx, (∀ a, o k a ≤ (y a).val ∧ (y a).val < o k a + size a) → y ∈ p.1.set := by
  induction h with
  | nil => intro k hk; omega
  | cons k L p off inb w hp ho h ih =>
    intro j hj
    rcases Nat.lt_succ_iff_lt_or_eq.1 hj with hj | rfl
    · obtain ⟨q, hq, hy⟩ := ih j hj
      exact ⟨q, List.mem_cons_of_mem _ hq, hy⟩
    · refine ⟨p, List.mem_cons_self, fun y hy => ?_⟩
      subst hp ho
      exact (Rect.mem_set_unit (inb := inb)).2 hy

theorem read_forms {κ : Kind} {sp : Space} {S : Shape} {e : EltTy} {Val : EltTy → Type} (v : View sig κ sp S e) (f : v.ty.Contents Val)
    (P : S.Idx → Val e → Prop) {size : Fin S.rank → ℕ} {o : ℕ → Fin S.rank → ℕ} {n : ℕ} {L : List (View.Piece Val S e)} (hO : OffChain size o n L)
    (hL : ∀ p ∈ L, ∀ x : p.1.shape.Idx, P (p.1.idx x) (p.2 x)) (y : S.Idx)
    (hy : (∃ k < n, ∀ a, o k a ≤ (y a).val ∧ (y a).val < o k a + size a) ∨ P y (v.read Val f y)) : P y (v.read Val (v.writes Val f L) y) :=
  read_pieces v f P L hL y (hy.imp_left fun ⟨k, hk, h⟩ => by
    obtain ⟨p, hp, hm⟩ := hO.mem k hk
    exact ⟨p, hp, hm y h⟩)

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem qword (t : ℕ) (ht : t < 30) (b : ℕ) (hb : b < 2) :
    IntOp.addi (IntOp.muli (IntOp.minsi (BitVec.ofNat 32 t) 21#32) 2#32) (BitVec.ofNat 32 b) = BitVec.ofNat 32 (2 * min t 21 + b) := by
  have : ∀ t : Fin 30, ∀ b : Fin 2, IntOp.addi (IntOp.muli (IntOp.minsi (BitVec.ofNat 32 t.val) 21#32) 2#32) (BitVec.ofNat 32 b.val) = BitVec.ofNat 32 (2 * min t.val 21 + b.val) := by decide
  exact this ⟨t, ht⟩ ⟨b, hb⟩
theorem qword' (t : ℕ) (h1 : 1 ≤ t) (ht : t < 30) (b : ℕ) (hb : b < 2) :
    IntOp.addi (IntOp.muli (IntOp.subi (BitVec.ofNat 32 t) 1#32) 2#32) (BitVec.ofNat 32 b) = BitVec.ofNat 32 (2 * (t - 1) + b) := by
  have : ∀ t : Fin 30, 1 ≤ t.val → ∀ b : Fin 2, IntOp.addi (IntOp.muli (IntOp.subi (BitVec.ofNat 32 t.val) 1#32) 2#32) (BitVec.ofNat 32 b.val) = BitVec.ofNat 32 (2 * (t.val - 1) + b.val) := by decide
  exact this ⟨t, ht⟩ h1 ⟨b, hb⟩

section
variable {A : S16x44.Idx → EReal} {W : S2048x256.Idx → EReal} {X : S1792x256.Idx → EReal} {T : S1792x44.Idx → EReal} {t : ℕ}
    {L11 : List (View.Piece (Elt Ideal) S1792x256 .fp8e5m2)} {L12 : List (View.Piece (Elt Ideal) S1792x44 .f32)} {L13 : List (View.Piece (Elt Ideal) S1792x256 .fp8e5m2)}
    {L14 : List (View.Piece (Elt Ideal) S14x256 .f32)} {L17 : List (View.Piece (Elt Ideal) S2x1792x256 .bf16)} {L18 : List (View.Piece (Elt Ideal) S9x1792x256 .bf16)}
    {L19 : List (View.Piece (Elt Ideal) S2x2048x256 .bf16)}
  (Q : Quant (F := Ideal) A W X T t L11 L12 L13 L14 L17 L18 L19)
  {D WA SA : Arr} {n : ℕ} (hn : n = min t 21) (hX : Is2 X (fun r c => D r (256 * n + c))) (hW : Is2 W (fun r c => WA r (256 * n + c))) (hA : Is2 A SA)
include Q

section
include hX
theorem Quant.rc_val {sp : Space} (v : View sig .tc sp S1792x256 .fp8e5m2) (f : v.ty.Contents (Elt Ideal)) :
    Is2 (v.read (Elt Ideal) (v.writes (Elt Ideal) f L11)) (fun r c => RC kinv D r (256 * n + c)) := by
  intro y
  refine read_forms v f (fun y w => w = RC kinv D (y 0).val (256 * n + (y 1).val)) Q.rcO (fun p hp x => ?_) y (.inl ⟨2 * ((y 0).val / 128) + (y 1).val / 128, ?_, ?_⟩)
  · obtain ⟨o0, o1, inb, inb', rfl, h⟩ := Q.rc p hp
    exact rc_piece hX h (inb' := inb') x
  · have h0 : (y 0).val < 1792 := (y 0).isLt
    have h1 : (y 1).val < 256 := (y 1).isLt
    omega
  · have h0 : (y 0).val < 1792 := (y 0).isLt
    have h1 : (y 1).val < 256 := (y 1).isLt
    intro a; fin_cases a
    · show 128 * ((2 * ((y 0).val / 128) + (y 1).val / 128) / 2) ≤ (y 0).val ∧ (y 0).val < 128 * ((2 * ((y 0).val / 128) + (y 1).val / 128) / 2) + 128; omega
    · show 128 * ((2 * ((y 0).val / 128) + (y 1).val / 128) % 2) ≤ (y 1).val ∧ (y 1).val < 128 * ((2 * ((y 0).val / 128) + (y 1).val / 128) % 2) + 128; omega
theorem Quant.cc_val {sp : Space} (v : View sig .tc sp S1792x256 .fp8e5m2) (f : v.ty.Contents (Elt Ideal)) :
    Is2 (v.read (Elt Ideal) (v.writes (Elt Ideal) f L13)) (fun r c => CC kinv D r (256 * n + c)) := by
  intro y
  refine read_forms v f (fun y w => w = CC kinv D (y 0).val (256 * n + (y 1).val)) Q.ccO (fun p hp x => ?_) y (.inl ⟨2 * ((y 0).val / 128) + (y 1).val / 128, ?_, ?_⟩)
  · obtain ⟨o0, o1, inb, inb', rfl, h⟩ := Q.cc p hp
    exact cc_piece hX h (inb' := inb') x
  · have h0 : (y 0).val < 1792 := (y 0).isLt
    have h1 : (y 1).val < 256 := (y 1).isLt
    omega
  · have h0 : (y 0).val < 1792 := (y 0).isLt
    have h1 : (y 1).val < 256 := (y 1).isLt
    intro a; fin_cases a
    · show 128 * ((2 * ((y 0).val / 128) + (y 1).val / 128) / 2) ≤ (y 0).val ∧ (y 0).val < 128 * ((2 * ((y 0).val / 128) + (y 1).val / 128) / 2) + 128; omega
    · show 128 * ((2 * ((y 0).val / 128) + (y 1).val / 128) % 2) ≤ (y 1).val ∧ (y 1).val < 128 * ((2 * ((y 0).val / 128) + (y 1).val / 128) % 2) + 128; omega
theorem Quant.cs_val {sp : Space} (v : View sig .tc sp S14x256 .f32) (f : v.ty.Contents (Elt Ideal)) :
    Is2 (v.read (Elt Ideal) (v.writes (Elt Ideal) f L14)) (fun r c => CS ksc D r (256 * n + c)) := by
  intro y
  refine read_forms v f (fun y w => w = CS ksc D (y 0).val (256 * n + (y 1).val)) Q.csO (fun p hp x => ?_) y (.inl ⟨2 * (y 0).val + (y 1).val / 128, ?_, ?_⟩)
  · obtain ⟨p0, o0, o1, inb, inb', rfl, h⟩ := Q.cs p hp
    exact cs_piece hX h (inb' := inb') x
  · have h0 : (y 0).val < 14 := (y 0).isLt
    have h1 : (y 1).val < 256 := (y 1).isLt
    omega
  · have h0 : (y 0).val < 14 := (y 0).isLt
    have h1 : (y 1).val < 256 := (y 1).isLt
    intro a; fin_cases a
    · show (2 * (y 0).val + (y 1).val / 128) / 2 ≤ (y 0).val ∧ (y 0).val < (2 * (y 0).val + (y 1).val / 128) / 2 + 1; omega
    · show 128 * ((2 * (y 0).val + (y 1).val / 128) % 2) ≤ (y 1).val ∧ (y 1).val < 128 * ((2 * (y 0).val + (y 1).val / 128) % 2) + 128; omega
theorem Quant.dyq_val {sp : Space} (v : View sig .tc sp S2x1792x256 .bf16) (f : v.ty.Contents (Elt Ideal)) (y) :
    ((y 0).val = t % 2 → v.read (Elt Ideal) (v.writes (Elt Ideal) f L17) y = RD ksc kinv D (y 1).val (256 * n + (y 2).val)) ∧
    ((y 0).val ≠ t % 2 → v.read (Elt Ideal) (v.writes (Elt Ideal) f L17) y = v.read (Elt Ideal) f y) := by
  refine read_forms v f (fun y w => ((y 0).val = t % 2 → w = RD ksc kinv D (y 1).val (256 * n + (y 2).val)) ∧ ((y 0).val ≠ t % 2 → w = v.read (Elt Ideal) f y))
    Q.dyqO (fun p hp x => ?_) y ?_
  · obtain ⟨o0, o1, off, inb, inb', rfl, ho, h⟩ := Q.dyq p hp
    have := dyq_piece hX (inb := inb) ho h (inb' := inb') x
    exact ⟨fun _ => this.2, fun h => absurd this.1 h⟩
  · by_cases hs : (y 0).val = t % 2
    · left
      have h0 : (y 1).val < 1792 := (y 1).isLt
      have h1 : (y 2).val < 256 := (y 2).isLt
      refine ⟨2 * ((y 1).val / 128) + (y 2).val / 128, by omega, ?_⟩
      intro a; fin_cases a
      · show t % 2 ≤ (y 0).val ∧ (y 0).val < t % 2 + 1; omega
      · show 128 * ((2 * ((y 1).val / 128) + (y 2).val / 128) / 2) ≤ (y 1).val ∧ (y 1).val < 128 * ((2 * ((y 1).val / 128) + (y 2).val / 128) / 2) + 128; omega
      · show 128 * ((2 * ((y 1).val / 128) + (y 2).val / 128) % 2) ≤ (y 2).val ∧ (y 2).val < 128 * ((2 * ((y 1).val / 128) + (y 2).val / 128) % 2) + 128; omega
    · exact .inr ⟨fun h => absurd h hs, fun _ => rfl⟩
theorem Quant.dq_val {sp : Space} (v : View sig .tc sp S9x1792x256 .bf16) (f : v.ty.Contents (Elt Ideal)) (y) :
    ((y 0).val = t % 9 → v.read (Elt Ideal) (v.writes (Elt Ideal) f L18) y = CD ksc kinv D (y 1).val (256 * n + (y 2).val)) ∧
    ((y 0).val ≠ t % 9 → v.read (Elt Ideal) (v.writes (Elt Ideal) f L18) y = v.read (Elt Ideal) f y) := by
  refine read_forms v f (fun y w => ((y 0).val = t % 9 → w = CD ksc kinv D (y 1).val (256 * n + (y 2).val)) ∧ ((y 0).val ≠ t % 9 → w = v.read (Elt Ideal) f y))
    Q.dqO (fun p hp x => ?_) y ?_
  · obtain ⟨o0, o1, off, inb, inb', rfl, ho, h⟩ := Q.dq p hp
    have := dq_piece hX (inb := inb) ho h (inb' := inb') x
    exact ⟨fun _ => this.2, fun h => absurd this.1 h⟩
  · by_cases hs : (y 0).val = t % 9
    · left
      have h0 : (y 1).val < 1792 := (y 1).isLt
      have h1 : (y 2).val < 256 := (y 2).isLt
      refine ⟨2 * ((y 1).val / 128) + (y 2).val / 128, by omega, ?_⟩
      intro a; fin_cases a
      · show t % 9 ≤ (y 0).val ∧ (y 0).val < t % 9 + 1; omega
      · show 128 * ((2 * ((y 1).val / 128) + (y 2).val / 128) / 2) ≤ (y 1).val ∧ (y 1).val < 128 * ((2 * ((y 1).val / 128) + (y 2).val / 128) / 2) + 128; omega
      · show 128 * ((2 * ((y 1).val / 128) + (y 2).val / 128) % 2) ≤ (y 2).val ∧ (y 2).val < 128 * ((2 * ((y 1).val / 128) + (y 2).val / 128) % 2) + 128; omega
    · exact .inr ⟨fun h => absurd h hs, fun _ => rfl⟩
include hn in
theorem Quant.rs_val {sp : Space} (v : View sig .tc sp S1792x44 .f32) (f : v.ty.Contents (Elt Ideal)) (hT : T = v.read (Elt Ideal) f) (ht : t < 30) {b : ℕ}
    (hb : ∀ y, (y 1).val < b → T y = RS ksc D (y 0).val (y 1).val) (y) (hy : (y 1).val < b ∨ (y 1).val = 2 * n ∨ (y 1).val = 2 * n + 1) :
    v.read (Elt Ideal) (v.writes (Elt Ideal) f L12) y = RS ksc D (y 0).val (y 1).val := by
  refine read_forms v f (fun y w => ((y 1).val < b ∨ (y 1).val = 2 * n ∨ (y 1).val = 2 * n + 1) → w = RS ksc D (y 0).val (y 1).val)
    Q.rsO (fun p hp x => ?_) y (.inl ⟨(y 0).val / 128, ?_, ?_⟩) hy
  · obtain ⟨o0, inb0, inb1, inb', rfl⟩ := Q.rs p hp
    have hx1 : (x 1).val < 44 := (x 1).isLt
    have e0 : ((Rect.unit (s := S1792x44) ![o0, 0] S128x44.size inb').idx x 0).val = o0 + (x 0).val := Rect.idx_unit_val ..
    have e1 : ((Rect.unit (s := S1792x44) ![o0, 0] S128x44.size inb').idx x 1).val = (x 1).val := (Rect.idx_unit_val ..).trans (Nat.zero_add _)
    intro hy
    rw [e1] at hy
    show rowPut (F := Ideal) _ _ _ x = _
    rw [rowPut_at, rowPut_at, qword t ht 1 (by omega), qword t ht 0 (by omega), e0, e1]
    have i1 := ofNat_inj (a := (x 1).val) (b := 2 * min t 21 + 1) (by omega) (by omega)
    have i0 := ofNat_inj (a := (x 1).val) (b := 2 * min t 21 + 0) (by omega) (by omega)
    have a1 := at_blk' hX inb1 (p0 := 1) rfl
    have a0 := at_blk' hX inb0 (p0 := 0) rfl
    subst hn
    by_cases c1 : (x 1).val = 2 * min t 21 + 1
    · rw [if_pos (i1.2 c1), c1]
      exact rs_at a1 (ix2 (x 0) 0)
    · rw [if_neg (mt i1.1 c1)]
      by_cases c0 : (x 1).val = 2 * min t 21 + 0
      · rw [if_pos (i0.2 c0), c0]
        exact rs_at a0 (ix2 (x 0) 0)
      · rw [if_neg (mt i0.1 c0)]
        have : (x 1).val < b := by omega
        refine Eq.trans ?_ ((hb ((Rect.unit (s := S1792x44) ![o0, 0] S128x44.size inb').idx x) (by rw [e1]; exact this)).trans (by rw [e0, e1]))
        pointwise
  · have h0 : (y 0).val < 1792 := (y 0).isLt
    omega
  · intro a; fin_cases a
    · show 128 * ((y 0).val / 128) ≤ (y 0).val ∧ (y 0).val < 128 * ((y 0).val / 128) + 128; omega
    · have h1 : (y 1).val < 44 := (y 1).isLt
      exact ⟨Nat.zero_le _, by show (y 1).val < 0 + 44; omega⟩
end

include hn hW hA in
theorem Quant.wq_val {sp : Space} (v : View sig .tc sp S2x2048x256 .bf16) (f : v.ty.Contents (Elt Ideal)) (y) :
    ((y 0).val = t % 2 → v.read (Elt Ideal) (v.writes (Elt Ideal) f L19) y = WD WA SA (y 1).val (256 * n + (y 2).val)) ∧
    ((y 0).val ≠ t % 2 → v.read (Elt Ideal) (v.writes (Elt Ideal) f L19) y = v.read (Elt Ideal) f y) := by
  refine read_forms v f (fun y w => ((y 0).val = t % 2 → w = WD WA SA (y 1).val (256 * n + (y 2).val)) ∧ ((y 0).val ≠ t % 2 → w = v.read (Elt Ideal) f y))
    Q.wqO (fun p hp x => ?_) y ?_
  · obtain ⟨o0, o1, off, soff, inb, inb', inb'', hh, rfl, ho, hs, h0, h1⟩ := Q.wq p hp
    have := wq_piece hW (inb := inb) ho h0 h1 (sv := A ((Rect.unit (s := S16x44) soff S1x1.size inb'').idx (Shape.Idx.first hh))) (SA := SA) (by
      subst hs hn
      rw [hA]
      refine congrArg₂ SA ?_ ?_ <;> rw [Rect.idx_unit_val] <;> rfl) (inb' := inb') x
    exact ⟨fun _ => this.2, fun h => absurd this.1 h⟩
  · by_cases hs : (y 0).val = t % 2
    · left
      have h0 : (y 1).val < 2048 := (y 1).isLt
      have h1 : (y 2).val < 256 := (y 2).isLt
      refine ⟨2 * ((y 1).val / 128) + (y 2).val / 128, by omega, ?_⟩
      intro a; fin_cases a
      · show t % 2 ≤ (y 0).val ∧ (y 0).val < t % 2 + 1; omega
      · show 128 * ((2 * ((y 1).val / 128) + (y 2).val / 128) / 2) ≤ (y 1).val ∧ (y 1).val < 128 * ((2 * ((y 1).val / 128) + (y 2).val / 128) / 2) + 128; omega
      · show 128 * ((2 * ((y 1).val / 128) + (y 2).val / 128) % 2) ≤ (y 2).val ∧ (y 2).val < 128 * ((2 * ((y 1).val / 128) + (y 2).val / 128) % 2) + 128; omega
    · exact .inr ⟨fun h => absurd h hs, fun _ => rfl⟩
end

end Cert.KernelIdeal.Hand

end
-- ==== Proof.PrepVal.lean ====
module

public import proofs.«01_k».proof.Proof.QuantVal
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pointwise Idealize.ShloMosaic.Pipeline

/-! What the normalisation and the products leave, over the extended reals, in terms of the arrays. -/

section
variable {X : S256x2048.Idx → EReal} {G : S1x2048.Idx → EReal} {κ : Kind} {sp : Space} {v : View sig κ sp S14x2048 .f32} {T : S14x2048.Idx → EReal}
    {κ' : Kind} {sp' : Space} {v' : View sig κ' sp' S1792x1 .f32} {t : ℕ}
    {L9 : List (View.Piece (Elt Ideal) S256x2048 .fp8e4m3)} {L10 : List (View.Piece (Elt Ideal) S14x2048 .f32)} {L15 : List (View.Piece (Elt Ideal) S2048x1792 .bf16)}
    {L20 : List (View.Piece (Elt Ideal) S1792x1 .f32)}
  (Q : Prep (F := Ideal) X G v T v' t L9 L10 L15 L20)
  {XA : Arr} {g : ℕ → EReal} (h1 : 1 ≤ t) (ht : t < 8) (hX : Is2 X (fun r c => XA (256 * (t - 1) + r) c)) (hG : Is2 G (fun _ c => g c))

section
include Q hX
theorem Prep.r_val {κ : Kind} {sp : Space} (w : View sig κ sp S1792x1 .f32) (f : w.ty.Contents (Elt Ideal)) (y) :
    (256 * (t - 1) ≤ (y 0).val ∧ (y 0).val < 256 * (t - 1) + 256 → w.read (Elt Ideal) (w.writes (Elt Ideal) f L20) y = R XA (y 0).val) ∧
    (¬ (256 * (t - 1) ≤ (y 0).val ∧ (y 0).val < 256 * (t - 1) + 256) → w.read (Elt Ideal) (w.writes (Elt Ideal) f L20) y = w.read (Elt Ideal) f y) := by
  refine read_forms w f (fun y u => (256 * (t - 1) ≤ (y 0).val ∧ (y 0).val < 256 * (t - 1) + 256 → u = R XA (y 0).val) ∧
    (¬ (256 * (t - 1) ≤ (y 0).val ∧ (y 0).val < 256 * (t - 1) + 256) → u = w.read (Elt Ideal) f y)) Q.rO (fun p hp x => ?_) y ?_
  · obtain ⟨o0, off, inb, inb', rfl, ho⟩ := Q.r p hp
    subst ho
    have hx : (x 0).val < 16 := (x 0).isLt
    have hi : o0 + 16 ≤ 256 := inb 0
    have e0 : ((Rect.unit (s := S1792x1) ![256 * (t - 1) + o0, 0] S16x1.size inb').idx x 0).val = 256 * (t - 1) + o0 + (x 0).val := Rect.idx_unit_val ..
    refine ⟨fun _ => ?_, fun h => absurd ⟨?_, ?_⟩ h⟩
    · rw [e0]
      refine (normR_at _ x).trans ?_
      unfold Spec.R
      refine congrArg (fun s => Ideal.rsqrt (Ideal.div s _ + _)) ?_
      refine Finset.sum_congr rfl fun k _ => ?_
      have : X ((Rect.unit (s := S256x2048) ![o0, 0] S16x2048.size inb).idx (ix2 (x 0) k)) = XA (256 * (t - 1) + o0 + (x 0).val) k.val := by
        refine (hX _).trans (congrArg₂ XA ?_ ?_) <;> simp only [Rect.idx_unit_val, Nat.add_assoc]
        · rfl
        · exact Nat.zero_add _
      exact congrArg₂ (· * ·) this this
    · rw [e0]; omega
    · rw [e0]; omega
  · by_cases hs : 256 * (t - 1) ≤ (y 0).val ∧ (y 0).val < 256 * (t - 1) + 256
    · left
      refine ⟨((y 0).val - 256 * (t - 1)) / 16, by omega, ?_⟩
      intro a; fin_cases a
      · show 256 * (t - 1) + 16 * (((y 0).val - 256 * (t - 1)) / 16) ≤ (y 0).val ∧ (y 0).val < 256 * (t - 1) + 16 * (((y 0).val - 256 * (t - 1)) / 16) + 16; omega
      · have h1 : (y 1).val < 1 := (y 1).isLt
        exact ⟨Nat.zero_le _, by show (y 1).val < 0 + 1; omega⟩
    · exact .inr ⟨fun h => absurd h hs, fun _ => rfl⟩

include hG in
theorem Prep.xn_at {o0 o1 : ℕ} {roff inb inb1 inb2} (hr : roff = ![256 * (t - 1) + o0, 0]) :
    At (xnAt (F := Ideal) X G (v'.read (Elt Ideal) (v'.writes (Elt Ideal) v'.junk L20)) o0 o1 roff inb inb1 inb2) (XN XA g) (256 * (t - 1) + o0) o1 := by
  intro j
  subst hr
  have hj : (j 0).val < 128 := (j 0).isLt
  have hi : o0 + 128 ≤ 256 := inb 0
  refine (xnBlk_at _ _ _ j).trans ?_
  have e0 : ((Rect.unit (s := S1792x1) ![256 * (t - 1) + o0, 0] S128x1.size inb2).idx (ix2 (j 0) 0) 0).val = 256 * (t - 1) + o0 + (j 0).val := Rect.idx_unit_val ..
  have a := (Q.r_val hX v' v'.junk ((Rect.unit (s := S1792x1) ![256 * (t - 1) + o0, 0] S128x1.size inb2).idx (ix2 (j 0) 0))).1 (by rw [e0]; omega)
  rw [e0] at a
  have b : X ((Rect.unit (s := S256x2048) ![o0, o1] S128x128.size inb).idx j) = XA (256 * (t - 1) + o0 + (j 0).val) (o1 + (j 1).val) := by
    refine (hX _).trans (congrArg₂ XA ?_ ?_) <;> simp only [Rect.idx_unit_val, Nat.add_assoc] <;> rfl
  have c : G ((Rect.unit (s := S1x2048) ![0, o1] S1x128.size inb1).idx (ix2 0 (j 1))) = g (o1 + (j 1).val) := by
    refine (hG _).trans (congrArg g ?_)
    rw [Rect.idx_unit_val]; rfl
  unfold Spec.XN
  exact congrArg₂ (· * ·) (congrArg₂ (· * ·) b a) c

include hG in
theorem Prep.xn_at' {o0 o1 : ℕ} {roff inb inb1 inb2} (hr : roff = ![256 * (t - 1) + o0, 0]) (h : o0 = 128 * (o0 / 128)) :
    At (xnAt (F := Ideal) X G (v'.read (Elt Ideal) (v'.writes (Elt Ideal) v'.junk L20)) o0 o1 roff inb inb1 inb2) (XN XA g) (128 * (2 * (t - 1) + o0 / 128)) o1 := by
  have := Q.xn_at hX hG (inb := inb) (inb1 := inb1) (inb2 := inb2) hr
  rwa [show 256 * (t - 1) + o0 = 128 * (2 * (t - 1) + o0 / 128) by omega] at this

include hG
theorem Prep.xc_val {sp : Space} (w : View sig .tc sp S256x2048 .fp8e4m3) (f : w.ty.Contents (Elt Ideal)) :
    Is2 (w.read (Elt Ideal) (w.writes (Elt Ideal) f L9)) (fun r c => XC kinv (XN XA g) (256 * (t - 1) + r) c) := by
  intro y
  have h0 : (y 0).val < 256 := (y 0).isLt
  have h1 : (y 1).val < 2048 := (y 1).isLt
  refine read_forms w f (fun y u => u = XC kinv (XN XA g) (256 * (t - 1) + (y 0).val) (y 1).val) Q.xcO (fun p hp x => ?_) y (.inl ⟨16 * ((y 0).val / 128) + (y 1).val / 128, by omega, ?_⟩)
  · obtain ⟨o0, o1, roff, inb, inb1, inb2, inb', rfl, hr, ho⟩ := Q.xc p hp
    refine (xc_at (Q.xn_at' hX hG hr ho) x).trans (congrArg₂ _ ?_ ?_) <;> rw [Rect.idx_unit_val]
    · show _ = 256 * (t - 1) + (o0 + (x 0).val); omega
    · rfl
  · intro a; fin_cases a
    · show 128 * ((16 * ((y 0).val / 128) + (y 1).val / 128) / 16) ≤ (y 0).val ∧ (y 0).val < 128 * ((16 * ((y 0).val / 128) + (y 1).val / 128) / 16) + 128; omega
    · show 128 * ((16 * ((y 0).val / 128) + (y 1).val / 128) % 16) ≤ (y 1).val ∧ (y 1).val < 128 * ((16 * ((y 0).val / 128) + (y 1).val / 128) % 16) + 128; omega

theorem Prep.xq_val {sp : Space} (w : View sig .tc sp S2048x1792 .bf16) (f : w.ty.Contents (Elt Ideal)) (y) :
    (256 * (t - 1) ≤ (y 1).val ∧ (y 1).val < 256 * (t - 1) + 256 → w.read (Elt Ideal) (w.writes (Elt Ideal) f L15) y = XD ksc kinv (XN XA g) (y 1).val (y 0).val) ∧
    (¬ (256 * (t - 1) ≤ (y 1).val ∧ (y 1).val < 256 * (t - 1) + 256) → w.read (Elt Ideal) (w.writes (Elt Ideal) f L15) y = w.read (Elt Ideal) f y) := by
  have h0 : (y 0).val < 2048 := (y 0).isLt
  refine read_forms w f (fun y u => (256 * (t - 1) ≤ (y 1).val ∧ (y 1).val < 256 * (t - 1) + 256 → u = XD ksc kinv (XN XA g) (y 1).val (y 0).val) ∧
    (¬ (256 * (t - 1) ≤ (y 1).val ∧ (y 1).val < 256 * (t - 1) + 256) → u = w.read (Elt Ideal) f y)) Q.xqO (fun p hp x => ?_) y ?_
  · obtain ⟨o0, o1, roff, off, inb, inb1, inb2, inb', rfl, hr, hf, ho⟩ := Q.xq p hp
    subst hf
    have hx : (x 1).val < 128 := (x 1).isLt
    have hi : o0 + 128 ≤ 256 := inb 0
    have e0 : ((Rect.unit (s := S2048x1792) ![o1, 256 * (t - 1) + o0] S128x128.size inb').idx x 0).val = o1 + (x 0).val := Rect.idx_unit_val ..
    have e1 : ((Rect.unit (s := S2048x1792) ![o1, 256 * (t - 1) + o0] S128x128.size inb').idx x 1).val = 256 * (t - 1) + o0 + (x 1).val := Rect.idx_unit_val ..
    rw [e0, e1]
    refine ⟨fun _ => ?_, fun h => absurd ⟨by omega, by omega⟩ h⟩
    refine (xd_at (Q.xn_at' hX hG hr ho) x).trans (congrArg₂ _ ?_ rfl)
    omega
  · by_cases hs : 256 * (t - 1) ≤ (y 1).val ∧ (y 1).val < 256 * (t - 1) + 256
    · left
      refine ⟨16 * (((y 1).val - 256 * (t - 1)) / 128) + (y 0).val / 128, by omega, ?_⟩
      intro a; fin_cases a
      · show 128 * ((16 * (((y 1).val - 256 * (t - 1)) / 128) + (y 0).val / 128) % 16) ≤ (y 0).val ∧ (y 0).val < 128 * ((16 * (((y 1).val - 256 * (t - 1)) / 128) + (y 0).val / 128) % 16) + 128; omega
      · show 256 * (t - 1) + 128 * ((16 * (((y 1).val - 256 * (t - 1)) / 128) + (y 0).val / 128) / 16) ≤ (y 1).val ∧ (y 1).val < 256 * (t - 1) + 128 * ((16 * (((y 1).val - 256 * (t - 1)) / 128) + (y 0).val / 128) / 16) + 128; omega
    · exact .inr ⟨fun h => absurd h hs, fun _ => rfl⟩

include h1 ht
theorem Prep.xs_val (f : v.ty.Contents (Elt Ideal)) (hT : T = v.read (Elt Ideal) f) {b : ℕ}
    (hb : ∀ y, (y 0).val < b → T y = XS ksc (XN XA g) (y 0).val (y 1).val) (y)
    (hy : (y 0).val < b ∨ (y 0).val = 2 * (t - 1) ∨ (y 0).val = 2 * (t - 1) + 1) :
    v.read (Elt Ideal) (v.writes (Elt Ideal) f L10) y = XS ksc (XN XA g) (y 0).val (y 1).val := by
  obtain ⟨L0, hL0, hO, hC⟩ := Q.xs
  have first : ∀ f' : v.ty.Contents (Elt Ideal), ∀ y : S14x2048.Idx, ((y 0).val < b ∨ (y 0).val = 2 * (t - 1)) →
      v.read (Elt Ideal) (v.writes (Elt Ideal) f' L0) y = XS ksc (XN XA g) (y 0).val (y 1).val := by
    intro f' y hy
    have h1 : (y 1).val < 2048 := (y 1).isLt
    refine read_forms v f' (fun y u => ((y 0).val < b ∨ (y 0).val = 2 * (t - 1)) → u = XS ksc (XN XA g) (y 0).val (y 1).val) hO (fun p hp x => ?_) y
      (.inl ⟨(y 1).val / 128, by omega, ?_⟩) hy
    · obtain ⟨o1, roff, inb, inb1, inb2, inb', rfl, hr⟩ := hL0 p hp
      have hx : (x 0).val < 14 := (x 0).isLt
      have e0 : ((Rect.unit (s := S14x2048) ![0, o1] S14x128.size inb').idx x 0).val = (x 0).val := (Rect.idx_unit_val ..).trans (Nat.zero_add _)
      have e1 : ((Rect.unit (s := S14x2048) ![0, o1] S14x128.size inb').idx x 1).val = o1 + (x 1).val := Rect.idx_unit_val ..
      intro hy
      rw [e0] at hy
      show xPut (F := Ideal) _ _ _ x = _
      rw [xPut_at, qword' t ‹_› (by omega) 0 (by omega), e0, e1]
      have i0 := ofNat_inj (a := (x 0).val) (b := 2 * (t - 1) + 0) (by omega) (by omega)
      by_cases c : (x 0).val = 2 * (t - 1) + 0
      · rw [if_pos (i0.2 c), c]
        exact xs_at (Q.xn_at' hX hG (o0 := 0) hr rfl) (ix2 0 (x 1))
      · rw [if_neg (mt i0.1 c)]
        exact (hb ((Rect.unit (s := S14x2048) ![0, o1] S14x128.size inb').idx x) (by rw [e0]; omega)).trans (by rw [e0, e1])
    · intro a; fin_cases a
      · have h0 : (y 0).val < 14 := (y 0).isLt
        exact ⟨Nat.zero_le _, by show (y 0).val < 0 + 14; omega⟩
      · show 128 * ((y 1).val / 128) ≤ (y 1).val ∧ (y 1).val < 128 * ((y 1).val / 128) + 128; omega
  have chain : ∀ k L, XsChain (F := Ideal) X G (v'.read (Elt Ideal) (v'.writes (Elt Ideal) v'.junk L20)) v t (IntOp.subi (BitVec.ofNat 32 t) 1#32) L0 k L →
      ∀ f' : v.ty.Contents (Elt Ideal), ∀ y : S14x2048.Idx, ((y 0).val < b ∨ (y 0).val = 2 * (t - 1) ∨ (y 0).val = 2 * (t - 1) + 1 ∧ (y 1).val < 128 * k) →
      v.read (Elt Ideal) (v.writes (Elt Ideal) f' L) y = XS ksc (XN XA g) (y 0).val (y 1).val := by
    intro k L h
    induction h with
    | nil => intro f' y hy; exact first f' y (by omega)
    | cons j L p roff inb inb1 inb2 inb' hp hr h ih =>
      intro f' y hy
      refine read_pieces v (v.writes (Elt Ideal) f' L) (fun y u => ((y 0).val < b ∨ (y 0).val = 2 * (t - 1) ∨ (y 0).val = 2 * (t - 1) + 1 ∧ (y 1).val < 128 * (j + 1)) → u = XS ksc (XN XA g) (y 0).val (y 1).val)
        [p] (fun q hq x => ?_) y ?_ hy
      · obtain rfl := List.mem_singleton.1 hq
        subst hp
        have hx : (x 0).val < 14 := (x 0).isLt
        have e0 : ((Rect.unit (s := S14x2048) ![0, 128 * j] S14x128.size inb').idx x 0).val = (x 0).val := (Rect.idx_unit_val ..).trans (Nat.zero_add _)
        have e1 : ((Rect.unit (s := S14x2048) ![0, 128 * j] S14x128.size inb').idx x 1).val = 128 * j + (x 1).val := Rect.idx_unit_val ..
        intro hy
        change ((((Rect.unit (s := S14x2048) ![0, 128 * j] S14x128.size inb').idx x 0).val < b ∨ _)) at hy
        rw [show ((Rect.unit (s := S14x2048) ![0, 128 * j] S14x128.size inb').emb x) = (Rect.unit (s := S14x2048) ![0, 128 * j] S14x128.size inb').idx x from rfl] at hy
        show xPut (F := Ideal) _ _ _ x = XS ksc (XN XA g) ((Rect.unit (s := S14x2048) ![0, 128 * j] S14x128.size inb').idx x 0).val ((Rect.unit (s := S14x2048) ![0, 128 * j] S14x128.size inb').idx x 1).val
        rw [e0] at hy
        rw [xPut_at, qword' t ‹_› (by omega) 1 (by omega), e0, e1]
        have i0 := ofNat_inj (a := (x 0).val) (b := 2 * (t - 1) + 1) (by omega) (by omega)
        by_cases c : (x 0).val = 2 * (t - 1) + 1
        · rw [if_pos (i0.2 c), c]
          exact xs_at (Q.xn_at' hX hG (o0 := 128) hr rfl) (ix2 0 (x 1))
        · rw [if_neg (mt i0.1 c)]
          refine (ih v.junk ((Rect.unit (s := S14x2048) ![0, 128 * j] S14x128.size inb').idx x) (by rw [e0]; omega)).trans (by rw [e0, e1])
      · by_cases hs : 128 * j ≤ (y 1).val ∧ (y 1).val < 128 * j + 128
        · refine .inl ⟨p, List.mem_singleton.2 rfl, ?_⟩
          subst hp
          refine (Rect.mem_set_unit (inb := inb')).2 ?_
          intro a; fin_cases a
          · have h0 : (y 0).val < 14 := (y 0).isLt
            exact ⟨Nat.zero_le _, by show (y 0).val < 0 + 14; omega⟩
          · exact hs
        · exact .inr fun hy => ih f' y (by omega)
  have h1 : (y 1).val < 2048 := (y 1).isLt
  exact chain 16 L10 hC f y (by omega)
end
end

/-! ## The products -/

theorem whole_mem {a b : ℕ} {inb} (y : Shape.Idx ⟨2, ![a, b]⟩) : y ∈ (Rect.unit (s := ⟨2, ![a, b]⟩) ![0, 0] (⟨2, ![a, b]⟩ : Shape).size inb).set := by
  refine Rect.mem_set_unit.2 fun x => ?_
  have h : (y x).val < (⟨2, ![a, b]⟩ : Shape).size x := (y x).isLt
  fin_cases x
  · exact ⟨Nat.zero_le _, by show (y 0).val < 0 + a; exact (Nat.zero_add a).symm ▸ h⟩
  · exact ⟨Nat.zero_le _, by show (y 1).val < 0 + b; exact (Nat.zero_add b).symm ▸ h⟩
theorem whole_idx {a b : ℕ} {inb} (y : Shape.Idx ⟨2, ![a, b]⟩) (x) : ((Rect.unit (s := ⟨2, ![a, b]⟩) ![0, 0] (⟨2, ![a, b]⟩ : Shape).size inb).idx y x).val = (y x).val := by
  rw [Rect.idx_unit_val]; fin_cases x <;> exact Nat.zero_add _
/-- One store over the whole of an array. -/
theorem whole_val {a b : ℕ} {κ : Kind} {sp : Space} {e : EltTy} {Val : EltTy → Type} (w : View sig κ sp ⟨2, ![a, b]⟩ e) (f : w.ty.Contents Val) {inb}
    {p : View.Piece Val ⟨2, ![a, b]⟩ e} {V : Shape.Idx ⟨2, ![a, b]⟩ → Val e} (hp : p = ⟨Rect.unit (s := ⟨2, ![a, b]⟩) ![0, 0] (⟨2, ![a, b]⟩ : Shape).size inb, V⟩) (P : ℕ → ℕ → Val e → Prop)
    (hV : ∀ y, P (y 0).val (y 1).val (V y)) (y) : P (y 0).val (y 1).val (w.read Val (w.writes Val f [p]) y) := by
  refine read_pieces w f (fun y u => P (y 0).val (y 1).val u) [p] (fun q hq x => ?_) y (.inl ⟨p, List.mem_singleton.2 rfl, by subst hp; exact whole_mem (inb := inb) y⟩)
  obtain rfl := List.mem_singleton.1 hq
  subst hp
  have := hV x
  rw [← whole_idx (inb := inb) x 0, ← whole_idx (inb := inb) x 1] at this
  exact this

theorem zero_val {a b : ℕ} {κ : Kind} {sp : Space} (w : View sig κ sp ⟨2, ![a, b]⟩ .f32) (f : w.ty.Contents (Elt Ideal)) {p} (h : ZeroForm (F := Ideal) (a := a) (b := b) p) :
    Is2 (w.read (Elt Ideal) (w.writes (Elt Ideal) f [p])) (fun _ _ => 0) := by
  obtain ⟨inb, hp⟩ := h
  refine whole_val w f hp (fun _ _ u => u = (0 : EReal)) fun y => ?_
  pointwise

theorem dw_val {κ : Kind} {sp : Space} (w : View sig κ sp S2048x256 .f32) (f : w.ty.Contents (Elt Ideal)) {X : S2048x1792.Idx → EReal} {D : S9x1792x256.Idx → EReal} {s n : ℕ} {p}
    (h : DwForm (F := Ideal) X D s p) {XA DA : Arr} (hX : ∀ y, X y = XA (y 1).val (y 0).val) (hD : ∀ y, (y 0).val = s → D y = DA (y 1).val (256 * n + (y 2).val)) :
    Is2 (w.read (Elt Ideal) (w.writes (Elt Ideal) f [p])) (fun r c => DW XA DA r (256 * n + c)) := by
  obtain ⟨inb, inbX, offD, inbD, hp, hD'⟩ := h
  subst hD'
  refine whole_val w f hp (fun r c u => u = DW XA DA r (256 * n + c)) fun y => ?_
  refine (dwBlk_at _ _ y).trans ?_
  unfold Spec.DW
  refine Finset.sum_congr rfl fun x _ => congrArg₂ (· * ·) ?_ ?_
  · refine (hX _).trans (congrArg₂ XA ?_ ?_) <;> rw [whole_idx] <;> rfl
  · refine (hD _ ?_).trans (congrArg₂ DA ?_ (congrArg _ ?_)) <;> rw [Rect.idx_unit_val]
    · rfl
    · exact Nat.zero_add _
    · exact Nat.zero_add _

theorem dxn_val {κ : Kind} {sp : Space} (w : View sig κ sp S1792x2048 .f32) (f : w.ty.Contents (Elt Ideal)) {A : S1792x2048.Idx → EReal} {D : S2x1792x256.Idx → EReal} {W : S2x2048x256.Idx → EReal} {s n : ℕ} {p}
    (h : DxnForm (F := Ideal) A D W s p) {DA WA : Arr} (hA : Is2 A (fun r c => DXN DA WA (256 * n) r c)) (hD : ∀ y, (y 0).val = s → D y = DA (y 1).val (256 * n + (y 2).val))
    (hW : ∀ y, (y 0).val = s → W y = WA (y 1).val (256 * n + (y 2).val)) :
    Is2 (w.read (Elt Ideal) (w.writes (Elt Ideal) f [p])) (fun r c => DXN DA WA (256 * (n + 1)) r c) := by
  obtain ⟨inb, offD, inbD, offW, inbW, hp, hD', hW'⟩ := h
  subst hD' hW'
  refine whole_val w f hp (fun r c u => u = DXN DA WA (256 * (n + 1)) r c) fun y => ?_
  refine (dxnAdd_at _ _ _ y).trans ?_
  unfold Spec.DXN
  rw [Nat.mul_succ, Finset.sum_range_add, ← Fin.sum_univ_eq_sum_range (fun x => DA (y 0).val (256 * n + x) * WA (y 1).val (256 * n + x)) 256]
  refine congrArg₂ (· + ·) ((hA _).trans ?_) (Finset.sum_congr rfl fun x _ => congrArg₂ (· * ·) ?_ ?_)
  · rw [whole_idx, whole_idx]; rfl
  · refine (hD _ ?_).trans (congrArg₂ DA ?_ (congrArg _ ?_)) <;> rw [Rect.idx_unit_val]
    · rfl
    · exact Nat.zero_add _
    · exact Nat.zero_add _
  · refine (hW _ ?_).trans (congrArg₂ WA ?_ (congrArg _ ?_)) <;> rw [Rect.idx_unit_val]
    · rfl
    · exact Nat.zero_add _
    · exact Nat.zero_add _

section
variable {X : S256x2048.Idx → EReal} {G : S1x2048.Idx → EReal} {ρ : S1792x1.Idx → EReal} {N : S1792x2048.Idx → EReal} {t : ℕ}
  {XA P : Arr} {g : ℕ → EReal} (hX : Is2 X (fun r c => XA (256 * (t - 23) + r) c)) (hG : Is2 G (fun _ c => g c)) (hρ : Is2 ρ (fun r _ => R XA r)) (hN : Is2 N P)
include hX hρ hN

include hG in
theorem dx_val {κ : Kind} {sp : Space} (w : View sig κ sp S256x2048 .bf16) (f : w.ty.Contents (Elt Ideal)) {L}
    (h : ∀ p ∈ L, DxForm (F := Ideal) X G ρ N t p) (hO : OffChain (S := S256x2048) S16x2048.size (fun k => ![16 * k, 0]) 16 L) :
    Is2 (w.read (Elt Ideal) (w.writes (Elt Ideal) f L)) (fun r c => DX XA g P (256 * (t - 23) + r) c) := by
  intro y
  have h0 : (y 0).val < 256 := (y 0).isLt
  refine read_forms w f (fun y u => u = DX XA g P (256 * (t - 23) + (y 0).val) (y 1).val) hO (fun p hp x => ?_) y (.inl ⟨(y 0).val / 16, by omega, ?_⟩)
  · obtain ⟨o0, roff, noff, inb, inb1, inb2, inb3, rfl, hr, hn⟩ := h p hp
    subst hr hn
    have e0 : ((Rect.unit (s := S256x2048) ![o0, 0] S16x2048.size inb).idx x 0).val = o0 + (x 0).val := Rect.idx_unit_val ..
    have e1 : ((Rect.unit (s := S256x2048) ![o0, 0] S16x2048.size inb).idx x 1).val = (x 1).val := (Rect.idx_unit_val ..).trans (Nat.zero_add _)
    rw [e0, e1]
    refine (dx16_at _ _ _ _ x).trans ?_
    have a : ρ ((Rect.unit (s := S1792x1) ![256 * (t - 23) + o0, 0] S16x1.size inb2).idx (ix2 (x 0) 0)) = R XA (256 * (t - 23) + (o0 + (x 0).val)) := by
      refine (hρ _).trans (congrArg (R XA) ?_)
      rw [Rect.idx_unit_val]; exact Nat.add_assoc _ _ _
    have b : ∀ c : Fin 2048, X ((Rect.unit (s := S256x2048) ![o0, 0] S16x2048.size inb).idx (ix2 (x 0) c)) = XA (256 * (t - 23) + (o0 + (x 0).val)) c.val := by
      intro c
      refine (hX _).trans (congrArg₂ XA (congrArg _ ?_) ?_) <;> rw [Rect.idx_unit_val]
      · rfl
      · exact Nat.zero_add _
    have d : ∀ c : Fin 2048, G ((Rect.unit (s := S1x2048) ![0, 0] S1x2048.size inb1).idx (ix2 0 c)) = g c.val := by
      intro c
      refine (hG _).trans (congrArg g ?_)
      rw [Rect.idx_unit_val]; exact Nat.zero_add _
    have n : ∀ c : Fin 2048, N ((Rect.unit (s := S1792x2048) ![256 * (t - 23) + o0, 0] S16x2048.size inb3).idx (ix2 (x 0) c)) = P (256 * (t - 23) + (o0 + (x 0).val)) c.val := by
      intro c
      refine (hN _).trans (congrArg₂ P ?_ ?_) <;> rw [Rect.idx_unit_val]
      · exact Nat.add_assoc _ _ _
      · exact Nat.zero_add _
    have ex : x = ix2 (x 0) (x 1) := by funext i; fin_cases i <;> rfl
    have b' := (congrArg (fun z => X ((Rect.unit (s := S256x2048) ![o0, 0] S16x2048.size inb).idx z)) ex).trans (b (x 1))
    have n' := (congrArg (fun z => N ((Rect.unit (s := S1792x2048) ![256 * (t - 23) + o0, 0] S16x2048.size inb3).idx z)) ex).trans (n (x 1))
    unfold Spec.DX
    refine congrArg₂ (· * ·) a (congrArg₂ (· - ·) (congrArg₂ (· * ·) n' (d (x 1))) (congrArg₂ (· * ·) (congrArg₂ (· * ·) b' a)
      (congrArg (fun s => Ideal.div s _) (Finset.sum_congr rfl fun k _ => congrArg₂ (· * ·) (congrArg₂ (· * ·) (n k) (d k)) (congrArg₂ (· * ·) (b k) a)))))
  · intro a; fin_cases a
    · show 16 * ((y 0).val / 16) ≤ (y 0).val ∧ (y 0).val < 16 * ((y 0).val / 16) + 16; omega
    · have h1 : (y 1).val < 2048 := (y 1).isLt
      exact ⟨Nat.zero_le _, by show (y 1).val < 0 + 2048; omega⟩

theorem dgChain_val {k : ℕ} {A} (h : DgChain (F := Ideal) X ρ N t k A) (c : Fin 2048) :
    ∑ x : Fin 8, A (ix2 x c) = ∑ r ∈ Finset.range (16 * k), P (256 * (t - 23) + r) c.val * (XA (256 * (t - 23) + r) c.val * R XA (256 * (t - 23) + r)) := by
  induction h with
  | zero =>
    refine Finset.sum_eq_zero fun x _ => ?_
    pointwise
  | succ k A A' roff noff inb inb2 inb3 hA hr hn h ih =>
    subst hA hr hn
    rw [Nat.mul_succ, Finset.sum_range_add, ← ih]
    refine (Finset.sum_congr rfl fun x _ => dg16_at _ _ _ _ (ix2 x c)).trans ?_
    rw [Finset.sum_add_distrib, Finset.sum_comm]
    refine congrArg₂ (· + ·) rfl ?_
    have key : ∀ i : Fin 16, (fun y => N ((Rect.unit (s := S1792x2048) ![256 * (t - 23) + 16 * k, 0] S16x2048.size inb3).idx y)) (ix2 i c) *
        ((fun y => X ((Rect.unit (s := S256x2048) ![16 * k, 0] S16x2048.size inb).idx y)) (ix2 i c) * (fun y => ρ ((Rect.unit (s := S1792x1) ![256 * (t - 23) + 16 * k, 0] S16x1.size inb2).idx y)) (ix2 i 0))
        = P (256 * (t - 23) + (16 * k + i.val)) c.val * (XA (256 * (t - 23) + (16 * k + i.val)) c.val * R XA (256 * (t - 23) + (16 * k + i.val))) := by
      intro i
      refine congrArg₂ (· * ·) ((hN _).trans (congrArg₂ P ?_ ?_)) (congrArg₂ (· * ·) ((hX _).trans (congrArg₂ XA (congrArg _ ?_) ?_)) ((hρ _).trans (congrArg (R XA) ?_))) <;> rw [Rect.idx_unit_val]
      · exact Nat.add_assoc _ _ _
      · exact Nat.zero_add _
      · rfl
      · exact Nat.zero_add _
      · exact Nat.add_assoc _ _ _
    rw [← Fin.sum_univ_eq_sum_range (fun i => P (256 * (t - 23) + (16 * k + i)) c.val * (XA (256 * (t - 23) + (16 * k + i)) c.val * R XA (256 * (t - 23) + (16 * k + i)))) 16]
    refine (Finset.sum_congr rfl fun x _ => Finset.sum_congr rfl fun i _ => key _).trans ?_
    simp only [Fin.sum_univ_succ, Finset.univ_unique, Finset.sum_singleton, Fin.sum_univ_zero]
    simp
    abel

theorem dg_val {κ : Kind} {sp : Space} (w : View sig κ sp S1x2048 .f32) (f : w.ty.Contents (Elt Ideal)) {old : S1x2048.Idx → EReal} {p}
    (h : DgForm (F := Ideal) X ρ N old t p) (ho : Is2 old (fun _ c => DG XA P (256 * (t - 23)) c)) :
    Is2 (w.read (Elt Ideal) (w.writes (Elt Ideal) f [p])) (fun _ c => DG XA P (256 * (t - 23 + 1)) c) := by
  obtain ⟨inb, A, hp, hA⟩ := h
  refine whole_val w f hp (fun _ c u => u = DG XA P (256 * (t - 23 + 1)) c) fun y => ?_
  refine (dgOut_at _ _ y).trans ?_
  unfold Spec.DG
  rw [Nat.mul_succ, Finset.sum_range_add]
  refine congrArg₂ (· + ·) ((ho _).trans ?_) (dgChain_val hX hρ hN hA (y 1))
  exact congrArg (DG XA P (256 * (t - 23))) (whole_idx (inb := inb) y 1)
end

end Cert.KernelIdeal.Hand

end
-- ==== Proof.Win.lean ====
module

public import proofs.«01_k».proof.Proof.PrepVal
public import proofs.«01_k».proof.Proof.Body
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pipeline

/-! Where each window's block lies at each point, and when it is written back. -/

theorem coords_val : ∀ t : Fin cfg0.N, (grid0.coords t 0).val = t.val := by decide +kernel
theorem phase1 : ∀ t : Fin cfg0.N, k0_cond1 (grid0.coords t) = 1#1 → t.val = 0 := by decide +kernel
theorem phase2 : ∀ t : Fin cfg0.N, k0_cond2 (grid0.coords t) = 1#1 → 1 ≤ t.val ∧ t.val < 8 := by decide +kernel
theorem phase3 : ∀ t : Fin cfg0.N, k0_cond3 (grid0.coords t) = 1#1 → 8 ≤ t.val ∧ t.val ≤ 22 := by decide +kernel
theorem phase4 : ∀ t : Fin cfg0.N, k0_cond4 (grid0.coords t) = 1#1 → 23 ≤ t.val := by decide +kernel

/-- The row block of the rows' input. -/
def xrow (t : ℕ) : ℕ := if t ≤ 22 then min (t - 1) 6 else t - 23

theorem idx0 : ∀ t : Fin cfg0.N, win0_0.index t = ![0, 0] := by decide +kernel
theorem emb0 (t : Fin cfg0.N) (y : S16x44.Idx) : ((((cfg0.win 0).blk t).view.emb y : S16x44.Idx) 0).val = (y 0).val ∧ ((((cfg0.win 0).blk t).view.emb y : S16x44.Idx) 1).val = (y 1).val := by
  constructor
  · show win0_0.index t 0 * 16 + 1 * (y 0).val = _
    rw [idx0]
    show 0 * 16 + 1 * (y 0).val = _
    omega
  · show win0_0.index t 1 * 44 + 1 * (y 1).val = _
    rw [idx0]
    show 0 * 44 + 1 * (y 1).val = _
    omega
theorem idx1 : ∀ t : Fin cfg0.N, win0_1.index t = ![xrow t.val, 0] := by decide +kernel
theorem emb1 (t : Fin cfg0.N) (y : S256x2048.Idx) : ((((cfg0.win 1).blk t).view.emb y : S1792x2048.Idx) 0).val = 256 * (xrow t.val) + (y 0).val ∧ ((((cfg0.win 1).blk t).view.emb y : S1792x2048.Idx) 1).val = (y 1).val := by
  constructor
  · show win0_1.index t 0 * 256 + 1 * (y 0).val = _
    rw [idx1]
    show (xrow t.val) * 256 + 1 * (y 0).val = _
    omega
  · show win0_1.index t 1 * 2048 + 1 * (y 1).val = _
    rw [idx1]
    show 0 * 2048 + 1 * (y 1).val = _
    omega
theorem idx2 : ∀ t : Fin cfg0.N, win0_2.index t = ![0, 0] := by decide +kernel
theorem emb2 (t : Fin cfg0.N) (y : S1x2048.Idx) : ((((cfg0.win 2).blk t).view.emb y : S1x2048.Idx) 0).val = (y 0).val ∧ ((((cfg0.win 2).blk t).view.emb y : S1x2048.Idx) 1).val = (y 1).val := by
  constructor
  · show win0_2.index t 0 * 1 + 1 * (y 0).val = _
    rw [idx2]
    show 0 * 1 + 1 * (y 0).val = _
    omega
  · show win0_2.index t 1 * 2048 + 1 * (y 1).val = _
    rw [idx2]
    show 0 * 2048 + 1 * (y 1).val = _
    omega
theorem idx3 : ∀ t : Fin cfg0.N, win0_3.index t = ![0, min t.val 21] := by decide +kernel
theorem emb3 (t : Fin cfg0.N) (y : S2048x256.Idx) : ((((cfg0.win 3).blk t).view.emb y : S2048x5632.Idx) 0).val = (y 0).val ∧ ((((cfg0.win 3).blk t).view.emb y : S2048x5632.Idx) 1).val = 256 * (min t.val 21) + (y 1).val := by
  constructor
  · show win0_3.index t 0 * 2048 + 1 * (y 0).val = _
    rw [idx3]
    show 0 * 2048 + 1 * (y 0).val = _
    omega
  · show win0_3.index t 1 * 256 + 1 * (y 1).val = _
    rw [idx3]
    show (min t.val 21) * 256 + 1 * (y 1).val = _
    omega
theorem idx4 : ∀ t : Fin cfg0.N, win0_4.index t = ![0, min t.val 21] := by decide +kernel
theorem emb4 (t : Fin cfg0.N) (y : S1792x256.Idx) : ((((cfg0.win 4).blk t).view.emb y : S1792x5632.Idx) 0).val = (y 0).val ∧ ((((cfg0.win 4).blk t).view.emb y : S1792x5632.Idx) 1).val = 256 * (min t.val 21) + (y 1).val := by
  constructor
  · show win0_4.index t 0 * 1792 + 1 * (y 0).val = _
    rw [idx4]
    show 0 * 1792 + 1 * (y 0).val = _
    omega
  · show win0_4.index t 1 * 256 + 1 * (y 1).val = _
    rw [idx4]
    show (min t.val 21) * 256 + 1 * (y 1).val = _
    omega
theorem idx5 : ∀ t : Fin cfg0.N, win0_5.index t = ![(t.val - 23), 0] := by decide +kernel
theorem emb5 (t : Fin cfg0.N) (y : S256x2048.Idx) : ((((cfg0.win 5).blk t).view.emb y : S1792x2048.Idx) 0).val = 256 * (t.val - 23) + (y 0).val ∧ ((((cfg0.win 5).blk t).view.emb y : S1792x2048.Idx) 1).val = (y 1).val := by
  constructor
  · show win0_5.index t 0 * 256 + 1 * (y 0).val = _
    rw [idx5]
    show (t.val - 23) * 256 + 1 * (y 0).val = _
    omega
  · show win0_5.index t 1 * 2048 + 1 * (y 1).val = _
    rw [idx5]
    show 0 * 2048 + 1 * (y 1).val = _
    omega
theorem idx6 : ∀ t : Fin cfg0.N, win0_6.index t = ![0, (t.val - 8)] := by decide +kernel
theorem emb6 (t : Fin cfg0.N) (y : S2048x256.Idx) : ((((cfg0.win 6).blk t).view.emb y : S2048x5632.Idx) 0).val = (y 0).val ∧ ((((cfg0.win 6).blk t).view.emb y : S2048x5632.Idx) 1).val = 256 * (t.val - 8) + (y 1).val := by
  constructor
  · show win0_6.index t 0 * 2048 + 1 * (y 0).val = _
    rw [idx6]
    show 0 * 2048 + 1 * (y 0).val = _
    omega
  · show win0_6.index t 1 * 256 + 1 * (y 1).val = _
    rw [idx6]
    show (t.val - 8) * 256 + 1 * (y 1).val = _
    omega
theorem idx7 : ∀ t : Fin cfg0.N, win0_7.index t = ![0, 0] := by decide +kernel
theorem emb7 (t : Fin cfg0.N) (y : S1x2048.Idx) : ((((cfg0.win 7).blk t).view.emb y : S1x2048.Idx) 0).val = (y 0).val ∧ ((((cfg0.win 7).blk t).view.emb y : S1x2048.Idx) 1).val = (y 1).val := by
  constructor
  · show win0_7.index t 0 * 1 + 1 * (y 0).val = _
    rw [idx7]
    show 0 * 1 + 1 * (y 0).val = _
    omega
  · show win0_7.index t 1 * 2048 + 1 * (y 1).val = _
    rw [idx7]
    show 0 * 2048 + 1 * (y 1).val = _
    omega
theorem idx8 : ∀ t : Fin cfg0.N, win0_8.index t = ![min (t.val - 1) 6, 0] := by decide +kernel
theorem emb8 (t : Fin cfg0.N) (y : S256x2048.Idx) : ((((cfg0.win 8).blk t).view.emb y : S1792x2048.Idx) 0).val = 256 * (min (t.val - 1) 6) + (y 0).val ∧ ((((cfg0.win 8).blk t).view.emb y : S1792x2048.Idx) 1).val = (y 1).val := by
  constructor
  · show win0_8.index t 0 * 256 + 1 * (y 0).val = _
    rw [idx8]
    show (min (t.val - 1) 6) * 256 + 1 * (y 0).val = _
    omega
  · show win0_8.index t 1 * 2048 + 1 * (y 1).val = _
    rw [idx8]
    show 0 * 2048 + 1 * (y 1).val = _
    omega
theorem idx9 : ∀ t : Fin cfg0.N, win0_9.index t = ![0, 0] := by decide +kernel
theorem emb9 (t : Fin cfg0.N) (y : S14x2048.Idx) : ((((cfg0.win 9).blk t).view.emb y : S14x2048.Idx) 0).val = (y 0).val ∧ ((((cfg0.win 9).blk t).view.emb y : S14x2048.Idx) 1).val = (y 1).val := by
  constructor
  · show win0_9.index t 0 * 14 + 1 * (y 0).val = _
    rw [idx9]
    show 0 * 14 + 1 * (y 0).val = _
    omega
  · show win0_9.index t 1 * 2048 + 1 * (y 1).val = _
    rw [idx9]
    show 0 * 2048 + 1 * (y 1).val = _
    omega
theorem idx10 : ∀ t : Fin cfg0.N, win0_10.index t = ![0, min t.val 21] := by decide +kernel
theorem emb10 (t : Fin cfg0.N) (y : S1792x256.Idx) : ((((cfg0.win 10).blk t).view.emb y : S1792x5632.Idx) 0).val = (y 0).val ∧ ((((cfg0.win 10).blk t).view.emb y : S1792x5632.Idx) 1).val = 256 * (min t.val 21) + (y 1).val := by
  constructor
  · show win0_10.index t 0 * 1792 + 1 * (y 0).val = _
    rw [idx10]
    show 0 * 1792 + 1 * (y 0).val = _
    omega
  · show win0_10.index t 1 * 256 + 1 * (y 1).val = _
    rw [idx10]
    show (min t.val 21) * 256 + 1 * (y 1).val = _
    omega
theorem idx11 : ∀ t : Fin cfg0.N, win0_11.index t = ![0, 0] := by decide +kernel
theorem emb11 (t : Fin cfg0.N) (y : S1792x44.Idx) : ((((cfg0.win 11).blk t).view.emb y : S1792x44.Idx) 0).val = (y 0).val ∧ ((((cfg0.win 11).blk t).view.emb y : S1792x44.Idx) 1).val = (y 1).val := by
  constructor
  · show win0_11.index t 0 * 1792 + 1 * (y 0).val = _
    rw [idx11]
    show 0 * 1792 + 1 * (y 0).val = _
    omega
  · show win0_11.index t 1 * 44 + 1 * (y 1).val = _
    rw [idx11]
    show 0 * 44 + 1 * (y 1).val = _
    omega
theorem idx12 : ∀ t : Fin cfg0.N, win0_12.index t = ![0, min t.val 21] := by decide +kernel
theorem emb12 (t : Fin cfg0.N) (y : S1792x256.Idx) : ((((cfg0.win 12).blk t).view.emb y : S1792x5632.Idx) 0).val = (y 0).val ∧ ((((cfg0.win 12).blk t).view.emb y : S1792x5632.Idx) 1).val = 256 * (min t.val 21) + (y 1).val := by
  constructor
  · show win0_12.index t 0 * 1792 + 1 * (y 0).val = _
    rw [idx12]
    show 0 * 1792 + 1 * (y 0).val = _
    omega
  · show win0_12.index t 1 * 256 + 1 * (y 1).val = _
    rw [idx12]
    show (min t.val 21) * 256 + 1 * (y 1).val = _
    omega
theorem idx13 : ∀ t : Fin cfg0.N, win0_13.index t = ![0, min t.val 21] := by decide +kernel
theorem emb13 (t : Fin cfg0.N) (y : S14x256.Idx) : ((((cfg0.win 13).blk t).view.emb y : S14x5632.Idx) 0).val = (y 0).val ∧ ((((cfg0.win 13).blk t).view.emb y : S14x5632.Idx) 1).val = 256 * (min t.val 21) + (y 1).val := by
  constructor
  · show win0_13.index t 0 * 14 + 1 * (y 0).val = _
    rw [idx13]
    show 0 * 14 + 1 * (y 0).val = _
    omega
  · show win0_13.index t 1 * 256 + 1 * (y 1).val = _
    rw [idx13]
    show (min t.val 21) * 256 + 1 * (y 1).val = _
    omega
theorem rd0 (t : Fin cfg0.N) {A : S16x44.Idx → EReal} {f} (hA : Is2 A f) (y : S16x44.Idx) :
    ((cfg0.win 0).blk t).view.read (Elt Ideal) A y = f ((y 0).val) ((y 1).val) :=
  (hA (((cfg0.win 0).blk t).view.emb y)).trans (congrArg₂ f (emb0 t y).1 (emb0 t y).2)
theorem rd1 (t : Fin cfg0.N) {A : S1792x2048.Idx → EReal} {f} (hA : Is2 A f) (y : S256x2048.Idx) :
    ((cfg0.win 1).blk t).view.read (Elt Ideal) A y = f (256 * (xrow t.val) + (y 0).val) ((y 1).val) :=
  (hA (((cfg0.win 1).blk t).view.emb y)).trans (congrArg₂ f (emb1 t y).1 (emb1 t y).2)
theorem rd2 (t : Fin cfg0.N) {A : S1x2048.Idx → EReal} {f} (hA : Is2 A f) (y : S1x2048.Idx) :
    ((cfg0.win 2).blk t).view.read (Elt Ideal) A y = f ((y 0).val) ((y 1).val) :=
  (hA (((cfg0.win 2).blk t).view.emb y)).trans (congrArg₂ f (emb2 t y).1 (emb2 t y).2)
theorem rd3 (t : Fin cfg0.N) {A : S2048x5632.Idx → EReal} {f} (hA : Is2 A f) (y : S2048x256.Idx) :
    ((cfg0.win 3).blk t).view.read (Elt Ideal) A y = f ((y 0).val) (256 * (min t.val 21) + (y 1).val) :=
  (hA (((cfg0.win 3).blk t).view.emb y)).trans (congrArg₂ f (emb3 t y).1 (emb3 t y).2)
theorem rd4 (t : Fin cfg0.N) {A : S1792x5632.Idx → EReal} {f} (hA : Is2 A f) (y : S1792x256.Idx) :
    ((cfg0.win 4).blk t).view.read (Elt Ideal) A y = f ((y 0).val) (256 * (min t.val 21) + (y 1).val) :=
  (hA (((cfg0.win 4).blk t).view.emb y)).trans (congrArg₂ f (emb4 t y).1 (emb4 t y).2)
theorem flush5 : ∀ t : Fin cfg0.N, (cfg0.win 5).flush t = true ↔ (23 ≤ t.val) := by decide +kernel
theorem fetch5 : ∀ t : Fin cfg0.N, (cfg0.win 5).fetch t = false := by decide +kernel
theorem flush6 : ∀ t : Fin cfg0.N, (cfg0.win 6).flush t = true ↔ (8 ≤ t.val) := by decide +kernel
theorem fetch6 : ∀ t : Fin cfg0.N, (cfg0.win 6).fetch t = false := by decide +kernel
theorem flush7 : ∀ t : Fin cfg0.N, (cfg0.win 7).flush t = true ↔ (t.val = 29) := by decide +kernel
theorem fetch7 : ∀ t : Fin cfg0.N, (cfg0.win 7).fetch t = false := by decide +kernel
theorem flush8 : ∀ t : Fin cfg0.N, (cfg0.win 8).flush t = true ↔ ((1 ≤ t.val ∧ t.val ≤ 6) ∨ t.val = 29) := by decide +kernel
theorem fetch8 : ∀ t : Fin cfg0.N, (cfg0.win 8).fetch t = false := by decide +kernel
theorem flush9 : ∀ t : Fin cfg0.N, (cfg0.win 9).flush t = true ↔ (t.val = 29) := by decide +kernel
theorem fetch9 : ∀ t : Fin cfg0.N, (cfg0.win 9).fetch t = false := by decide +kernel
theorem flush10 : ∀ t : Fin cfg0.N, (cfg0.win 10).flush t = true ↔ (t.val ≤ 20 ∨ t.val = 29) := by decide +kernel
theorem fetch10 : ∀ t : Fin cfg0.N, (cfg0.win 10).fetch t = false := by decide +kernel
theorem flush11 : ∀ t : Fin cfg0.N, (cfg0.win 11).flush t = true ↔ (t.val = 29) := by decide +kernel
theorem fetch11 : ∀ t : Fin cfg0.N, (cfg0.win 11).fetch t = false := by decide +kernel
theorem flush12 : ∀ t : Fin cfg0.N, (cfg0.win 12).flush t = true ↔ (t.val ≤ 20 ∨ t.val = 29) := by decide +kernel
theorem fetch12 : ∀ t : Fin cfg0.N, (cfg0.win 12).fetch t = false := by decide +kernel
theorem flush13 : ∀ t : Fin cfg0.N, (cfg0.win 13).flush t = true ↔ (t.val ≤ 20 ∨ t.val = 29) := by decide +kernel
theorem fetch13 : ∀ t : Fin cfg0.N, (cfg0.win 13).fetch t = false := by decide +kernel

end Cert.KernelIdeal.Hand

end
-- ==== Proof.Follow.lean ====
module

public import proofs.«01_k».proof.Proof.Win
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pipeline

/-! What is followed through the grid: the scratch buffers, and the blocks of the windows. -/

/-- A two-dimensional array by natural coordinates. -/
def ofVec {a b : ℕ} (X : Shape.Idx ⟨2, ![a, b]⟩ → EReal) : Arr := fun r c => if h : r < a ∧ c < b then X (ix2 ⟨r, h.1⟩ ⟨c, h.2⟩) else 0
theorem is2_ofVec {a b : ℕ} (X : Shape.Idx ⟨2, ![a, b]⟩ → EReal) : Is2 X (ofVec X) := by
  intro y
  have h : (y 0).val < a ∧ (y 1).val < b := ⟨(y 0).isLt, (y 1).isLt⟩
  unfold ofVec
  rw [dif_pos h]
  exact congrArg X (by funext i; fin_cases i <;> rfl)

section
variable (XA : Arr) (g : ℕ → EReal) (WA SA DA : Arr)

/-- The sum over the first `n` columns of the first product. -/
abbrev sumTo (n : ℕ) : Arr := DXN (RD ksc kinv DA) (WD WA SA) n

/-- The six scratch buffers after `k` points. -/
structure Inv (k : ℕ) (X15 : S2048x1792.Idx → EReal) (X16 : S1792x2048.Idx → EReal) (X17 : S2x1792x256.Idx → EReal) (X18 : S9x1792x256.Idx → EReal) (X19 : S2x2048x256.Idx → EReal)
    (X20 : S1792x1.Idx → EReal) : Prop where
  xqt : ∀ y, (y 1).val < 256 * min (k - 1) 7 → X15 y = XD ksc kinv (XN XA g) (y 1).val (y 0).val
  dxn : 1 ≤ k → Is2 X16 (sumTo WA SA DA (256 * min (k - 1) 22))
  dyq : 1 ≤ k → k ≤ 22 → ∀ y, (y 0).val = (k - 1) % 2 → X17 y = RD ksc kinv DA (y 1).val (256 * (k - 1) + (y 2).val)
  dq : ∀ u, u ≤ 21 → u < k → k ≤ u + 9 → ∀ y, (y 0).val = u % 9 → X18 y = CD ksc kinv DA (y 1).val (256 * u + (y 2).val)
  wq : 1 ≤ k → k ≤ 22 → ∀ y, (y 0).val = (k - 1) % 2 → X19 y = WD WA SA (y 1).val (256 * (k - 1) + (y 2).val)
  r : ∀ y, (y 0).val < 256 * min (k - 1) 7 → X20 y = R XA (y 0).val

/-- The windows' blocks after point `t`. -/
def Out5 (t : ℕ) (X : S256x2048.Idx → EReal) : Prop := 23 ≤ t → Is2 X (fun r c => DX XA g (sumTo WA SA DA 5632) (256 * (t - 23) + r) c)
def Out6 (t : ℕ) (X : S2048x256.Idx → EReal) : Prop := 8 ≤ t → Is2 X (fun r c => DW (XD ksc kinv (XN XA g)) (CD ksc kinv DA) r (256 * (t - 8) + c))
def Out7 (t : ℕ) (X : S1x2048.Idx → EReal) : Prop := Is2 X (fun _ c => DG XA (sumTo WA SA DA 5632) (256 * (t - 22)) c)
def Out8 (t : ℕ) (X : S256x2048.Idx → EReal) : Prop := 1 ≤ t → Is2 X (fun r c => XC kinv (XN XA g) (256 * min (t - 1) 6 + r) c)
def Out9 (t : ℕ) (X : S14x2048.Idx → EReal) : Prop := ∀ y, (y 0).val < 2 * min t 7 → X y = XS ksc (XN XA g) (y 0).val (y 1).val
def Out10 (t : ℕ) (X : S1792x256.Idx → EReal) : Prop := Is2 X (fun r c => RC kinv DA r (256 * min t 21 + c))
def Out11 (t : ℕ) (X : S1792x44.Idx → EReal) : Prop := ∀ y, (y 1).val < 2 * (min t 21 + 1) → X y = RS ksc DA (y 0).val (y 1).val
def Out12 (t : ℕ) (X : S1792x256.Idx → EReal) : Prop := Is2 X (fun r c => CC kinv DA r (256 * min t 21 + c))
def Out13 (t : ℕ) (X : S14x256.Idx → EReal) : Prop := Is2 X (fun r c => CS ksc DA r (256 * min t 21 + c))
end

variable (m : (ℓ : Loc nD τ sig) → Buf (Elt Ideal) ℓ) (c : Dev nD)

/-- The arguments as the call finds them. -/
def aX : Arr := ofVec (a := 1792) (b := 2048) (V m c main_v0)
def aG : ℕ → EReal := ofVec (a := 1) (b := 2048) (V m c main_v1) 0
def aW : Arr := ofVec (a := 2048) (b := 5632) (V m c main_arg2)
def aS : Arr := ofVec (a := 16) (b := 44) (V m c main_arg3)
def aD : Arr := ofVec (a := 1792) (b := 5632) (V m c main_v2)

def track : Track (F := Ideal) c where
  after := fun
    | 0 => fun _ Y X => X = Y
    | 1 => fun _ Y X => X = Y
    | 2 => fun _ Y X => X = Y
    | 3 => fun _ Y X => X = Y
    | 4 => fun _ Y X => X = Y
    | 5 => fun t _ X => Out5 (aX m c) (aG m c) (aW m c) (aS m c) (aD m c) t.val X
    | 6 => fun t _ X => Out6 (aX m c) (aG m c) (aD m c) t.val X
    | 7 => fun t _ X => Out7 (aX m c) (aW m c) (aS m c) (aD m c) t.val X
    | 8 => fun t _ X => Out8 (aX m c) (aG m c) t.val X
    | 9 => fun t _ X => Out9 (aX m c) (aG m c) t.val X
    | 10 => fun t _ X => Out10 (aD m c) t.val X
    | 11 => fun t _ X => Out11 (aD m c) t.val X
    | 12 => fun t _ X => Out12 (aD m c) t.val X
    | 13 => fun t _ X => Out13 (aD m c) t.val X
    | ⟨_ + 14, h⟩ => absurd h (Nat.not_lt.2 (Nat.le_add_left _ _))
  inv := fun t f15 f16 f17 f18 f19 f20 => Inv (aX m c) (aG m c) (aW m c) (aS m c) (aD m c) t.val
    ((Memref.whole cc0_scratch0).view.read (Elt Ideal) f15) ((Memref.whole cc0_scratch1).view.read (Elt Ideal) f16) ((Memref.whole cc0_scratch2).view.read (Elt Ideal) f17)
    ((Memref.whole cc0_scratch3).view.read (Elt Ideal) f18) ((Memref.whole cc0_scratch4).view.read (Elt Ideal) f19) ((Memref.whole cc0_scratch5).view.read (Elt Ideal) f20)

/-! What the body finds in its blocks. -/

abbrev trd : RDat τ (Elt Ideal) Unit ℕ (UR sig nD τ) ℕ cfg0 c := (track m c).rd m

variable {m c}

theorem found0 {t : Fin cfg0.N} {X} (h : (trd m c).Finds 0 t X) : Is2 (a := 16) (b := 44) X (aS m c) := by
  obtain ⟨d, rfl⟩ := (trd m c).finds_in_eq_fetched 0 rfl (fun _ _ _ => rfl) (fun _ _ _ h => h) t X h
  exact rd0 t (is2_ofVec (a := 16) (b := 44) (V m c main_arg3))
theorem found1 {t : Fin cfg0.N} {X} (h : (trd m c).Finds 1 t X) : Is2 (a := 256) (b := 2048) X (fun r k => aX m c (256 * xrow t.val + r) k) := by
  obtain ⟨d, rfl⟩ := (trd m c).finds_in_eq_fetched 1 rfl (fun _ _ _ => rfl) (fun _ _ _ h => h) t X h
  exact rd1 t (is2_ofVec (a := 1792) (b := 2048) (V m c main_v0))
theorem found2 {t : Fin cfg0.N} {X} (h : (trd m c).Finds 2 t X) : Is2 (a := 1) (b := 2048) X (fun _ k => aG m c k) := by
  obtain ⟨d, rfl⟩ := (trd m c).finds_in_eq_fetched 2 rfl (fun _ _ _ => rfl) (fun _ _ _ h => h) t X h
  intro y
  have h0 : (y 0).val < 1 := (y 0).isLt
  refine (rd2 t (is2_ofVec (a := 1) (b := 2048) (V m c main_v1)) y).trans ?_
  rw [show (y 0).val = 0 by omega]; rfl
theorem found3 {t : Fin cfg0.N} {X} (h : (trd m c).Finds 3 t X) : Is2 (a := 2048) (b := 256) X (fun r k => aW m c r (256 * min t.val 21 + k)) := by
  obtain ⟨d, rfl⟩ := (trd m c).finds_in_eq_fetched 3 rfl (fun _ _ _ => rfl) (fun _ _ _ h => h) t X h
  exact rd3 t (is2_ofVec (a := 2048) (b := 5632) (V m c main_arg2))
theorem found4 {t : Fin cfg0.N} {X} (h : (trd m c).Finds 4 t X) : Is2 (a := 1792) (b := 256) X (fun r k => aD m c r (256 * min t.val 21 + k)) := by
  obtain ⟨d, rfl⟩ := (trd m c).finds_in_eq_fetched 4 rfl (fun _ _ _ => rfl) (fun _ _ _ h => h) t X h
  exact rd4 t (is2_ofVec (a := 1792) (b := 5632) (V m c main_v2))

/-- A block that is not written back at the point before is found as the body left it. -/
theorem found_out (w : Fin cfg0.W) {t : Fin cfg0.N} (hf : (cfg0.win w).fetch t = false) (ht : t.val ≠ 0)
    (hfl : ¬ (cfg0.win w).flush ⟨t.val - 1, Nat.lt_of_le_of_lt (Nat.sub_le _ _) t.isLt⟩ = true) {X} (h : (trd m c).Finds w t X) :
    ∃ Y, (track m c).after w ⟨t.val - 1, Nat.lt_of_le_of_lt (Nat.sub_le _ _) t.isLt⟩ Y X := by
  obtain ⟨Y, _, hY⟩ := (((trd m c).finds_of_pos hf ht X).1 h).resolve_left hfl
  exact ⟨Y, hY⟩
theorem found7 {t : Fin cfg0.N} (ht : t.val ≠ 0) {X} (h : (trd m c).Finds 7 t X) : Is2 (a := 1) (b := 2048) X (fun _ k => DG (aX m c) (sumTo (aW m c) (aS m c) (aD m c) 5632) (256 * (t.val - 23)) k) := by
  have ht30 : t.val < 30 := t.isLt
  obtain ⟨Y, hY⟩ := found_out 7 (fetch7 t) (by omega) (by rw [flush7]; show ¬ (t.val - 1 = 29); omega) h
  have := (show Out7 (aX m c) (aW m c) (aS m c) (aD m c) (t.val - 1) X from hY)
  unfold Out7 at this
  rwa [show t.val - 1 - 22 = t.val - 23 by omega] at this
theorem found8 {t : Fin cfg0.N} (ht : 8 ≤ t.val) {X} (h : (trd m c).Finds 8 t X) : Out8 (aX m c) (aG m c) t.val X := by
  have ht30 : t.val < 30 := t.isLt
  obtain ⟨Y, hY⟩ := found_out 8 (fetch8 t) (by omega) (by rw [flush8]; show ¬ ((1 ≤ t.val - 1 ∧ t.val - 1 ≤ 6) ∨ t.val - 1 = 29); omega) h
  have := (show Out8 (aX m c) (aG m c) (t.val - 1) X from hY)
  intro _
  have := this (by omega)
  rwa [show min (t.val - 1 - 1) 6 = min (t.val - 1) 6 by omega] at this
theorem found9 {t : Fin cfg0.N}  {X} (h : (trd m c).Finds 9 t X) : ∀ y : S14x2048.Idx, (y 0).val < 2 * min (t.val - 1) 7 → X y = XS ksc (XN (aX m c) (aG m c)) (y 0).val (y 1).val := by
  by_cases ht : t.val = 0
  · intro y hy; omega
  have ht30 : t.val < 30 := t.isLt
  obtain ⟨Y, hY⟩ := found_out 9 (fetch9 t) (by omega) (by rw [flush9]; show ¬ (t.val - 1 = 29); omega) h
  exact (show Out9 (aX m c) (aG m c) (t.val - 1) X from hY)
theorem found11 {t : Fin cfg0.N}  {X} (h : (trd m c).Finds 11 t X) : ∀ y : S1792x44.Idx, (y 1).val < 2 * min t.val 22 → X y = RS ksc (aD m c) (y 0).val (y 1).val := by
  by_cases ht : t.val = 0
  · intro y hy; omega
  have ht30 : t.val < 30 := t.isLt
  obtain ⟨Y, hY⟩ := found_out 11 (fetch11 t) (by omega) (by rw [flush11]; show ¬ (t.val - 1 = 29); omega) h
  intro y hy
  exact (show Out11 (aD m c) (t.val - 1) X from hY) y (by omega)
theorem found10 {t : Fin cfg0.N} (ht : 23 ≤ t.val) {X} (h : (trd m c).Finds 10 t X) : Out10 (aD m c) t.val X := by
  have ht30 : t.val < 30 := t.isLt
  obtain ⟨Y, hY⟩ := found_out 10 (fetch10 t) (by omega) (by rw [flush10]; show ¬ (t.val - 1 ≤ 20 ∨ t.val - 1 = 29); omega) h
  have := (show Out10 (aD m c) (t.val - 1) X from hY)
  unfold Out10 at this ⊢
  rwa [show min (t.val - 1) 21 = min t.val 21 by omega] at this
theorem found12 {t : Fin cfg0.N} (ht : 23 ≤ t.val) {X} (h : (trd m c).Finds 12 t X) : Out12 (aD m c) t.val X := by
  have ht30 : t.val < 30 := t.isLt
  obtain ⟨Y, hY⟩ := found_out 12 (fetch12 t) (by omega) (by rw [flush12]; show ¬ (t.val - 1 ≤ 20 ∨ t.val - 1 = 29); omega) h
  have := (show Out12 (aD m c) (t.val - 1) X from hY)
  unfold Out12 at this ⊢
  rwa [show min (t.val - 1) 21 = min t.val 21 by omega] at this
theorem found13 {t : Fin cfg0.N} (ht : 23 ≤ t.val) {X} (h : (trd m c).Finds 13 t X) : Out13 (aD m c) t.val X := by
  have ht30 : t.val < 30 := t.isLt
  obtain ⟨Y, hY⟩ := found_out 13 (fetch13 t) (by omega) (by rw [flush13]; show ¬ (t.val - 1 ≤ 20 ∨ t.val - 1 = 29); omega) h
  have := (show Out13 (aD m c) (t.val - 1) X from hY)
  unfold Out13 at this ⊢
  rwa [show min (t.val - 1) 21 = min t.val 21 by omega] at this

end Cert.KernelIdeal.Hand

end
-- ==== Proof.Quant1.lean ====
module

public import proofs.«01_k».proof.Proof.Run1
public import proofs.«01_k».proof.Proof.Forms

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! Every store of the quantiser in this phase has its form. -/

section
variable {F : FTy → Type} [FloatOps F]
variable (c : Dev nD) (i : grid0.Coords) (h1 : k0_cond1 i = 1#1)
variable (arg1 : Memref sig .tc .smem S16x44 .f32) (arg4 : Memref sig .tc .vmem S2048x256 .fp8e4m3) (arg5 : Memref sig .tc .vmem S1792x256 .bf16) (arg12 : Memref sig .tc .vmem S1792x44 .f32)
 (f1 : Bf (F := F) c arg1) (f4 : Bf (F := F) c arg4) (f5 : Bf (F := F) c arg5) (f12 : Bf (F := F) c arg12)
set_option maxHeartbeats 4000000
set_option maxRecDepth 100000

theorem run1_cs : ∀ p ∈ run1.sl.H14_28 c arg5 f5, CsForm (arg5.view.read (Elt F) f5) p := by
  iterate 28 refine List.forall_mem_cons.2 ⟨⟨_, _, _, _, _, rfl, rfl⟩, ?_⟩
  exact List.forall_mem_nil _
theorem run1_cc : ∀ p ∈ run1.sl.H13_28 c arg5 f5, CcForm (arg5.view.read (Elt F) f5) p := by
  iterate 28 refine List.forall_mem_cons.2 ⟨⟨_, _, _, _, rfl, rfl⟩, ?_⟩
  exact List.forall_mem_nil _
theorem run1_rc : ∀ p ∈ run1.sl.H11_28 c arg5 f5, RcForm (arg5.view.read (Elt F) f5) p := by
  iterate 28 refine List.forall_mem_cons.2 ⟨⟨_, _, _, _, rfl, rfl⟩, ?_⟩
  exact List.forall_mem_nil _
theorem run1_dq : ∀ p ∈ run1.sl.H18_28 c i h1 arg5 f5, DqForm (arg5.view.read (Elt F) f5) ((i 0).val % 9) p := by
  haveI : Fact (k0_cond1 i = 1#1) := ⟨h1⟩
  iterate 28 refine List.forall_mem_cons.2 ⟨⟨_, _, _, _, _, rfl, ClosedOff.eq, rfl⟩, ?_⟩
  exact List.forall_mem_nil _
theorem run1_dyq : ∀ p ∈ run1.sl.H17_28 c i h1 arg5 f5, DyqForm (arg5.view.read (Elt F) f5) ((i 0).val % 2) p := by
  haveI : Fact (k0_cond1 i = 1#1) := ⟨h1⟩
  iterate 28 refine List.forall_mem_cons.2 ⟨⟨_, _, _, _, _, rfl, ClosedOff.eq, rfl⟩, ?_⟩
  exact List.forall_mem_nil _
theorem run1_rs : ∀ p ∈ run1.sl.H12_14 c i arg5 arg12 f5 f12, RsForm (arg5.view.read (Elt F) f5) (arg12.view.read (Elt F) f12) (IntOp.minsi (BitVec.ofNat 32 (i 0).val) 21#32) p := by
  iterate 14 refine List.forall_mem_cons.2 ⟨⟨_, _, _, _, rfl⟩, ?_⟩
  exact List.forall_mem_nil _
theorem run1_wq : ∀ p ∈ run1.sl.H19_31 c i h1 arg1 arg4 f1 f4, WqForm (arg1.view.read (Elt F) f1) (arg4.view.read (Elt F) f4) ((i 0).val % 2) (min (i 0).val 21) p := by
  haveI : Fact (k0_cond1 i = 1#1) := ⟨h1⟩
  iterate 31 refine List.forall_mem_cons.2 ⟨⟨_, _, _, _, _, _, _, _, rfl, ClosedOff.eq, ClosedOff.eq, rfl, rfl⟩, ?_⟩
  exact List.forall_mem_nil _
end

end Cert.KernelIdeal.Hand

end
-- ==== Proof.Leaves1.lean ====
module

public import proofs.«01_k».proof.Proof.Run1
public import proofs.«01_k».proof.Proof.Quant1
public import proofs.«01_k».proof.Proof.Forms
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What phase 1 of the body leaves in the buffers that it writes. -/

variable {F : FTy → Type} [FloatOps F]

set_option maxHeartbeats 8000000
set_option maxRecDepth 100000

theorem run1_leaves (c : Dev nD) (i : grid0.Coords) (h1 : k0_cond1 i = 1#1) (h2 : ¬ k0_cond2 i = 1#1) (h3 : ¬ k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    ∃ L8 L11 L12 L13 L14 L16 L17 L18 L19, (run1 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f1 f2 f3 f4 f5 f6 f7 f8 f9 f10 f11 f12 f13 f14 f15 f16 f17 f18 f19 f20).1 = (arg8.view.writes (Elt F) f8 L8, arg11.view.writes (Elt F) f11 L11, arg12.view.writes (Elt F) f12 L12, arg13.view.writes (Elt F) f13 L13, arg14.view.writes (Elt F) f14 L14, arg16.view.writes (Elt F) f16 L16, arg17.view.writes (Elt F) f17 L17, arg18.view.writes (Elt F) f18 L18, arg19.view.writes (Elt F) f19 L19)
      ∧ Quant (arg1.view.read (Elt F) f1) (arg4.view.read (Elt F) f4) (arg5.view.read (Elt F) f5) (arg12.view.read (Elt F) f12) (i 0).val L11 L12 L13 L14 L17 L18 L19
      ∧ (∃ p, L8 = [p] ∧ ZeroForm p)
      ∧ (∃ p, L16 = [p] ∧ ZeroForm p) := by
  haveI : Fact (k0_cond1 i = 1#1) := ⟨h1⟩
  refine ⟨_, _, _, _, _, _, _, _, _, rfl, ?_, ?_, ?_⟩
  · exact
      { rc := run1_rc c arg5 f5
        rcO := (by (iterate 28 refine .cons _ _ _ _ _ _ rfl rfl ?_); exact .nil)
        rs := run1_rs c i arg5 arg12 f5 f12
        rsO := (by (iterate 14 refine .cons _ _ _ _ _ _ rfl rfl ?_); exact .nil)
        cc := run1_cc c arg5 f5
        ccO := (by (iterate 28 refine .cons _ _ _ _ _ _ rfl rfl ?_); exact .nil)
        cs := run1_cs c arg5 f5
        csO := (by (iterate 28 refine .cons _ _ _ _ _ _ rfl rfl ?_); exact .nil)
        dyq := run1_dyq c i h1 arg5 f5
        dyqO := (by (iterate 28 refine .cons _ _ _ _ _ _ rfl ClosedOff.eq ?_); exact .nil)
        dq := run1_dq c i h1 arg5 f5
        dqO := (by (iterate 28 refine .cons _ _ _ _ _ _ rfl ClosedOff.eq ?_); exact .nil)
        wq := List.forall_mem_cons.2 ⟨⟨_, _, _, _, _, _, _, _, rfl, ClosedOff.eq, ClosedOff.eq, rfl, rfl⟩, run1_wq c i h1 arg1 arg4 f1 f4⟩
        wqO := (by (iterate 32 refine .cons _ _ _ _ _ _ rfl ClosedOff.eq ?_); exact .nil) }
  · exact ⟨_, rfl, _, rfl⟩
  · exact ⟨_, rfl, _, rfl⟩

end Cert.KernelIdeal.Hand

end
-- ==== Proof.Quant2.lean ====
module

public import proofs.«01_k».proof.Proof.Run2
public import proofs.«01_k».proof.Proof.Forms

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! Every store of the quantiser in this phase has its form. -/

section
variable {F : FTy → Type} [FloatOps F]
variable (c : Dev nD) (i : grid0.Coords) (h2 : k0_cond2 i = 1#1)
variable (arg1 : Memref sig .tc .smem S16x44 .f32) (arg4 : Memref sig .tc .vmem S2048x256 .fp8e4m3) (arg5 : Memref sig .tc .vmem S1792x256 .bf16) (arg12 : Memref sig .tc .vmem S1792x44 .f32)
 (f1 : Bf (F := F) c arg1) (f4 : Bf (F := F) c arg4) (f5 : Bf (F := F) c arg5) (f12 : Bf (F := F) c arg12)
set_option maxHeartbeats 4000000
set_option maxRecDepth 100000

theorem run2_cs : ∀ p ∈ run2.sl.H14_28 c arg5 f5, CsForm (arg5.view.read (Elt F) f5) p := by
  iterate 28 refine List.forall_mem_cons.2 ⟨⟨_, _, _, _, _, rfl, rfl⟩, ?_⟩
  exact List.forall_mem_nil _
theorem run2_cc : ∀ p ∈ run2.sl.H13_28 c arg5 f5, CcForm (arg5.view.read (Elt F) f5) p := by
  iterate 28 refine List.forall_mem_cons.2 ⟨⟨_, _, _, _, rfl, rfl⟩, ?_⟩
  exact List.forall_mem_nil _
theorem run2_rc : ∀ p ∈ run2.sl.H11_28 c arg5 f5, RcForm (arg5.view.read (Elt F) f5) p := by
  iterate 28 refine List.forall_mem_cons.2 ⟨⟨_, _, _, _, rfl, rfl⟩, ?_⟩
  exact List.forall_mem_nil _
theorem run2_dq : ∀ p ∈ run2.sl.H18_28 c i h2 arg5 f5, DqForm (arg5.view.read (Elt F) f5) ((i 0).val % 9) p := by
  haveI : Fact (k0_cond2 i = 1#1) := ⟨h2⟩
  iterate 28 refine List.forall_mem_cons.2 ⟨⟨_, _, _, _, _, rfl, ClosedOff.eq, rfl⟩, ?_⟩
  exact List.forall_mem_nil _
theorem run2_dyq : ∀ p ∈ run2.sl.H17_28 c i h2 arg5 f5, DyqForm (arg5.view.read (Elt F) f5) ((i 0).val % 2) p := by
  haveI : Fact (k0_cond2 i = 1#1) := ⟨h2⟩
  iterate 28 refine List.forall_mem_cons.2 ⟨⟨_, _, _, _, _, rfl, ClosedOff.eq, rfl⟩, ?_⟩
  exact List.forall_mem_nil _
theorem run2_rs : ∀ p ∈ run2.sl.H12_14 c i arg5 arg12 f5 f12, RsForm (arg5.view.read (Elt F) f5) (arg12.view.read (Elt F) f12) (IntOp.minsi (BitVec.ofNat 32 (i 0).val) 21#32) p := by
  iterate 14 refine List.forall_mem_cons.2 ⟨⟨_, _, _, _, rfl⟩, ?_⟩
  exact List.forall_mem_nil _
theorem run2_wq : ∀ p ∈ run2.sl.H19_31 c i h2 arg1 arg4 f1 f4, WqForm (arg1.view.read (Elt F) f1) (arg4.view.read (Elt F) f4) ((i 0).val % 2) (min (i 0).val 21) p := by
  haveI : Fact (k0_cond2 i = 1#1) := ⟨h2⟩
  iterate 31 refine List.forall_mem_cons.2 ⟨⟨_, _, _, _, _, _, _, _, rfl, ClosedOff.eq, ClosedOff.eq, rfl, rfl⟩, ?_⟩
  exact List.forall_mem_nil _
end

end Cert.KernelIdeal.Hand

end
-- ==== Proof.Prep2.lean ====
module

public import proofs.«01_k».proof.Proof.Run2
public import proofs.«01_k».proof.Proof.Forms

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! Every store of the normalisation has its form. -/

section
variable {F : FTy → Type} [FloatOps F]
variable (c : Dev nD) (i : grid0.Coords) (h2 : k0_cond2 i = 1#1)
variable (arg2 : Memref sig .tc .vmem S256x2048 .bf16) (arg3 : Memref sig .tc .vmem S1x2048 .f32) (arg10 : Memref sig .tc .vmem S14x2048 .f32) (arg20 : Memref sig .tc .vmem S1792x1 .f32)
 (f2 : Bf (F := F) c arg2) (f3 : Bf (F := F) c arg3) (f10 : Bf (F := F) c arg10)
set_option maxHeartbeats 4000000
set_option maxRecDepth 100000

/-- The rows' factors as the blocks read them back. -/
def rho : S1792x1.Idx → Elt F .f32 := arg20.view.read (Elt F) (arg20.view.writes (Elt F) arg20.view.junk (run2.sl.H20_16 c i h2 arg2 f2))

theorem run2_r : ∀ p ∈ run2.sl.H20_16 c i h2 arg2 f2, RForm (arg2.view.read (Elt F) f2) (i 0).val p := by
  haveI : Fact (k0_cond2 i = 1#1) := ⟨h2⟩
  iterate 16 refine List.forall_mem_cons.2 ⟨⟨_, _, _, _, rfl, ClosedOff.eq⟩, ?_⟩
  exact List.forall_mem_nil _
theorem run2_xc : ∀ p ∈ run2.sl.H9_32 c i h2 arg2 arg3 arg20 f2 f3, XcForm (arg2.view.read (Elt F) f2) (arg3.view.read (Elt F) f3) (rho c i h2 arg2 arg20 f2) (i 0).val p := by
  haveI : Fact (k0_cond2 i = 1#1) := ⟨h2⟩
  iterate 32 refine List.forall_mem_cons.2 ⟨⟨_, _, _, _, _, _, _, rfl, ClosedOff.eq, rfl⟩, ?_⟩
  exact List.forall_mem_nil _
theorem run2_xq : ∀ p ∈ run2.sl.H15_32 c i h2 arg2 arg3 arg20 f2 f3, XqForm (arg2.view.read (Elt F) f2) (arg3.view.read (Elt F) f3) (rho c i h2 arg2 arg20 f2) (i 0).val p := by
  haveI : Fact (k0_cond2 i = 1#1) := ⟨h2⟩
  iterate 32 refine List.forall_mem_cons.2 ⟨⟨_, _, _, _, _, _, _, _, rfl, ClosedOff.eq, ClosedOff.eq, rfl⟩, ?_⟩
  exact List.forall_mem_nil _
theorem run2_xs : ∀ p ∈ run2.sl.H10_16 c i h2 arg2 arg3 arg10 arg20 f2 f3 f10, XsForm (arg2.view.read (Elt F) f2) (arg3.view.read (Elt F) f3) (rho c i h2 arg2 arg20 f2)
    (arg10.view.read (Elt F) f10) (i 0).val (IntOp.subi (BitVec.ofNat 32 (i 0).val) 1#32) p := by
  haveI : Fact (k0_cond2 i = 1#1) := ⟨h2⟩
  iterate 16 refine List.forall_mem_cons.2 ⟨⟨_, _, _, _, _, _, rfl, ClosedOff.eq⟩, ?_⟩
  exact List.forall_mem_nil _
theorem run2_xs' : XsChain (arg2.view.read (Elt F) f2) (arg3.view.read (Elt F) f3) (rho c i h2 arg2 arg20 f2) arg10.view (i 0).val
    (IntOp.subi (BitVec.ofNat 32 (i 0).val) 1#32) (run2.sl.H10_16 c i h2 arg2 arg3 arg10 arg20 f2 f3 f10) 16 (run2.sl.H10_32 c i h2 arg2 arg3 arg10 arg20 f2 f3 f10) := by
  haveI : Fact (k0_cond2 i = 1#1) := ⟨h2⟩
  iterate 16 refine .cons _ _ _ _ _ _ _ _ rfl ClosedOff.eq ?_
  exact .nil
end

end Cert.KernelIdeal.Hand

end
-- ==== Proof.Leaves2.lean ====
module

public import proofs.«01_k».proof.Proof.Run2
public import proofs.«01_k».proof.Proof.Quant2
public import proofs.«01_k».proof.Proof.Prep2
public import proofs.«01_k».proof.Proof.Forms
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What phase 2 of the body leaves in the buffers that it writes. -/

variable {F : FTy → Type} [FloatOps F]

set_option maxHeartbeats 8000000
set_option maxRecDepth 100000

theorem run2_leaves (c : Dev nD) (i : grid0.Coords) (h1 : ¬ k0_cond1 i = 1#1) (h2 : k0_cond2 i = 1#1) (h3 : ¬ k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    ∃ L9 L10 L11 L12 L13 L14 L15 L16 L17 L18 L19 L20, (run2 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f1 f2 f3 f4 f5 f6 f7 f8 f9 f10 f11 f12 f13 f14 f15 f16 f17 f18 f19 f20).1 = (arg9.view.writes (Elt F) f9 L9, arg10.view.writes (Elt F) f10 L10, arg11.view.writes (Elt F) f11 L11, arg12.view.writes (Elt F) f12 L12, arg13.view.writes (Elt F) f13 L13, arg14.view.writes (Elt F) f14 L14, arg15.view.writes (Elt F) f15 L15, arg16.view.writes (Elt F) f16 L16, arg17.view.writes (Elt F) f17 L17, arg18.view.writes (Elt F) f18 L18, arg19.view.writes (Elt F) f19 L19, arg20.view.writes (Elt F) f20 L20)
      ∧ Quant (arg1.view.read (Elt F) f1) (arg4.view.read (Elt F) f4) (arg5.view.read (Elt F) f5) (arg12.view.read (Elt F) f12) (i 0).val L11 L12 L13 L14 L17 L18 L19
      ∧ Prep (arg2.view.read (Elt F) f2) (arg3.view.read (Elt F) f3) arg10.view (arg10.view.read (Elt F) f10) arg20.view (i 0).val L9 L10 L15 L20
      ∧ (∃ p, L16 = [p] ∧ DxnForm (arg16.view.read (Elt F) f16) (arg17.view.read (Elt F) f17) (arg19.view.read (Elt F) f19) (((i 0).val + 1) % 2) p) := by
  haveI : Fact (k0_cond2 i = 1#1) := ⟨h2⟩
  refine ⟨_, _, _, _, _, _, _, _, _, _, _, _, rfl, ?_, ?_, ?_⟩
  · exact
      { rc := run2_rc c arg5 f5
        rcO := (by (iterate 28 refine .cons _ _ _ _ _ _ rfl rfl ?_); exact .nil)
        rs := run2_rs c i arg5 arg12 f5 f12
        rsO := (by (iterate 14 refine .cons _ _ _ _ _ _ rfl rfl ?_); exact .nil)
        cc := run2_cc c arg5 f5
        ccO := (by (iterate 28 refine .cons _ _ _ _ _ _ rfl rfl ?_); exact .nil)
        cs := run2_cs c arg5 f5
        csO := (by (iterate 28 refine .cons _ _ _ _ _ _ rfl rfl ?_); exact .nil)
        dyq := run2_dyq c i h2 arg5 f5
        dyqO := (by (iterate 28 refine .cons _ _ _ _ _ _ rfl ClosedOff.eq ?_); exact .nil)
        dq := run2_dq c i h2 arg5 f5
        dqO := (by (iterate 28 refine .cons _ _ _ _ _ _ rfl ClosedOff.eq ?_); exact .nil)
        wq := List.forall_mem_cons.2 ⟨⟨_, _, _, _, _, _, _, _, rfl, ClosedOff.eq, ClosedOff.eq, rfl, rfl⟩, run2_wq c i h2 arg1 arg4 f1 f4⟩
        wqO := (by (iterate 32 refine .cons _ _ _ _ _ _ rfl ClosedOff.eq ?_); exact .nil) }
  · exact
      { r := run2_r c i h2 arg2 f2
        rO := (by (iterate 16 refine .cons _ _ _ _ _ _ rfl ClosedOff.eq ?_); exact .nil)
        xc := run2_xc c i h2 arg2 arg3 arg20 f2 f3
        xcO := (by (iterate 32 refine .cons _ _ _ _ _ _ rfl rfl ?_); exact .nil)
        xq := run2_xq c i h2 arg2 arg3 arg20 f2 f3
        xqO := (by (iterate 32 refine .cons _ _ _ _ _ _ rfl ClosedOff.eq ?_); exact .nil)
        xs := ⟨_, run2_xs c i h2 arg2 arg3 arg10 arg20 f2 f3 f10, (by (iterate 16 refine .cons _ _ _ _ _ _ rfl rfl ?_); exact .nil), run2_xs' c i h2 arg2 arg3 arg10 arg20 f2 f3 f10⟩ }
  · exact ⟨_, rfl, _, _, _, _, _, rfl, ClosedOff.eq, ClosedOff.eq⟩

end Cert.KernelIdeal.Hand

end
-- ==== Proof.Quant3.lean ====
module

public import proofs.«01_k».proof.Proof.Run3
public import proofs.«01_k».proof.Proof.Forms

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! Every store of the quantiser in this phase has its form. -/

section
variable {F : FTy → Type} [FloatOps F]
variable (c : Dev nD) (i : grid0.Coords) (h3 : k0_cond3 i = 1#1)
variable (arg1 : Memref sig .tc .smem S16x44 .f32) (arg4 : Memref sig .tc .vmem S2048x256 .fp8e4m3) (arg5 : Memref sig .tc .vmem S1792x256 .bf16) (arg12 : Memref sig .tc .vmem S1792x44 .f32)
 (f1 : Bf (F := F) c arg1) (f4 : Bf (F := F) c arg4) (f5 : Bf (F := F) c arg5) (f12 : Bf (F := F) c arg12)
set_option maxHeartbeats 4000000
set_option maxRecDepth 100000

theorem run3_cs : ∀ p ∈ run3.sl.H14_28 c arg5 f5, CsForm (arg5.view.read (Elt F) f5) p := by
  iterate 28 refine List.forall_mem_cons.2 ⟨⟨_, _, _, _, _, rfl, rfl⟩, ?_⟩
  exact List.forall_mem_nil _
theorem run3_cc : ∀ p ∈ run3.sl.H13_28 c arg5 f5, CcForm (arg5.view.read (Elt F) f5) p := by
  iterate 28 refine List.forall_mem_cons.2 ⟨⟨_, _, _, _, rfl, rfl⟩, ?_⟩
  exact List.forall_mem_nil _
theorem run3_rc : ∀ p ∈ run3.sl.H11_28 c arg5 f5, RcForm (arg5.view.read (Elt F) f5) p := by
  iterate 28 refine List.forall_mem_cons.2 ⟨⟨_, _, _, _, rfl, rfl⟩, ?_⟩
  exact List.forall_mem_nil _
theorem run3_dq : ∀ p ∈ run3.sl.H18_28 c i h3 arg5 f5, DqForm (arg5.view.read (Elt F) f5) ((i 0).val % 9) p := by
  haveI : Fact (k0_cond3 i = 1#1) := ⟨h3⟩
  iterate 28 refine List.forall_mem_cons.2 ⟨⟨_, _, _, _, _, rfl, ClosedOff.eq, rfl⟩, ?_⟩
  exact List.forall_mem_nil _
theorem run3_dyq : ∀ p ∈ run3.sl.H17_28 c i h3 arg5 f5, DyqForm (arg5.view.read (Elt F) f5) ((i 0).val % 2) p := by
  haveI : Fact (k0_cond3 i = 1#1) := ⟨h3⟩
  iterate 28 refine List.forall_mem_cons.2 ⟨⟨_, _, _, _, _, rfl, ClosedOff.eq, rfl⟩, ?_⟩
  exact List.forall_mem_nil _
theorem run3_rs : ∀ p ∈ run3.sl.H12_14 c i arg5 arg12 f5 f12, RsForm (arg5.view.read (Elt F) f5) (arg12.view.read (Elt F) f12) (IntOp.minsi (BitVec.ofNat 32 (i 0).val) 21#32) p := by
  iterate 14 refine List.forall_mem_cons.2 ⟨⟨_, _, _, _, rfl⟩, ?_⟩
  exact List.forall_mem_nil _
theorem run3_wq : ∀ p ∈ run3.sl.H19_31 c i h3 arg1 arg4 f1 f4, WqForm (arg1.view.read (Elt F) f1) (arg4.view.read (Elt F) f4) ((i 0).val % 2) (min (i 0).val 21) p := by
  haveI : Fact (k0_cond3 i = 1#1) := ⟨h3⟩
  iterate 31 refine List.forall_mem_cons.2 ⟨⟨_, _, _, _, _, _, _, _, rfl, ClosedOff.eq, ClosedOff.eq, rfl, rfl⟩, ?_⟩
  exact List.forall_mem_nil _
end

end Cert.KernelIdeal.Hand

end
-- ==== Proof.Leaves3.lean ====
module

public import proofs.«01_k».proof.Proof.Run3
public import proofs.«01_k».proof.Proof.Quant3
public import proofs.«01_k».proof.Proof.Forms
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What phase 3 of the body leaves in the buffers that it writes. -/

variable {F : FTy → Type} [FloatOps F]

set_option maxHeartbeats 8000000
set_option maxRecDepth 100000

theorem run3_leaves (c : Dev nD) (i : grid0.Coords) (h1 : ¬ k0_cond1 i = 1#1) (h2 : ¬ k0_cond2 i = 1#1) (h3 : k0_cond3 i = 1#1) (h4 : ¬ k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    ∃ L7 L11 L12 L13 L14 L16 L17 L18 L19, (run3 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f1 f2 f3 f4 f5 f6 f7 f8 f9 f10 f11 f12 f13 f14 f15 f16 f17 f18 f19 f20).1 = (arg7.view.writes (Elt F) f7 L7, arg11.view.writes (Elt F) f11 L11, arg12.view.writes (Elt F) f12 L12, arg13.view.writes (Elt F) f13 L13, arg14.view.writes (Elt F) f14 L14, arg16.view.writes (Elt F) f16 L16, arg17.view.writes (Elt F) f17 L17, arg18.view.writes (Elt F) f18 L18, arg19.view.writes (Elt F) f19 L19)
      ∧ Quant (arg1.view.read (Elt F) f1) (arg4.view.read (Elt F) f4) (arg5.view.read (Elt F) f5) (arg12.view.read (Elt F) f12) (i 0).val L11 L12 L13 L14 L17 L18 L19
      ∧ (∃ p, L16 = [p] ∧ DxnForm (arg16.view.read (Elt F) f16) (arg17.view.read (Elt F) f17) (arg19.view.read (Elt F) f19) (((i 0).val + 1) % 2) p)
      ∧ (∃ p, L7 = [p] ∧ DwForm (arg15.view.read (Elt F) f15) (arg18.view.read (Elt F) f18) (((i 0).val - 8) % 9) p) := by
  haveI : Fact (k0_cond3 i = 1#1) := ⟨h3⟩
  refine ⟨_, _, _, _, _, _, _, _, _, rfl, ?_, ?_, ?_⟩
  · exact
      { rc := run3_rc c arg5 f5
        rcO := (by (iterate 28 refine .cons _ _ _ _ _ _ rfl rfl ?_); exact .nil)
        rs := run3_rs c i arg5 arg12 f5 f12
        rsO := (by (iterate 14 refine .cons _ _ _ _ _ _ rfl rfl ?_); exact .nil)
        cc := run3_cc c arg5 f5
        ccO := (by (iterate 28 refine .cons _ _ _ _ _ _ rfl rfl ?_); exact .nil)
        cs := run3_cs c arg5 f5
        csO := (by (iterate 28 refine .cons _ _ _ _ _ _ rfl rfl ?_); exact .nil)
        dyq := run3_dyq c i h3 arg5 f5
        dyqO := (by (iterate 28 refine .cons _ _ _ _ _ _ rfl ClosedOff.eq ?_); exact .nil)
        dq := run3_dq c i h3 arg5 f5
        dqO := (by (iterate 28 refine .cons _ _ _ _ _ _ rfl ClosedOff.eq ?_); exact .nil)
        wq := List.forall_mem_cons.2 ⟨⟨_, _, _, _, _, _, _, _, rfl, ClosedOff.eq, ClosedOff.eq, rfl, rfl⟩, run3_wq c i h3 arg1 arg4 f1 f4⟩
        wqO := (by (iterate 32 refine .cons _ _ _ _ _ _ rfl ClosedOff.eq ?_); exact .nil) }
  · exact ⟨_, rfl, _, _, _, _, _, rfl, ClosedOff.eq, ClosedOff.eq⟩
  · exact ⟨_, rfl, _, _, _, _, rfl, ClosedOff.eq⟩

end Cert.KernelIdeal.Hand

end
-- ==== Proof.Leaves4.lean ====
module

public import proofs.«01_k».proof.Proof.Run4
public import proofs.«01_k».proof.Proof.Forms
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What phase 4 of the body leaves in the buffers that it writes. -/

variable {F : FTy → Type} [FloatOps F]

set_option maxHeartbeats 8000000
set_option maxRecDepth 100000

theorem run4_leaves (c : Dev nD) (i : grid0.Coords) (h1 : ¬ k0_cond1 i = 1#1) (h2 : ¬ k0_cond2 i = 1#1) (h3 : ¬ k0_cond3 i = 1#1) (h4 : k0_cond4 i = 1#1)
    (arg1 : Memref sig .tc .smem S16x44 .f32) (harg1 : arg1.IsWhole)
    (arg2 : Memref sig .tc .vmem S256x2048 .bf16) (harg2 : arg2.IsWhole)
    (arg3 : Memref sig .tc .vmem S1x2048 .f32) (harg3 : arg3.IsWhole)
    (arg4 : Memref sig .tc .vmem S2048x256 .fp8e4m3) (harg4 : arg4.IsWhole)
    (arg5 : Memref sig .tc .vmem S1792x256 .bf16) (harg5 : arg5.IsWhole)
    (arg6 : Memref sig .tc .vmem S256x2048 .bf16) (harg6 : arg6.IsWhole)
    (arg7 : Memref sig .tc .vmem S2048x256 .f32) (harg7 : arg7.IsWhole)
    (arg8 : Memref sig .tc .vmem S1x2048 .f32) (harg8 : arg8.IsWhole)
    (arg9 : Memref sig .tc .vmem S256x2048 .fp8e4m3) (harg9 : arg9.IsWhole)
    (arg10 : Memref sig .tc .vmem S14x2048 .f32) (harg10 : arg10.IsWhole)
    (arg11 : Memref sig .tc .vmem S1792x256 .fp8e5m2) (harg11 : arg11.IsWhole)
    (arg12 : Memref sig .tc .vmem S1792x44 .f32) (harg12 : arg12.IsWhole)
    (arg13 : Memref sig .tc .vmem S1792x256 .fp8e5m2) (harg13 : arg13.IsWhole)
    (arg14 : Memref sig .tc .vmem S14x256 .f32) (harg14 : arg14.IsWhole)
    (arg15 : Memref sig .tc .vmem S2048x1792 .bf16) (harg15 : arg15.IsWhole)
    (arg16 : Memref sig .tc .vmem S1792x2048 .f32) (harg16 : arg16.IsWhole)
    (arg17 : Memref sig .tc .vmem S2x1792x256 .bf16) (harg17 : arg17.IsWhole)
    (arg18 : Memref sig .tc .vmem S9x1792x256 .bf16) (harg18 : arg18.IsWhole)
    (arg19 : Memref sig .tc .vmem S2x2048x256 .bf16) (harg19 : arg19.IsWhole)
    (arg20 : Memref sig .tc .vmem S1792x1 .f32) (harg20 : arg20.IsWhole)
   (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) :
    ∃ L6 L7 L8, (run4 c i h1 h2 h3 h4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f1 f2 f3 f4 f5 f6 f7 f8 f9 f10 f11 f12 f13 f14 f15 f16 f17 f18 f19 f20).1 = (arg6.view.writes (Elt F) f6 L6, arg7.view.writes (Elt F) f7 L7, arg8.view.writes (Elt F) f8 L8)
      ∧ (∃ p, L7 = [p] ∧ DwForm (arg15.view.read (Elt F) f15) (arg18.view.read (Elt F) f18) (((i 0).val - 8) % 9) p)
      ∧ (∀ p ∈ L6, DxForm (arg2.view.read (Elt F) f2) (arg3.view.read (Elt F) f3) (arg20.view.read (Elt F) f20) (arg16.view.read (Elt F) f16) (i 0).val p)
      ∧ OffChain (S := S256x2048) S16x2048.size (fun k => ![16 * k, 0]) 16 L6
      ∧ (∃ p, L8 = [p] ∧ DgForm (arg2.view.read (Elt F) f2) (arg20.view.read (Elt F) f20) (arg16.view.read (Elt F) f16) (arg8.view.read (Elt F) f8) (i 0).val p) := by
  haveI : Fact (k0_cond4 i = 1#1) := ⟨h4⟩
  refine ⟨_, _, _, rfl, ?_, ?_, ?_, ?_⟩
  · exact ⟨_, rfl, _, _, _, _, rfl, ClosedOff.eq⟩
  · iterate 16 refine List.forall_mem_cons.2 ⟨⟨_, _, _, _, _, _, _, rfl, ClosedOff.eq, ClosedOff.eq⟩, ?_⟩
    exact List.forall_mem_nil _
  · exact (by (iterate 16 refine .cons _ _ _ _ _ _ rfl rfl ?_); exact .nil)
  · refine ⟨_, rfl, _, _, rfl, ?_⟩
    iterate 16 refine .succ _ _ _ _ _ _ _ _ rfl ClosedOff.eq ClosedOff.eq ?_
    exact .zero

end Cert.KernelIdeal.Hand

end
-- ==== Proof.Follow2.lean ====
module

public import proofs.«01_k».proof.Proof.Follow
public import proofs.«01_k».proof.Proof.Leaves1
public import proofs.«01_k».proof.Proof.Leaves2
public import proofs.«01_k».proof.Proof.Leaves3
public import proofs.«01_k».proof.Proof.Leaves4
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pipeline

/-! The body does what is followed: the four cases of a grid point. -/

section
variable {XA : Arr} {g : ℕ → EReal} {WA SA DA : Arr}
variable {k : ℕ} {X15 X15' : S2048x1792.Idx → EReal} {X16 X16' : S1792x2048.Idx → EReal} {X17 X17' : S2x1792x256.Idx → EReal} {X18 X18' : S9x1792x256.Idx → EReal}
    {X19 X19' : S2x2048x256.Idx → EReal} {X20 X20' : S1792x1.Idx → EReal}

/-- The scratch after a point that quantises. -/
theorem Inv.quant (I : Inv XA g WA SA DA k X15 X16 X17 X18 X19 X20) (hk : k ≤ 22)
    (h15 : ∀ y, (y 1).val < 256 * min k 7 → X15' y = XD ksc kinv (XN XA g) (y 1).val (y 0).val)
    (h16 : Is2 X16' (sumTo WA SA DA (256 * min k 22)))
    (h17 : ∀ y, ((y 0).val = k % 2 → X17' y = RD ksc kinv DA (y 1).val (256 * min k 21 + (y 2).val)) ∧ ((y 0).val ≠ k % 2 → X17' y = X17 y))
    (h18 : ∀ y, ((y 0).val = k % 9 → X18' y = CD ksc kinv DA (y 1).val (256 * min k 21 + (y 2).val)) ∧ ((y 0).val ≠ k % 9 → X18' y = X18 y))
    (h19 : ∀ y, ((y 0).val = k % 2 → X19' y = WD WA SA (y 1).val (256 * min k 21 + (y 2).val)) ∧ ((y 0).val ≠ k % 2 → X19' y = X19 y))
    (h20 : ∀ y, (y 0).val < 256 * min k 7 → X20' y = R XA (y 0).val) :
    Inv XA g WA SA DA (k + 1) X15' X16' X17' X18' X19' X20' where
  xqt y hy := h15 y (by simpa using hy)
  dxn _ := by rw [Nat.add_sub_cancel]; exact h16
  dyq _ h y hy := by
    rw [Nat.add_sub_cancel] at hy ⊢
    rw [(h17 y).1 hy, show min k 21 = k by omega]
  dq u hu huk hk9 y hy := by
    by_cases c : u = k
    · subst c; rw [(h18 y).1 hy, show min u 21 = u by omega]
    · rw [(h18 y).2 (by omega)]; exact I.dq u hu (by omega) (by omega) y hy
  wq _ h y hy := by
    rw [Nat.add_sub_cancel] at hy ⊢
    rw [(h19 y).1 hy, show min k 21 = k by omega]
  r y hy := h20 y (by simpa using hy)

/-- The scratch after a point that does not write it. -/
theorem Inv.idle (I : Inv XA g WA SA DA k X15 X16 X17 X18 X19 X20) (hk : 23 ≤ k) : Inv XA g WA SA DA (k + 1) X15 X16 X17 X18 X19 X20 where
  xqt y hy := I.xqt y (by omega)
  dxn _ := by have := I.dxn (by omega); rwa [show min (k - 1) 22 = min (k + 1 - 1) 22 by omega] at this
  dyq _ h := by omega
  dq u hu huk hk9 y hy := I.dq u hu (by omega) (by omega) y hy
  wq _ h := by omega
  r y hy := I.r y (by omega)
end

variable (m : (ℓ : Loc nD τ sig) → Buf (Elt Ideal) ℓ) (c : Dev nD)

set_option maxHeartbeats 0 in
theorem track_case1 : (track m c).Case1 m := by
  intro t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 F0 F1 F2 F3 F4 F5 F6 F7 F8 F9 F10 F11 F12 F13 I W
  have ht30 : t.val < 30 := t.isLt
  have ht := phase1 t h1
  obtain ⟨L8, L11, L12, L13, L14, L16, L17, L18, L19, e, Q, ⟨p8, rfl, hp8⟩, ⟨p16, rfl, hp16⟩⟩ := run1_leaves c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) f1 f2 f3 f4 f5 f6 f7 f8 f9 f10 f11 f12 f13 f14 f15 f16 f17 f18 f19 f20
  have hW : W = _ := e
  clear_value W
  subst hW
  simp only [coords_val t] at Q
  refine ⟨rfl, rfl, rfl, rfl, rfl, ?_, ?_, ?_, ?_, ?_, ?_, ?_, ?_, ?_, ?_⟩
  · intro h; omega
  · intro h; omega
  · refine Eq.subst (motive := fun n => Is2 (a := 1) (b := 2048) _ (fun _ k => DG _ _ n k)) (show 0 = 256 * (t.val - 22) by omega) ?_
    exact fun y => (zero_val _ _ hp8 y).trans (by simp [DG])
  · intro h; omega
  · intro y hy; omega
  · exact Q.rc_val (found4 F4) _ _
  · exact fun y hy => Q.rs_val (n := min t.val 21) rfl (found4 F4) _ _ rfl ht30 (b := 2 * min t.val 22) (found11 F11) y (by omega)
  · exact Q.cc_val (found4 F4) _ _
  · exact Q.cs_val (found4 F4) _ _
  · refine Inv.quant I (by omega) ?_ ?_ (fun y => Q.dyq_val (found4 F4) _ _ y) (fun y => Q.dq_val (found4 F4) _ _ y) (fun y => Q.wq_val (n := min t.val 21) rfl (found3 F3) (found0 F0) _ _ y) ?_
    · intro y hy; omega
    · refine Eq.subst (motive := fun n => Is2 _ (sumTo _ _ _ n)) (show 0 = 256 * min t.val 22 by omega) ?_
      exact fun y => (zero_val _ _ hp16 y).trans (by simp [sumTo, DXN])
    · intro y hy; omega

set_option maxHeartbeats 0 in
theorem track_case2 : (track m c).Case2 m := by
  intro t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 F0 F1 F2 F3 F4 F5 F6 F7 F8 F9 F10 F11 F12 F13 I W
  have ht30 : t.val < 30 := t.isLt
  have ht := phase2 t h2
  obtain ⟨L9, L10, L11, L12, L13, L14, L15, L16, L17, L18, L19, L20, e, Q, P, ⟨p16, rfl, hp16⟩⟩ := run2_leaves c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) f1 f2 f3 f4 f5 f6 f7 f8 f9 f10 f11 f12 f13 f14 f15 f16 f17 f18 f19 f20
  have hW : W = _ := e
  clear_value W
  subst hW
  simp only [coords_val t] at Q P hp16
  refine ⟨rfl, rfl, rfl, rfl, rfl, ?_, ?_, ?_, ?_, ?_, ?_, ?_, ?_, ?_, ?_⟩
  · intro h; omega
  · intro h; omega
  · show Out7 _ _ _ _ _ _
    unfold Out7
    rw [show t.val - 22 = t.val - 23 by omega]
    exact found7 (by omega) F7
  · have hx := found1 F1
    rw [show xrow t.val = t.val - 1 by unfold xrow; split <;> omega] at hx
    intro _
    have := P.xc_val hx (found2 F2) arg9.view f9
    rwa [show t.val - 1 = min (t.val - 1) 6 by omega] at this
  · have hx := found1 F1
    rw [show xrow t.val = t.val - 1 by unfold xrow; split <;> omega] at hx
    exact fun y hy => P.xs_val ht.1 ht.2 hx (found2 F2) _ rfl (b := 2 * min (t.val - 1) 7) (found9 F9) y (by omega)
  · exact Q.rc_val (found4 F4) _ _
  · exact fun y hy => Q.rs_val (n := min t.val 21) rfl (found4 F4) _ _ rfl ht30 (b := 2 * min t.val 22) (found11 F11) y (by omega)
  · exact Q.cc_val (found4 F4) _ _
  · exact Q.cs_val (found4 F4) _ _
  · refine Inv.quant I (by omega) ?_ ?_ (fun y => Q.dyq_val (found4 F4) _ _ y) (fun y => Q.dq_val (found4 F4) _ _ y) (fun y => Q.wq_val (n := min t.val 21) rfl (found3 F3) (found0 F0) _ _ y) ?_
    · have hx := found1 F1
      rw [show xrow t.val = t.val - 1 by unfold xrow; split <;> omega] at hx
      intro y hy
      by_cases c : 256 * (t.val - 1) ≤ (y 1).val ∧ (y 1).val < 256 * (t.val - 1) + 256
      · exact (P.xq_val hx (found2 F2) _ _ y).1 c
      · exact ((P.xq_val hx (found2 F2) _ _ y).2 c).trans (I.xqt y (by show (y 1).val < 256 * min (t.val - 1) 7; omega))
    · refine Eq.subst (motive := fun n => Is2 _ (sumTo _ _ _ (256 * n))) (show (t.val - 1) + 1 = min t.val 22 by omega) (dxn_val _ _ hp16 (n := t.val - 1) ?_ (fun y hy => I.dyq (by show 1 ≤ t.val; omega) (by show t.val ≤ 22; omega) y (by show _ = (t.val - 1) % 2; omega)) (fun y hy => I.wq (by show 1 ≤ t.val; omega) (by show t.val ≤ 22; omega) y (by show _ = (t.val - 1) % 2; omega)))
      have := I.dxn (by show 1 ≤ t.val; omega)
      rwa [show min (t.castSucc.val - 1) 22 = t.val - 1 by show min (t.val - 1) 22 = _; omega] at this
    · have hx := found1 F1
      rw [show xrow t.val = t.val - 1 by unfold xrow; split <;> omega] at hx
      intro y hy
      by_cases c : 256 * (t.val - 1) ≤ (y 0).val ∧ (y 0).val < 256 * (t.val - 1) + 256
      · exact (P.r_val hx _ _ y).1 c
      · exact ((P.r_val hx _ _ y).2 c).trans (I.r y (by show (y 0).val < 256 * min (t.val - 1) 7; omega))

set_option maxHeartbeats 0 in
theorem track_case3 : (track m c).Case3 m := by
  intro t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 F0 F1 F2 F3 F4 F5 F6 F7 F8 F9 F10 F11 F12 F13 I W
  have ht30 : t.val < 30 := t.isLt
  have ht := phase3 t h3
  obtain ⟨L7, L11, L12, L13, L14, L16, L17, L18, L19, e, Q, ⟨p16, rfl, hp16⟩, ⟨p7, rfl, hp7⟩⟩ := run3_leaves c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) f1 f2 f3 f4 f5 f6 f7 f8 f9 f10 f11 f12 f13 f14 f15 f16 f17 f18 f19 f20
  have hW : W = _ := e
  clear_value W
  subst hW
  simp only [coords_val t] at Q hp16 hp7
  refine ⟨rfl, rfl, rfl, rfl, rfl, ?_, ?_, ?_, ?_, ?_, ?_, ?_, ?_, ?_, ?_⟩
  · intro h; omega
  · intro _
    exact dw_val _ _ hp7 (XA := XD ksc kinv (XN (aX m c) (aG m c))) (DA := CD ksc kinv (aD m c)) (n := t.val - 8) (fun y => I.xqt y (by
        have h1 : (y 1).val < 1792 := (y 1).isLt
        show (y 1).val < 256 * min (t.val - 1) 7; omega)) (fun y hy => I.dq (t.val - 8) (by omega) (by show t.val - 8 < t.val; omega) (by show t.val ≤ _; omega) y hy)
  · show Out7 _ _ _ _ _ _
    unfold Out7
    rw [show t.val - 22 = t.val - 23 by omega]
    exact found7 (by omega) F7
  · exact found8 (by omega) F8
  · exact fun y hy => found9 F9 y (by omega)
  · exact Q.rc_val (found4 F4) _ _
  · exact fun y hy => Q.rs_val (n := min t.val 21) rfl (found4 F4) _ _ rfl ht30 (b := 2 * min t.val 22) (found11 F11) y (by omega)
  · exact Q.cc_val (found4 F4) _ _
  · exact Q.cs_val (found4 F4) _ _
  · refine Inv.quant I (by omega) ?_ ?_ (fun y => Q.dyq_val (found4 F4) _ _ y) (fun y => Q.dq_val (found4 F4) _ _ y) (fun y => Q.wq_val (n := min t.val 21) rfl (found3 F3) (found0 F0) _ _ y) ?_
    · exact fun y hy => I.xqt y (by show (y 1).val < 256 * min (t.val - 1) 7; omega)
    · refine Eq.subst (motive := fun n => Is2 _ (sumTo _ _ _ (256 * n))) (show (t.val - 1) + 1 = min t.val 22 by omega) (dxn_val _ _ hp16 (n := t.val - 1) ?_ (fun y hy => I.dyq (by show 1 ≤ t.val; omega) (by show t.val ≤ 22; omega) y (by show _ = (t.val - 1) % 2; omega)) (fun y hy => I.wq (by show 1 ≤ t.val; omega) (by show t.val ≤ 22; omega) y (by show _ = (t.val - 1) % 2; omega)))
      have := I.dxn (by show 1 ≤ t.val; omega)
      rwa [show min (t.castSucc.val - 1) 22 = t.val - 1 by show min (t.val - 1) 22 = _; omega] at this
    · exact fun y hy => I.r y (by show (y 0).val < 256 * min (t.val - 1) 7; omega)

set_option maxHeartbeats 0 in
theorem track_case4 : (track m c).Case4 m := by
  intro t h1 h2 h3 h4 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 f15 f16 f17 f18 f19 f20 F0 F1 F2 F3 F4 F5 F6 F7 F8 F9 F10 F11 F12 F13 I W
  have ht30 : t.val < 30 := t.isLt
  have ht := phase4 t h4
  obtain ⟨L6, L7, L8, e, ⟨p7, rfl, hp7⟩, hD, hO, ⟨p8, rfl, hp8⟩⟩ := run4_leaves c (grid0.coords t) h1 h2 h3 h4 arg1 harg1 arg2 harg2 arg3 harg3 arg4 harg4 arg5 harg5 arg6 harg6 arg7 harg7 arg8 harg8 arg9 harg9 arg10 harg10 arg11 harg11 arg12 harg12 arg13 harg13 arg14 harg14 _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) f1 f2 f3 f4 f5 f6 f7 f8 f9 f10 f11 f12 f13 f14 f15 f16 f17 f18 f19 f20
  have hW : W = _ := e
  clear_value W
  subst hW
  simp only [coords_val t] at hp7 hD hp8
  refine ⟨rfl, rfl, rfl, rfl, rfl, ?_, ?_, ?_, ?_, ?_, ?_, ?_, ?_, ?_, ?_⟩
  · have hx := found1 F1
    rw [show xrow t.val = t.val - 23 by unfold xrow; split <;> omega] at hx
    have hr : Is2 ((Memref.whole cc0_scratch5).view.read (Elt Ideal) f20) (fun r _ => R (aX m c) r) := fun y => I.r y (by
      have h0 : (y 0).val < 1792 := (y 0).isLt
      show (y 0).val < 256 * min (t.val - 1) 7; omega)
    have hn := I.dxn (by show 1 ≤ t.val; omega)
    rw [show 256 * min (t.castSucc.val - 1) 22 = 5632 by show 256 * min (t.val - 1) 22 = _; omega] at hn
    exact fun _ => dx_val hx (found2 F2) hr hn _ _ hD hO
  · intro _
    exact dw_val _ _ hp7 (XA := XD ksc kinv (XN (aX m c) (aG m c))) (DA := CD ksc kinv (aD m c)) (n := t.val - 8) (fun y => I.xqt y (by
        have h1 : (y 1).val < 1792 := (y 1).isLt
        show (y 1).val < 256 * min (t.val - 1) 7; omega)) (fun y hy => I.dq (t.val - 8) (by omega) (by show t.val - 8 < t.val; omega) (by show t.val ≤ _; omega) y hy)
  · have hx := found1 F1
    rw [show xrow t.val = t.val - 23 by unfold xrow; split <;> omega] at hx
    have hr : Is2 ((Memref.whole cc0_scratch5).view.read (Elt Ideal) f20) (fun r _ => R (aX m c) r) := fun y => I.r y (by
      have h0 : (y 0).val < 1792 := (y 0).isLt
      show (y 0).val < 256 * min (t.val - 1) 7; omega)
    have hn := I.dxn (by show 1 ≤ t.val; omega)
    rw [show 256 * min (t.castSucc.val - 1) 22 = 5632 by show 256 * min (t.val - 1) 22 = _; omega] at hn
    have := dg_val hx hr hn arg8.view f8 hp8 (found7 (by omega) F7)
    rwa [show t.val - 23 + 1 = t.val - 22 by omega] at this
  · exact found8 (by omega) F8
  · exact fun y hy => found9 F9 y (by omega)
  · exact found10 (by omega) F10
  · exact fun y hy => found11 F11 y (by omega)
  · exact found12 (by omega) F12
  · exact found13 (by omega) F13
  · exact Inv.idle I ht

theorem track_ok : (track m c).Ok m where
  start f15 f16 f17 f18 f19 f20 :=
    { xqt := fun y hy => absurd hy (Nat.not_lt_zero _), dxn := fun h => absurd h (by decide), dyq := fun h => absurd h (by decide), dq := fun u _ h => absurd h (Nat.not_lt_zero _)
      wq := fun h => absurd h (by decide), r := fun y hy => absurd hy (Nat.not_lt_zero _) }
  case1 := track_case1 m c
  case2 := track_case2 m c
  case3 := track_case3 m c
  case4 := track_case4 m c

end Cert.KernelIdeal.Hand

end
-- ==== Proof.Final.lean ====
module

public import proofs.«01_k».proof.Proof.Follow2
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec
open Idealize.ShloMosaic.Pipeline

/-! What the arrays of the nine results hold after the run. -/

/-- What every block written back satisfies, the array satisfies on the blocks written back so far. -/
theorem arr_all {c : Dev nD} (rd : RDat τ (Elt Ideal) Unit ℕ (UR sig nD τ) ℕ cfg0 c) (w : Fin cfg0.W) (Q : (cfg0.win w).arr.view.ty.Idx → Elt Ideal (cfg0.win w).arr.view.ty.elt → Prop)
    (hQ : ∀ (u : Fin cfg0.N) X x, (cfg0.win w).flush u = true → rd.Leaves w u X →
      Q (((cfg0.win w).blk u).view.emb x) (_root_.cast (congrArg (Elt Ideal) ((cfg0.win w).blk u).view.elt_eq.symm) ((cfg0.win w).cut (cfg0.grid.coords u) X x)))
    (n : ℕ) (hn : n ≤ cfg0.N) : ∀ G, rd.ArrAt w n G → ∀ u : Fin cfg0.N, u.val < n → (cfg0.win w).flush u = true → ∀ x,
      Q (((cfg0.win w).blk u).view.emb x) (G (((cfg0.win w).blk u).view.emb x)) := by
  induction n with
  | zero => intro G _ u hu; exact absurd hu (Nat.not_lt_zero _)
  | succ n ih =>
    intro G hG u hu hf x
    have hs := rd.ArrAt_succ w ⟨n, hn⟩
    have hG' : rd.ArrAt w ((⟨n, hn⟩ : Fin cfg0.N).val + 1) G := hG
    rw [hs] at hG'
    by_cases hfn : (cfg0.win w).flush ⟨n, hn⟩ = true
    · rw [if_pos hfn] at hG'
      obtain ⟨G₀, X, h0, hX, rfl⟩ := hG'
      by_cases hm : ((cfg0.win w).blk u).view.emb x ∈ ((cfg0.win w).blk ⟨n, hn⟩).view.setOn Finset.univ
      · obtain ⟨x', -, hx'⟩ := Finset.mem_map.1 hm
        rw [← hx', View.write_emb_of_mem _ _ (Finset.mem_univ x')]
        exact hQ _ X x' hfn hX
      · rw [View.write_of_not_mem _ _ _ hm]
        refine ih (by omega) G₀ h0 u ?_ hf x
        have : u.val ≠ n := fun e => by
          subst e
          exact hm (Finset.mem_map.2 ⟨x, Finset.mem_univ _, rfl⟩)
        omega
    · rw [if_neg hfn] at hG'
      refine ih (by omega) G hG' u ?_ hf x
      have : u.val ≠ n := fun e => by subst e; exact hfn hf
      omega

variable {m : (ℓ : Loc nD τ sig) → Buf (Elt Ideal) ℓ} {c : Dev nD}

theorem final5 {G : Shape.Idx ⟨2, ![1792, 2048]⟩ → EReal} (h : (trd m c).ArrAt 5 cfg0.N G) : Is2 G (DX (aX m c) (aG m c) (sumTo (aW m c) (aS m c) (aD m c) 5632)) := by
  intro i
  have h0 : (i 0).val < 1792 := (i 0).isLt
  have h1 : (i 1).val < 2048 := (i 1).isLt
  obtain ⟨T, hT⟩ : ∃ T, T = 23 + (i 0).val / 256 := ⟨_, rfl⟩
  have hT30 : T < 30 := by omega
  have hfl : 23 ≤ T := by omega
  have key := arr_all (trd m c) 5 (fun i v => v = (DX (aX m c) (aG m c) (sumTo (aW m c) (aS m c) (aD m c) 5632)) ((i : Shape.Idx ⟨2, ![1792, 2048]⟩) 0).val ((i : Shape.Idx ⟨2, ![1792, 2048]⟩) 1).val) (fun u X x hf hX => by
    obtain ⟨Y, _, hY⟩ := hX
    have hf := (flush5 u).1 hf
    obtain ⟨e0, e1⟩ := emb5 u x
    have hv := (show Out5 (aX m c) (aG m c) (aW m c) (aS m c) (aD m c) u.val X from hY) hf x
    refine Eq.trans (show _ = X x from rfl) (hv.trans ?_)
    exact congrArg₂ (DX (aX m c) (aG m c) (sumTo (aW m c) (aS m c) (aD m c) 5632)) e0.symm e1.symm) cfg0.N le_rfl G h ⟨T, hT30⟩ hT30 ((flush5 _).2 hfl) (ix2 ⟨(i 0).val % 256, by omega⟩ ⟨(i 1).val, by omega⟩)
  obtain ⟨e0, e1⟩ := emb5 ⟨T, hT30⟩ (ix2 ⟨(i 0).val % 256, by omega⟩ ⟨(i 1).val, by omega⟩)
  have n0 : 256 * (T - 23) + (i 0).val % 256 = (i 0).val := by omega
  have n1 : (i 1).val = (i 1).val := by omega
  have e : ((cfg0.win 5).blk ⟨T, hT30⟩).view.emb (ix2 ⟨(i 0).val % 256, by omega⟩ ⟨(i 1).val, by omega⟩) = i := by
    funext k
    refine Fin.ext ?_
    fin_cases k
    · exact e0.trans n0
    · exact e1.trans n1
  rw [e] at key
  exact key

theorem final6 {G : Shape.Idx ⟨2, ![2048, 5632]⟩ → EReal} (h : (trd m c).ArrAt 6 cfg0.N G) : Is2 G (DW (XD ksc kinv (XN (aX m c) (aG m c))) (CD ksc kinv (aD m c))) := by
  intro i
  have h0 : (i 0).val < 2048 := (i 0).isLt
  have h1 : (i 1).val < 5632 := (i 1).isLt
  obtain ⟨T, hT⟩ : ∃ T, T = 8 + (i 1).val / 256 := ⟨_, rfl⟩
  have hT30 : T < 30 := by omega
  have hfl : 8 ≤ T := by omega
  have key := arr_all (trd m c) 6 (fun i v => v = (DW (XD ksc kinv (XN (aX m c) (aG m c))) (CD ksc kinv (aD m c))) ((i : Shape.Idx ⟨2, ![2048, 5632]⟩) 0).val ((i : Shape.Idx ⟨2, ![2048, 5632]⟩) 1).val) (fun u X x hf hX => by
    obtain ⟨Y, _, hY⟩ := hX
    have hf := (flush6 u).1 hf
    obtain ⟨e0, e1⟩ := emb6 u x
    have hv := (show Out6 (aX m c) (aG m c) (aD m c) u.val X from hY) hf x
    refine Eq.trans (show _ = X x from rfl) (hv.trans ?_)
    exact congrArg₂ (DW (XD ksc kinv (XN (aX m c) (aG m c))) (CD ksc kinv (aD m c))) e0.symm e1.symm) cfg0.N le_rfl G h ⟨T, hT30⟩ hT30 ((flush6 _).2 hfl) (ix2 ⟨(i 0).val, by omega⟩ ⟨(i 1).val % 256, by omega⟩)
  obtain ⟨e0, e1⟩ := emb6 ⟨T, hT30⟩ (ix2 ⟨(i 0).val, by omega⟩ ⟨(i 1).val % 256, by omega⟩)
  have n0 : (i 0).val = (i 0).val := by omega
  have n1 : 256 * (T - 8) + (i 1).val % 256 = (i 1).val := by omega
  have e : ((cfg0.win 6).blk ⟨T, hT30⟩).view.emb (ix2 ⟨(i 0).val, by omega⟩ ⟨(i 1).val % 256, by omega⟩) = i := by
    funext k
    refine Fin.ext ?_
    fin_cases k
    · exact e0.trans n0
    · exact e1.trans n1
  rw [e] at key
  exact key

theorem final7 {G : Shape.Idx ⟨2, ![1, 2048]⟩ → EReal} (h : (trd m c).ArrAt 7 cfg0.N G) : Is2 G ((fun (_ k : ℕ) => DG (aX m c) (sumTo (aW m c) (aS m c) (aD m c) 5632) 1792 k)) := by
  intro i
  have h0 : (i 0).val < 1 := (i 0).isLt
  have h1 : (i 1).val < 2048 := (i 1).isLt
  obtain ⟨T, hT⟩ : ∃ T, T = 29 := ⟨_, rfl⟩
  have hT30 : T < 30 := by omega
  have hfl : T = 29 := by omega
  have key := arr_all (trd m c) 7 (fun i v => v = ((fun (_ k : ℕ) => DG (aX m c) (sumTo (aW m c) (aS m c) (aD m c) 5632) 1792 k)) ((i : Shape.Idx ⟨2, ![1, 2048]⟩) 0).val ((i : Shape.Idx ⟨2, ![1, 2048]⟩) 1).val) (fun u X x hf hX => by
    obtain ⟨Y, _, hY⟩ := hX
    have hf := (flush7 u).1 hf
    obtain ⟨e0, e1⟩ := emb7 u x
    have hv := (show Out7 (aX m c) (aW m c) (aS m c) (aD m c) u.val X from hY) x
    rw [show 256 * (u.val - 22) = 1792 by rw [hf]] at hv
    refine Eq.trans (show _ = X x from rfl) (hv.trans ?_)
    exact congrArg (DG (aX m c) (sumTo (aW m c) (aS m c) (aD m c) 5632) 1792) e1.symm) cfg0.N le_rfl G h ⟨T, hT30⟩ hT30 ((flush7 _).2 hfl) (ix2 ⟨0, by omega⟩ ⟨(i 1).val, by omega⟩)
  obtain ⟨e0, e1⟩ := emb7 ⟨T, hT30⟩ (ix2 ⟨0, by omega⟩ ⟨(i 1).val, by omega⟩)
  have n0 : 0 = (i 0).val := by omega
  have n1 : (i 1).val = (i 1).val := by omega
  have e : ((cfg0.win 7).blk ⟨T, hT30⟩).view.emb (ix2 ⟨0, by omega⟩ ⟨(i 1).val, by omega⟩) = i := by
    funext k
    refine Fin.ext ?_
    fin_cases k
    · exact e0.trans n0
    · exact e1.trans n1
  rw [e] at key
  exact key

theorem final8 {G : Shape.Idx ⟨2, ![1792, 2048]⟩ → EReal} (h : (trd m c).ArrAt 8 cfg0.N G) : Is2 G (XC kinv (XN (aX m c) (aG m c))) := by
  intro i
  have h0 : (i 0).val < 1792 := (i 0).isLt
  have h1 : (i 1).val < 2048 := (i 1).isLt
  obtain ⟨T, hT⟩ : ∃ T, T = if (i 0).val / 256 ≤ 5 then 1 + (i 0).val / 256 else 29 := ⟨_, rfl⟩
  have hT30 : T < 30 := by split at hT <;> omega
  have hfl : (1 ≤ T ∧ T ≤ 6) ∨ T = 29 := by split at hT <;> omega
  have key := arr_all (trd m c) 8 (fun i v => v = (XC kinv (XN (aX m c) (aG m c))) ((i : Shape.Idx ⟨2, ![1792, 2048]⟩) 0).val ((i : Shape.Idx ⟨2, ![1792, 2048]⟩) 1).val) (fun u X x hf hX => by
    obtain ⟨Y, _, hY⟩ := hX
    have hf := (flush8 u).1 hf
    obtain ⟨e0, e1⟩ := emb8 u x
    have hv := (show Out8 (aX m c) (aG m c) u.val X from hY) (by omega) x
    refine Eq.trans (show _ = X x from rfl) (hv.trans ?_)
    exact congrArg₂ (XC kinv (XN (aX m c) (aG m c))) e0.symm e1.symm) cfg0.N le_rfl G h ⟨T, hT30⟩ hT30 ((flush8 _).2 hfl) (ix2 ⟨(i 0).val % 256, by omega⟩ ⟨(i 1).val, by omega⟩)
  obtain ⟨e0, e1⟩ := emb8 ⟨T, hT30⟩ (ix2 ⟨(i 0).val % 256, by omega⟩ ⟨(i 1).val, by omega⟩)
  have n0 : 256 * min (T - 1) 6 + (i 0).val % 256 = (i 0).val := by split at hT <;> omega
  have n1 : (i 1).val = (i 1).val := by split at hT <;> omega
  have e : ((cfg0.win 8).blk ⟨T, hT30⟩).view.emb (ix2 ⟨(i 0).val % 256, by omega⟩ ⟨(i 1).val, by omega⟩) = i := by
    funext k
    refine Fin.ext ?_
    fin_cases k
    · exact e0.trans n0
    · exact e1.trans n1
  rw [e] at key
  exact key

theorem final9 {G : Shape.Idx ⟨2, ![14, 2048]⟩ → EReal} (h : (trd m c).ArrAt 9 cfg0.N G) : Is2 G (XS ksc (XN (aX m c) (aG m c))) := by
  intro i
  have h0 : (i 0).val < 14 := (i 0).isLt
  have h1 : (i 1).val < 2048 := (i 1).isLt
  obtain ⟨T, hT⟩ : ∃ T, T = 29 := ⟨_, rfl⟩
  have hT30 : T < 30 := by omega
  have hfl : T = 29 := by omega
  have key := arr_all (trd m c) 9 (fun i v => v = (XS ksc (XN (aX m c) (aG m c))) ((i : Shape.Idx ⟨2, ![14, 2048]⟩) 0).val ((i : Shape.Idx ⟨2, ![14, 2048]⟩) 1).val) (fun u X x hf hX => by
    obtain ⟨Y, _, hY⟩ := hX
    have hf := (flush9 u).1 hf
    obtain ⟨e0, e1⟩ := emb9 u x
    have hv := (show Out9 (aX m c) (aG m c) u.val X from hY) x (by have := (show Fin 14 from x 0).isLt; have h : (x 0).val < 14 := this; omega)
    refine Eq.trans (show _ = X x from rfl) (hv.trans ?_)
    exact congrArg₂ (XS ksc (XN (aX m c) (aG m c))) e0.symm e1.symm) cfg0.N le_rfl G h ⟨T, hT30⟩ hT30 ((flush9 _).2 hfl) (ix2 ⟨(i 0).val, by omega⟩ ⟨(i 1).val, by omega⟩)
  obtain ⟨e0, e1⟩ := emb9 ⟨T, hT30⟩ (ix2 ⟨(i 0).val, by omega⟩ ⟨(i 1).val, by omega⟩)
  have n0 : (i 0).val = (i 0).val := by omega
  have n1 : (i 1).val = (i 1).val := by omega
  have e : ((cfg0.win 9).blk ⟨T, hT30⟩).view.emb (ix2 ⟨(i 0).val, by omega⟩ ⟨(i 1).val, by omega⟩) = i := by
    funext k
    refine Fin.ext ?_
    fin_cases k
    · exact e0.trans n0
    · exact e1.trans n1
  rw [e] at key
  exact key

theorem final10 {G : Shape.Idx ⟨2, ![1792, 5632]⟩ → EReal} (h : (trd m c).ArrAt 10 cfg0.N G) : Is2 G (RC kinv (aD m c)) := by
  intro i
  have h0 : (i 0).val < 1792 := (i 0).isLt
  have h1 : (i 1).val < 5632 := (i 1).isLt
  obtain ⟨T, hT⟩ : ∃ T, T = if (i 1).val / 256 ≤ 20 then (i 1).val / 256 else 29 := ⟨_, rfl⟩
  have hT30 : T < 30 := by split at hT <;> omega
  have hfl : T ≤ 20 ∨ T = 29 := by split at hT <;> omega
  have key := arr_all (trd m c) 10 (fun i v => v = (RC kinv (aD m c)) ((i : Shape.Idx ⟨2, ![1792, 5632]⟩) 0).val ((i : Shape.Idx ⟨2, ![1792, 5632]⟩) 1).val) (fun u X x hf hX => by
    obtain ⟨Y, _, hY⟩ := hX
    have hf := (flush10 u).1 hf
    obtain ⟨e0, e1⟩ := emb10 u x
    have hv := (show Out10 (aD m c) u.val X from hY) x
    refine Eq.trans (show _ = X x from rfl) (hv.trans ?_)
    exact congrArg₂ (RC kinv (aD m c)) e0.symm e1.symm) cfg0.N le_rfl G h ⟨T, hT30⟩ hT30 ((flush10 _).2 hfl) (ix2 ⟨(i 0).val, by omega⟩ ⟨(i 1).val % 256, by omega⟩)
  obtain ⟨e0, e1⟩ := emb10 ⟨T, hT30⟩ (ix2 ⟨(i 0).val, by omega⟩ ⟨(i 1).val % 256, by omega⟩)
  have n0 : (i 0).val = (i 0).val := by split at hT <;> omega
  have n1 : 256 * min T 21 + (i 1).val % 256 = (i 1).val := by split at hT <;> omega
  have e : ((cfg0.win 10).blk ⟨T, hT30⟩).view.emb (ix2 ⟨(i 0).val, by omega⟩ ⟨(i 1).val % 256, by omega⟩) = i := by
    funext k
    refine Fin.ext ?_
    fin_cases k
    · exact e0.trans n0
    · exact e1.trans n1
  rw [e] at key
  exact key

theorem final11 {G : Shape.Idx ⟨2, ![1792, 44]⟩ → EReal} (h : (trd m c).ArrAt 11 cfg0.N G) : Is2 G (RS ksc (aD m c)) := by
  intro i
  have h0 : (i 0).val < 1792 := (i 0).isLt
  have h1 : (i 1).val < 44 := (i 1).isLt
  obtain ⟨T, hT⟩ : ∃ T, T = 29 := ⟨_, rfl⟩
  have hT30 : T < 30 := by omega
  have hfl : T = 29 := by omega
  have key := arr_all (trd m c) 11 (fun i v => v = (RS ksc (aD m c)) ((i : Shape.Idx ⟨2, ![1792, 44]⟩) 0).val ((i : Shape.Idx ⟨2, ![1792, 44]⟩) 1).val) (fun u X x hf hX => by
    obtain ⟨Y, _, hY⟩ := hX
    have hf := (flush11 u).1 hf
    obtain ⟨e0, e1⟩ := emb11 u x
    have hv := (show Out11 (aD m c) u.val X from hY) x (by have h : (x 1).val < 44 := (x 1).isLt; omega)
    refine Eq.trans (show _ = X x from rfl) (hv.trans ?_)
    exact congrArg₂ (RS ksc (aD m c)) e0.symm e1.symm) cfg0.N le_rfl G h ⟨T, hT30⟩ hT30 ((flush11 _).2 hfl) (ix2 ⟨(i 0).val, by omega⟩ ⟨(i 1).val, by omega⟩)
  obtain ⟨e0, e1⟩ := emb11 ⟨T, hT30⟩ (ix2 ⟨(i 0).val, by omega⟩ ⟨(i 1).val, by omega⟩)
  have n0 : (i 0).val = (i 0).val := by omega
  have n1 : (i 1).val = (i 1).val := by omega
  have e : ((cfg0.win 11).blk ⟨T, hT30⟩).view.emb (ix2 ⟨(i 0).val, by omega⟩ ⟨(i 1).val, by omega⟩) = i := by
    funext k
    refine Fin.ext ?_
    fin_cases k
    · exact e0.trans n0
    · exact e1.trans n1
  rw [e] at key
  exact key

theorem final12 {G : Shape.Idx ⟨2, ![1792, 5632]⟩ → EReal} (h : (trd m c).ArrAt 12 cfg0.N G) : Is2 G (CC kinv (aD m c)) := by
  intro i
  have h0 : (i 0).val < 1792 := (i 0).isLt
  have h1 : (i 1).val < 5632 := (i 1).isLt
  obtain ⟨T, hT⟩ : ∃ T, T = if (i 1).val / 256 ≤ 20 then (i 1).val / 256 else 29 := ⟨_, rfl⟩
  have hT30 : T < 30 := by split at hT <;> omega
  have hfl : T ≤ 20 ∨ T = 29 := by split at hT <;> omega
  have key := arr_all (trd m c) 12 (fun i v => v = (CC kinv (aD m c)) ((i : Shape.Idx ⟨2, ![1792, 5632]⟩) 0).val ((i : Shape.Idx ⟨2, ![1792, 5632]⟩) 1).val) (fun u X x hf hX => by
    obtain ⟨Y, _, hY⟩ := hX
    have hf := (flush12 u).1 hf
    obtain ⟨e0, e1⟩ := emb12 u x
    have hv := (show Out12 (aD m c) u.val X from hY) x
    refine Eq.trans (show _ = X x from rfl) (hv.trans ?_)
    exact congrArg₂ (CC kinv (aD m c)) e0.symm e1.symm) cfg0.N le_rfl G h ⟨T, hT30⟩ hT30 ((flush12 _).2 hfl) (ix2 ⟨(i 0).val, by omega⟩ ⟨(i 1).val % 256, by omega⟩)
  obtain ⟨e0, e1⟩ := emb12 ⟨T, hT30⟩ (ix2 ⟨(i 0).val, by omega⟩ ⟨(i 1).val % 256, by omega⟩)
  have n0 : (i 0).val = (i 0).val := by split at hT <;> omega
  have n1 : 256 * min T 21 + (i 1).val % 256 = (i 1).val := by split at hT <;> omega
  have e : ((cfg0.win 12).blk ⟨T, hT30⟩).view.emb (ix2 ⟨(i 0).val, by omega⟩ ⟨(i 1).val % 256, by omega⟩) = i := by
    funext k
    refine Fin.ext ?_
    fin_cases k
    · exact e0.trans n0
    · exact e1.trans n1
  rw [e] at key
  exact key

theorem final13 {G : Shape.Idx ⟨2, ![14, 5632]⟩ → EReal} (h : (trd m c).ArrAt 13 cfg0.N G) : Is2 G (CS ksc (aD m c)) := by
  intro i
  have h0 : (i 0).val < 14 := (i 0).isLt
  have h1 : (i 1).val < 5632 := (i 1).isLt
  obtain ⟨T, hT⟩ : ∃ T, T = if (i 1).val / 256 ≤ 20 then (i 1).val / 256 else 29 := ⟨_, rfl⟩
  have hT30 : T < 30 := by split at hT <;> omega
  have hfl : T ≤ 20 ∨ T = 29 := by split at hT <;> omega
  have key := arr_all (trd m c) 13 (fun i v => v = (CS ksc (aD m c)) ((i : Shape.Idx ⟨2, ![14, 5632]⟩) 0).val ((i : Shape.Idx ⟨2, ![14, 5632]⟩) 1).val) (fun u X x hf hX => by
    obtain ⟨Y, _, hY⟩ := hX
    have hf := (flush13 u).1 hf
    obtain ⟨e0, e1⟩ := emb13 u x
    have hv := (show Out13 (aD m c) u.val X from hY) x
    refine Eq.trans (show _ = X x from rfl) (hv.trans ?_)
    exact congrArg₂ (CS ksc (aD m c)) e0.symm e1.symm) cfg0.N le_rfl G h ⟨T, hT30⟩ hT30 ((flush13 _).2 hfl) (ix2 ⟨(i 0).val, by omega⟩ ⟨(i 1).val % 256, by omega⟩)
  obtain ⟨e0, e1⟩ := emb13 ⟨T, hT30⟩ (ix2 ⟨(i 0).val, by omega⟩ ⟨(i 1).val % 256, by omega⟩)
  have n0 : (i 0).val = (i 0).val := by split at hT <;> omega
  have n1 : 256 * min T 21 + (i 1).val % 256 = (i 1).val := by split at hT <;> omega
  have e : ((cfg0.win 13).blk ⟨T, hT30⟩).view.emb (ix2 ⟨(i 0).val, by omega⟩ ⟨(i 1).val % 256, by omega⟩) = i := by
    funext k
    refine Fin.ext ?_
    fin_cases k
    · exact e0.trans n0
    · exact e1.trans n1
  rw [e] at key
  exact key

end Cert.KernelIdeal.Hand

end
-- ==== Proof.RefRed.lean ====
module

public import proofs.«01_k».proof.Proof.Gen.ReferenceIdeal.Value
public import proofs.«01_k».proof.Proof.Spec
public import Idealize.ShloMosaic.Lib.Pointwise
public import Idealize.ShloMosaic.Lib.Tactic

@[expose] public section

noncomputable section

namespace Cert.ReferenceIdeal.Hand

open Cert.ReferenceIdeal Cert.ReferenceIdeal.Gen Idealize.ShloMosaic Idealize.ShloMosaic.TcCoe Idealize.SL.Sem
open Cert.Spec Idealize.ShloMosaic.Ideal
open Idealize.ShloMosaic.Pointwise Idealize.ShloMosaic.Pipeline
variable [Facts]

/-! The reference's body, read at an index: its reductions first, then its values. -/

theorem maxRed_mid {a b c : ℕ} (src : FVec Ideal ⟨3, ![a, b, c]⟩ .f32) (acc : BitVec 32)
    (h : Shape.Reduces ⟨3, ![a, b, c]⟩ [1] ⟨2, ![a, c]⟩) (hφ) (hacc) (j : Shape.Idx ⟨2, ![a, c]⟩) :
    multiReduction .maximumf [1] ⟨2, ![a, c]⟩ src acc h hφ hacc j
      = Finset.fold max (Ideal.ofBits .f32 acc) (fun k : Fin b => src (ix3 (j 0) k (j 1))) Finset.univ := by
  refine (multiReduction_maximumf_single src acc h hφ hacc j).trans ?_
  refine congrArg (fun f => Finset.fold max _ f Finset.univ) (funext fun k => congrArg src ?_)
  funext x; fin_cases x <;> rfl

theorem maxRed_last {a b c : ℕ} (src : FVec Ideal ⟨3, ![a, b, c]⟩ .f32) (acc : BitVec 32)
    (h : Shape.Reduces ⟨3, ![a, b, c]⟩ [2] ⟨2, ![a, b]⟩) (hφ) (hacc) (j : Shape.Idx ⟨2, ![a, b]⟩) :
    multiReduction .maximumf [2] ⟨2, ![a, b]⟩ src acc h hφ hacc j
      = Finset.fold max (Ideal.ofBits .f32 acc) (fun k : Fin c => src (ix3 (j 0) (j 1) k)) Finset.univ := by
  refine (multiReduction_maximumf_single src acc h hφ hacc j).trans ?_
  refine congrArg (fun f => Finset.fold max _ f Finset.univ) (funext fun k => congrArg src ?_)
  funext x; fin_cases x <;> rfl

theorem minRed_first {a b c : ℕ} (src : FVec Ideal ⟨3, ![a, b, c]⟩ .f32) (acc : BitVec 32)
    (h : Shape.Reduces ⟨3, ![a, b, c]⟩ [0] ⟨2, ![b, c]⟩) (hφ) (hacc) (j : Shape.Idx ⟨2, ![b, c]⟩) :
    multiReduction .minimumf [0] ⟨2, ![b, c]⟩ src acc h hφ hacc j
      = Finset.fold min (Ideal.ofBits .f32 acc) (fun k : Fin a => src (ix3 k (j 0) (j 1))) Finset.univ := by
  rw [multiReduction_minimumf_eq_fold]
  refine (h.fold_filter_drop_single _ _ src j).trans ?_
  refine congrArg (fun f => Finset.fold min _ f Finset.univ) (funext fun k => congrArg src ?_)
  funext x; fin_cases x <;> rfl

/-- The powers of two above a quotient, with infinity in place of the others. -/
def abX {F : FTy → Type} [FloatOps F] (y : FVec F S14x2048 .f32) : FVec F S253x14x2048 .f32 :=
  have e : FVec F S253x1x1 .f32 := exp2 (sitofp .f32 (subi (iota .tc S253x1x1 32 [0] iota_S253x1x1_d0_w32) (broadcast S253x1x1 125#32)))
  select (cmpf .olt (broadcastTo S253x14x2048 (shapeCast S1x14x2048 y shapeCasts_S14x2048_S1x14x2048) broadcasts_S1x14x2048_S253x14x2048)
      (broadcastTo S253x14x2048 e broadcasts_S253x1x1_S253x14x2048))
    (broadcastTo S253x14x2048 (shapeCast S253x1x1 e shapeCasts_S253x1x1_S253x1x1) broadcasts_S253x1x1_S253x14x2048)
    (broadcast S253x14x2048 (Scalar.ofBits .f32 0x7F800000#32))

theorem abX_at (y : FVec Ideal S14x2048 .f32) (j) :
    abX y j = if y (ix2 (j 1) (j 2)) < pw (j 0).val then pw (j 0).val else Ideal.ofBits .f32 2139095040#32 := by
  unfold pw abX
  pointwise

theorem abX_min (y : FVec Ideal S14x2048 .f32) (j) :
    multiReduction .minimumf [0] S14x2048 (abX y) 0x7F800000#32 reduces_S253x14x2048_S14x2048 (.inl rfl) rfl j
      = least (y j) := by
  refine (minRed_first (a := 253) (b := 14) (c := 2048) (abX y) _ _ _ _ j).trans ?_
  refine congrArg (fun f => Finset.fold min _ f Finset.univ) (funext fun k => ?_)
  refine (abX_at y _).trans ?_
  have e : ix2 ((ix3 k (j 0) (j 1) : Shape.Idx ⟨3, ![253, 14, 2048]⟩) 1) ((ix3 k (j 0) (j 1) : Shape.Idx ⟨3, ![253, 14, 2048]⟩) 2) = j := by
    funext x; fin_cases x <;> rfl
  exact congrArg (fun i => if y i < pw k.val then pw k.val else Ideal.ofBits .f32 2139095040#32) e

/-- The powers of two above a quotient, with infinity in place of the others. -/
def abR {F : FTy → Type} [FloatOps F] (y : FVec F S1792x44 .f32) : FVec F S253x1792x44 .f32 :=
  have e : FVec F S253x1x1 .f32 := exp2 (sitofp .f32 (subi (iota .tc S253x1x1 32 [0] iota_S253x1x1_d0_w32) (broadcast S253x1x1 125#32)))
  select (cmpf .olt (broadcastTo S253x1792x44 (shapeCast S1x1792x44 y shapeCasts_S1792x44_S1x1792x44) broadcasts_S1x1792x44_S253x1792x44)
      (broadcastTo S253x1792x44 e broadcasts_S253x1x1_S253x1792x44))
    (broadcastTo S253x1792x44 (shapeCast S253x1x1 e shapeCasts_S253x1x1_S253x1x1) broadcasts_S253x1x1_S253x1792x44)
    (broadcast S253x1792x44 (Scalar.ofBits .f32 0x7F800000#32))

theorem abR_at (y : FVec Ideal S1792x44 .f32) (j) :
    abR y j = if y (ix2 (j 1) (j 2)) < pw (j 0).val then pw (j 0).val else Ideal.ofBits .f32 2139095040#32 := by
  unfold pw abR
  pointwise

theorem abR_min (y : FVec Ideal S1792x44 .f32) (j) :
    multiReduction .minimumf [0] S1792x44 (abR y) 0x7F800000#32 reduces_S253x1792x44_S1792x44 (.inl rfl) rfl j
      = least (y j) := by
  refine (minRed_first (a := 253) (b := 1792) (c := 44) (abR y) _ _ _ _ j).trans ?_
  refine congrArg (fun f => Finset.fold min _ f Finset.univ) (funext fun k => ?_)
  refine (abR_at y _).trans ?_
  have e : ix2 ((ix3 k (j 0) (j 1) : Shape.Idx ⟨3, ![253, 1792, 44]⟩) 1) ((ix3 k (j 0) (j 1) : Shape.Idx ⟨3, ![253, 1792, 44]⟩) 2) = j := by
    funext x; fin_cases x <;> rfl
  exact congrArg (fun i => if y i < pw k.val then pw k.val else Ideal.ofBits .f32 2139095040#32) e

/-- The powers of two above a quotient, with infinity in place of the others. -/
def abC {F : FTy → Type} [FloatOps F] (y : FVec F S14x5632 .f32) : FVec F S253x14x5632 .f32 :=
  have e : FVec F S253x1x1 .f32 := exp2 (sitofp .f32 (subi (iota .tc S253x1x1 32 [0] iota_S253x1x1_d0_w32) (broadcast S253x1x1 125#32)))
  select (cmpf .olt (broadcastTo S253x14x5632 (shapeCast S1x14x5632 y shapeCasts_S14x5632_S1x14x5632) broadcasts_S1x14x5632_S253x14x5632)
      (broadcastTo S253x14x5632 e broadcasts_S253x1x1_S253x14x5632))
    (broadcastTo S253x14x5632 (shapeCast S253x1x1 e shapeCasts_S253x1x1_S253x1x1) broadcasts_S253x1x1_S253x14x5632)
    (broadcast S253x14x5632 (Scalar.ofBits .f32 0x7F800000#32))

theorem abC_at (y : FVec Ideal S14x5632 .f32) (j) :
    abC y j = if y (ix2 (j 1) (j 2)) < pw (j 0).val then pw (j 0).val else Ideal.ofBits .f32 2139095040#32 := by
  unfold pw abC
  pointwise

theorem abC_min (y : FVec Ideal S14x5632 .f32) (j) :
    multiReduction .minimumf [0] S14x5632 (abC y) 0x7F800000#32 reduces_S253x14x5632_S14x5632 (.inl rfl) rfl j
      = least (y j) := by
  refine (minRed_first (a := 253) (b := 14) (c := 5632) (abC y) _ _ _ _ j).trans ?_
  refine congrArg (fun f => Finset.fold min _ f Finset.univ) (funext fun k => ?_)
  refine (abC_at y _).trans ?_
  have e : ix2 ((ix3 k (j 0) (j 1) : Shape.Idx ⟨3, ![253, 14, 5632]⟩) 1) ((ix3 k (j 0) (j 1) : Shape.Idx ⟨3, ![253, 14, 5632]⟩) 2) = j := by
    funext x; fin_cases x <;> rfl
  exact congrArg (fun i => if y i < pw k.val then pw k.val else Ideal.ofBits .f32 2139095040#32) e

theorem selX (y M : FVec Ideal S14x2048 .f32) (j) (h : M j = least (y j)) :
    select (cmpf .olt y (broadcast S14x2048 (Scalar.ofBits .f32 0x00800000#32))) (broadcast S14x2048 (Scalar.ofBits .f32 0x3F800000#32)) M j
      = rsc (y j) := by
  unfold rsc
  rw [← h]
  pointwise

theorem selR (y M : FVec Ideal S1792x44 .f32) (j) (h : M j = least (y j)) :
    select (cmpf .olt y (broadcast S1792x44 (Scalar.ofBits .f32 0x00800000#32))) (broadcast S1792x44 (Scalar.ofBits .f32 0x3F800000#32)) M j
      = rsc (y j) := by
  unfold rsc
  rw [← h]
  pointwise

theorem selC (y M : FVec Ideal S14x5632 .f32) (j) (h : M j = least (y j)) :
    select (cmpf .olt y (broadcast S14x5632 (Scalar.ofBits .f32 0x00800000#32))) (broadcast S14x5632 (Scalar.ofBits .f32 0x3F800000#32)) M j
      = rsc (y j) := by
  unfold rsc
  rw [← h]
  pointwise

theorem topX (v : FVec Ideal S14x128x2048 .f32) (j) :
    mulf (multiReduction .maximumf [1] S14x2048 (absf v) 0xFF800000#32 reduces_S14x128x2048_S14x2048 (.inl rfl) rfl)
      (broadcast S14x2048 (Scalar.ofBits .f32 991054117#32)) j
      = top (Ideal.ofBits .f32 991054117#32) fun k => if h : k < 128 then v (ix3 (j 0) ⟨k, h⟩ (j 1)) else 0 := by
  have e : ∀ (M : FVec Ideal S14x2048 .f32), mulf M (broadcast S14x2048 (Scalar.ofBits .f32 991054117#32)) j = M j * Ideal.ofBits .f32 991054117#32 := by
    intro M; pointwise
  rw [e, top]
  refine congrArg (fun z : EReal => z * Ideal.ofBits .f32 991054117#32) ((maxRed_mid (a := 14) (b := 128) (c := 2048) (absf v) _ _ _ _ j).trans ?_)
  rw [show Ideal.ofBits .f32 0xFF800000#32 = (⊥ : EReal) by simp [Ideal.ofBits, Ideal.ieee]]
  refine congrArg (fun f => Finset.fold max (⊥ : EReal) f Finset.univ) (funext fun k => ?_)
  rw [dif_pos k.isLt]
  rfl

theorem topR (v : FVec Ideal S1792x44x128 .f32) (j) :
    mulf (multiReduction .maximumf [2] S1792x44 (absf v) 0xFF800000#32 reduces_S1792x44x128_S1792x44 (.inl rfl) rfl)
      (broadcast S1792x44 (Scalar.ofBits .f32 932333861#32)) j
      = top (Ideal.ofBits .f32 932333861#32) fun k => if h : k < 128 then v (ix3 (j 0) (j 1) ⟨k, h⟩) else 0 := by
  have e : ∀ (M : FVec Ideal S1792x44 .f32), mulf M (broadcast S1792x44 (Scalar.ofBits .f32 932333861#32)) j = M j * Ideal.ofBits .f32 932333861#32 := by
    intro M; pointwise
  rw [e, top]
  refine congrArg (fun z : EReal => z * Ideal.ofBits .f32 932333861#32) ((maxRed_last (a := 1792) (b := 44) (c := 128) (absf v) _ _ _ _ j).trans ?_)
  rw [show Ideal.ofBits .f32 0xFF800000#32 = (⊥ : EReal) by simp [Ideal.ofBits, Ideal.ieee]]
  refine congrArg (fun f => Finset.fold max (⊥ : EReal) f Finset.univ) (funext fun k => ?_)
  rw [dif_pos k.isLt]
  rfl

theorem topC (v : FVec Ideal S14x128x5632 .f32) (j) :
    mulf (multiReduction .maximumf [1] S14x5632 (absf v) 0xFF800000#32 reduces_S14x128x5632_S14x5632 (.inl rfl) rfl)
      (broadcast S14x5632 (Scalar.ofBits .f32 932333861#32)) j
      = top (Ideal.ofBits .f32 932333861#32) fun k => if h : k < 128 then v (ix3 (j 0) ⟨k, h⟩ (j 1)) else 0 := by
  have e : ∀ (M : FVec Ideal S14x5632 .f32), mulf M (broadcast S14x5632 (Scalar.ofBits .f32 932333861#32)) j = M j * Ideal.ofBits .f32 932333861#32 := by
    intro M; pointwise
  rw [e, top]
  refine congrArg (fun z : EReal => z * Ideal.ofBits .f32 932333861#32) ((maxRed_mid (a := 14) (b := 128) (c := 5632) (absf v) _ _ _ _ j).trans ?_)
  rw [show Ideal.ofBits .f32 0xFF800000#32 = (⊥ : EReal) by simp [Ideal.ofBits, Ideal.ieee]]
  refine congrArg (fun f => Finset.fold max (⊥ : EReal) f Finset.univ) (funext fun k => ?_)
  rw [dif_pos k.isLt]
  rfl

end Cert.ReferenceIdeal.Hand
end
-- ==== Proof.RefVal.lean ====
module

public import proofs.«01_k».proof.Proof.Gen.ReferenceIdeal.Value
public import proofs.«01_k».proof.Proof.RefRed
public import proofs.«01_k».proof.Proof.Follow
public import Idealize.ShloMosaic.Lib.Pointwise
public import Idealize.ShloMosaic.Lib.Tactic

@[expose] public section

noncomputable section

namespace Cert.ReferenceIdeal.Hand

open Cert.ReferenceIdeal Cert.ReferenceIdeal.Gen Idealize.ShloMosaic Idealize.ShloMosaic.TcCoe Idealize.SL.Sem
open Cert.Spec
open Cert.KernelIdeal.Hand (Is2 ofVec is2_ofVec sumTo)
open Idealize.ShloMosaic.Pointwise Idealize.ShloMosaic.Pipeline
variable [Facts]

/-! The reference's payloads, read at an index. -/

theorem cat14 {a b : ℕ} (ha : a < 14) (hb : b < 128) : a * 128 + b < 1792 := by omega
theorem cat44 {a b : ℕ} (ha : a < 44) (hb : b < 128) : a * 128 + b < 5632 := by omega
theorem div14 {a : ℕ} (h : a < 1792) : a / 128 < 14 := by omega
theorem div44 {a : ℕ} (h : a < 5632) : a / 128 < 44 := by omega
theorem div16 {a : ℕ} (h : a < 2048) : a / 128 < 16 := by omega
theorem mod128 (a : ℕ) : a % 128 < 128 := by omega

section
variable (X : Vec Ideal S1792x2048 .bf16) (G : Vec Ideal S1x2048 .f32) (Dv : Vec Ideal S1792x5632 .bf16)

theorem r5 (j) : k0_pay5 X j = Ideal.rsqrt (Ideal.div (∑ x : Fin 2048, X (ix2 (j 0) x) * X (ix2 (j 0) x)) (Ideal.ofBits .f32 1157627904#32) + Ideal.ofBits .f32 897988541#32) := by
  pointwise [k0_pay5, k0_pay4]
theorem r6 (j) : k0_pay6 X j = X j * k0_pay5 X (ix2 (j 0) 0) := by
  pointwise [k0_pay6, k0_pay4]
theorem r7 (j) : k0_pay7 X G j = X (ix2 ⟨(j 0).val * 128 + (j 1).val, cat14 (j 0).isLt (j 1).isLt⟩ (j 2)) * k0_pay5 X (ix2 ⟨(j 0).val * 128 + (j 1).val, cat14 (j 0).isLt (j 1).isLt⟩ 0) * G (ix2 0 (j 2)) := by
  pointwise [k0_pay7, k0_pay6, k0_pay2, k0_pay4]

theorem f8 {F : FTy → Type} [FloatOps F] (X : Vec F S1792x2048 .bf16) (G : Vec F S1x2048 .f32) : k0_pay8 X G =
    mulf (multiReduction .maximumf [1] S14x2048 (absf (k0_pay7 X G)) 0xFF800000#32 reduces_S14x128x2048_S14x2048 (.inl rfl) rfl)
      (broadcast S14x2048 (Scalar.ofBits .f32 991054117#32)) := rfl
theorem f9 {F : FTy → Type} [FloatOps F] (X : Vec F S1792x2048 .bf16) (G : Vec F S1x2048 .f32) : k0_pay9 X G =
    multiReduction .minimumf [0] S14x2048 (abX (k0_pay8 X G)) 0x7F800000#32 reduces_S253x14x2048_S14x2048 (.inl rfl) rfl := rfl
theorem f11 {F : FTy → Type} [FloatOps F] (y M : FVec F S14x2048 .f32) : k0_pay11 y M k0_pay10 =
    select (cmpf .olt y (broadcast S14x2048 (Scalar.ofBits .f32 0x00800000#32))) (broadcast S14x2048 (Scalar.ofBits .f32 0x3F800000#32)) M := rfl
theorem f15 {F : FTy → Type} [FloatOps F] (D : FVec F S1792x5632 .bf16) : k0_pay15 D =
    (have y := mulf (multiReduction .maximumf [2] S1792x44 (absf (k0_pay14 D)) 0xFF800000#32 reduces_S1792x44x128_S1792x44 (.inl rfl) rfl)
      (broadcast S1792x44 (Scalar.ofBits .f32 932333861#32))
    select (cmpf .olt y (broadcast S1792x44 (Scalar.ofBits .f32 0x00800000#32))) (broadcast S1792x44 (Scalar.ofBits .f32 0x3F800000#32))
      (multiReduction .minimumf [0] S1792x44 (abR y) 0x7F800000#32 reduces_S253x1792x44_S1792x44 (.inl rfl) rfl)) := rfl
theorem f19 {F : FTy → Type} [FloatOps F] (D : FVec F S1792x5632 .f32) : k0_pay19 D =
    (have y := mulf (multiReduction .maximumf [1] S14x5632 (absf (k0_pay18 D)) 0xFF800000#32 reduces_S14x128x5632_S14x5632 (.inl rfl) rfl)
      (broadcast S14x5632 (Scalar.ofBits .f32 932333861#32))
    select (cmpf .olt y (broadcast S14x5632 (Scalar.ofBits .f32 0x00800000#32))) (broadcast S14x5632 (Scalar.ofBits .f32 0x3F800000#32))
      (multiReduction .minimumf [0] S14x5632 (abC y) 0x7F800000#32 reduces_S253x14x5632_S14x5632 (.inl rfl) rfl)) := rfl

theorem r8 (j) : k0_pay8 X G j = top c4 fun k => if h : k < 128 then k0_pay7 X G (ix3 (j 0) ⟨k, h⟩ (j 1)) else 0 :=
  (congrFun (f8 X G) j).trans (topX _ j)
theorem r11 (j) : k0_pay11 (k0_pay8 X G) (k0_pay9 X G) k0_pay10 j = rsc (k0_pay8 X G j) :=
  (congrFun (f11 _ _) j).trans (selX _ _ j ((congrFun (f9 X G) j).trans (abX_min _ j)))
theorem r15 (D : FVec Ideal S1792x5632 .bf16) (j) : k0_pay15 D j = rsc (top c5 fun k => if h : k < 128 then k0_pay14 D (ix3 (j 0) (j 1) ⟨k, h⟩) else 0) :=
  (congrFun (f15 D) j).trans ((selR _ _ j (abR_min _ j)).trans (congrArg rsc (topR _ j)))
theorem r19 (D : FVec Ideal S1792x5632 .f32) (j) : k0_pay19 D j = rsc (top c5 fun k => if h : k < 128 then k0_pay18 D (ix3 (j 0) ⟨k, h⟩ (j 1)) else 0) :=
  (congrFun (f19 D) j).trans ((selC _ _ j (abC_min _ j)).trans (congrArg rsc (topC _ j)))

theorem q12 (E : FVec Ideal S14x128x2048 .f32) (s : FVec Ideal S14x2048 .f32) (j) :
    minimumf (broadcast S14x128x2048 (Scalar.ofBits .f32 1138753536#32)) (maximumf (broadcast S14x128x2048 (Scalar.ofBits .f32 3286237184#32))
      (mulf E (broadcastTo S14x128x2048 (shapeCast S14x1x2048 (divf (broadcast S14x2048 (Scalar.ofBits .f32 1065353216#32)) s) shapeCasts_S14x2048_S14x1x2048) broadcasts_S14x1x2048_S14x128x2048))) j
      = min (Ideal.ofBits .f32 1138753536#32) (max (Ideal.ofBits .f32 3286237184#32) (E j * Ideal.div (Ideal.ofBits .f32 1065353216#32) (s (ix2 (j 0) (j 2))))) := by
  pointwise

theorem q16 (E : FVec Ideal S1792x44x128 .f32) (s : FVec Ideal S1792x44 .f32) (j) :
    minimumf (broadcast S1792x44x128 (Scalar.ofBits .f32 1197473792#32)) (maximumf (broadcast S1792x44x128 (Scalar.ofBits .f32 3344957440#32))
      (mulf E (broadcastTo S1792x44x128 (shapeCast S1792x44x1 (divf (broadcast S1792x44 (Scalar.ofBits .f32 1065353216#32)) s) shapeCasts_S1792x44_S1792x44x1) broadcasts_S1792x44x1_S1792x44x128))) j
      = min (Ideal.ofBits .f32 1197473792#32) (max (Ideal.ofBits .f32 3344957440#32) (E j * Ideal.div (Ideal.ofBits .f32 1065353216#32) (s (ix2 (j 0) (j 1))))) := by
  pointwise

theorem q20 (E : FVec Ideal S14x128x5632 .f32) (s : FVec Ideal S14x5632 .f32) (j) :
    minimumf (broadcast S14x128x5632 (Scalar.ofBits .f32 1197473792#32)) (maximumf (broadcast S14x128x5632 (Scalar.ofBits .f32 3344957440#32))
      (mulf E (broadcastTo S14x128x5632 (shapeCast S14x1x5632 (divf (broadcast S14x5632 (Scalar.ofBits .f32 1065353216#32)) s) shapeCasts_S14x5632_S14x1x5632) broadcasts_S14x1x5632_S14x128x5632))) j
      = min (Ideal.ofBits .f32 1197473792#32) (max (Ideal.ofBits .f32 3344957440#32) (E j * Ideal.div (Ideal.ofBits .f32 1065353216#32) (s (ix2 (j 0) (j 2))))) := by
  pointwise

theorem f12 {F : FTy → Type} [FloatOps F] (v : FVec F S14x128x2048 .f32) (y M T : FVec F S14x2048 .f32) : k0_pay12 v y M T =
    truncf .fp8e4m3 (minimumf (broadcast S14x128x2048 (Scalar.ofBits .f32 1138753536#32)) (maximumf (broadcast S14x128x2048 (Scalar.ofBits .f32 3286237184#32))
      (mulf v (broadcastTo S14x128x2048 (shapeCast S14x1x2048 (divf (broadcast S14x2048 (Scalar.ofBits .f32 1065353216#32)) (k0_pay11 y M T)) shapeCasts_S14x2048_S14x1x2048) broadcasts_S14x1x2048_S14x128x2048)))) bitsLt_fp8e4m3_f32 := rfl

theorem f16 {F : FTy → Type} [FloatOps F] (D : FVec F S1792x5632 .bf16) : k0_pay16 D =
    minimumf (broadcast S1792x44x128 (Scalar.ofBits .f32 1197473792#32)) (maximumf (broadcast S1792x44x128 (Scalar.ofBits .f32 3344957440#32))
      (mulf (k0_pay14 D) (broadcastTo S1792x44x128 (shapeCast S1792x44x1 (divf (broadcast S1792x44 (Scalar.ofBits .f32 1065353216#32)) (k0_pay15 D)) shapeCasts_S1792x44_S1792x44x1) broadcasts_S1792x44x1_S1792x44x128))) := rfl

theorem f20 {F : FTy → Type} [FloatOps F] (D : FVec F S1792x5632 .f32) : k0_pay20 D =
    truncf .fp8e5m2 (minimumf (broadcast S14x128x5632 (Scalar.ofBits .f32 1197473792#32)) (maximumf (broadcast S14x128x5632 (Scalar.ofBits .f32 3344957440#32))
      (mulf (k0_pay18 D) (broadcastTo S14x128x5632 (shapeCast S14x1x5632 (divf (broadcast S14x5632 (Scalar.ofBits .f32 1065353216#32)) (k0_pay19 D)) shapeCasts_S14x5632_S14x1x5632) broadcasts_S14x1x5632_S14x128x5632)))) bitsLt_fp8e5m2_f32 := rfl

theorem r12 (v : FVec Ideal S14x128x2048 .f32) (y M T) (j) : k0_pay12 v y M T j = clip4 (v j * Ideal.div (Ideal.ofBits .f32 1065353216#32) (k0_pay11 y M T (ix2 (j 0) (j 2)))) := by
  exact (congrFun (f12 v y M T) j).trans (q12 v _ j)
theorem r14 (D : FVec Ideal S1792x5632 .bf16) (j) : k0_pay14 D j = D (ix2 (j 0) ⟨(j 1).val * 128 + (j 2).val, cat44 (j 1).isLt (j 2).isLt⟩) := by
  pointwise [k0_pay14, k0_pay13]
theorem r16 (D : FVec Ideal S1792x5632 .bf16) (j) : k0_pay16 D j = clip5 (k0_pay14 D j * Ideal.div (Ideal.ofBits .f32 1065353216#32) (k0_pay15 D (ix2 (j 0) (j 1)))) := by
  exact (congrFun (f16 D) j).trans (q16 _ _ j)
theorem r18 (D : FVec Ideal S1792x5632 .f32) (j) : k0_pay18 D j = D (ix2 ⟨(j 0).val * 128 + (j 1).val, cat14 (j 0).isLt (j 1).isLt⟩ (j 2)) := by
  pointwise [k0_pay18]
theorem r20 (D : FVec Ideal S1792x5632 .f32) (j) : k0_pay20 D j = clip5 (k0_pay18 D j * Ideal.div (Ideal.ofBits .f32 1065353216#32) (k0_pay19 D (ix2 (j 0) (j 2)))) := by
  exact (congrFun (f20 D) j).trans (q20 _ _ j)
theorem r26 (C : FVec Ideal S14x128x2048 .fp8e4m3) (j) : k0_pay26 C j = C (ix3 ⟨(j 0).val / 128, div14 (j 0).isLt⟩ ⟨(j 0).val % 128, mod128 _⟩ (j 1)) := by
  pointwise [k0_pay26]
theorem r1 (C : FVec Ideal S14x128x5632 .fp8e5m2) (j) : k0_pay1 C j = C (ix3 ⟨(j 0).val / 128, div14 (j 0).isLt⟩ ⟨(j 0).val % 128, mod128 _⟩ (j 1)) := by
  pointwise [k0_pay1]
theorem r27 (C : FVec Ideal S1792x44x128 .f32) (j) : k0_pay27 (k0_pay17 C) j = C (ix3 (j 0) ⟨(j 1).val / 128, div44 (j 1).isLt⟩ ⟨(j 1).val % 128, mod128 _⟩) := by
  pointwise [k0_pay27, k0_pay17]
theorem r21 (W : Vec Ideal S2048x5632 .fp8e4m3) (S : Vec Ideal S16x44 .f32) (B : FVec Ideal S1792x44 .f32) (C : FVec Ideal S1792x44x128 .f32) (j) :
    k0_pay21 W S B C j = ∑ x : Fin 5632, C (ix3 (j 0) ⟨x.val / 128, div44 x.isLt⟩ ⟨x.val % 128, mod128 _⟩) * B (ix2 (j 0) ⟨x.val / 128, div44 x.isLt⟩)
      * (W (ix2 (j 1) x) * S (ix2 ⟨(j 1).val / 128, div16 (j 1).isLt⟩ ⟨x.val / 128, div44 x.isLt⟩)) := by
  pointwise [k0_pay21, k0_pay17]
theorem r23 (A : FVec Ideal S14x2048 .f32) (B : FVec Ideal S14x5632 .f32) (C : FVec Ideal S14x128x5632 .fp8e5m2) (E : FVec Ideal S14x128x2048 .fp8e4m3) (j) :
    k0_pay23 A B C (k0_pay22 E) j = ∑ x : Fin 1792, E (ix3 ⟨x.val / 128, div14 x.isLt⟩ ⟨x.val % 128, mod128 _⟩ (j 0)) * A (ix2 ⟨x.val / 128, div14 x.isLt⟩ (j 0))
      * (C (ix3 ⟨x.val / 128, div14 x.isLt⟩ ⟨x.val % 128, mod128 _⟩ (j 1)) * B (ix2 ⟨x.val / 128, div14 x.isLt⟩ (j 1))) := by
  pointwise [k0_pay23, k0_pay22]
theorem r24 (U : FVec Ideal S1792x1 .f32) (H P : FVec Ideal S1792x2048 .f32) (j) :
    k0_pay24 (k0_pay2 G) U H P j = U (ix2 (j 0) 0) * (P j * G (ix2 0 (j 1)) - H j * Ideal.div (∑ x : Fin 2048, P (ix2 (j 0) x) * G (ix2 0 x) * H (ix2 (j 0) x)) (Ideal.ofBits .f32 1157627904#32)) := by
  pointwise [k0_pay24, k0_pay2]
theorem r25 (H P : FVec Ideal S1792x2048 .f32) (j) :
    k0_pay25 H P j = ∑ x : Fin 1792, P (ix2 x (j 1)) * H (ix2 x (j 1)) := by
  pointwise [k0_pay25]
end

end Cert.ReferenceIdeal.Hand
end
-- ==== Proof.RefOut.lean ====
module

public import proofs.«01_k».proof.Proof.Gen.ReferenceIdeal.Value
public import proofs.«01_k».proof.Proof.RefVal
public import Idealize.ShloMosaic.Lib.Pointwise
public import Idealize.ShloMosaic.Lib.Tactic

@[expose] public section

noncomputable section

namespace Cert.ReferenceIdeal.Hand

open Cert.ReferenceIdeal Cert.ReferenceIdeal.Gen Idealize.ShloMosaic Idealize.ShloMosaic.TcCoe Idealize.SL.Sem
open Cert.Spec
open Cert.KernelIdeal.Hand (Is2 ofVec is2_ofVec sumTo)
open Idealize.ShloMosaic.Pointwise Idealize.ShloMosaic.Pipeline
variable [Facts]

/-! The reference's payloads as the specification's functions of the arguments. -/

theorem top_congr {m : EReal} {v w : ℕ → EReal} (h : ∀ k, k < 128 → v k = w k) : top m v = top m w := by
  unfold top
  have e : (fun k : Fin 128 => max (v k.val) (-v k.val)) = (fun k : Fin 128 => max (w k.val) (-w k.val)) :=
    funext fun k => by rw [h k.val k.isLt]
  rw [e]

theorem back (r : ℕ) : 128 * (r / 128) + r % 128 = r := by omega
theorem quo {a b : ℕ} (h : b < 128) : (128 * a + b) / 128 = a := by omega

section
variable {X : Vec Ideal S1792x2048 .bf16} {G : Vec Ideal S1x2048 .f32} {A : Arr} {g : ℕ → EReal} (hx : Is2 X A) (hg : Is2 G (fun _ k => g k))
include hx

theorem x5 (j) : k0_pay5 X j = R A (j 0).val := by
  rw [r5]; unfold R
  have e : (fun x : Fin 2048 => X (ix2 (j 0) x) * X (ix2 (j 0) x)) = fun x : Fin 2048 => A (j 0).val x.val * A (j 0).val x.val :=
    funext fun x => by rw [hx (ix2 (j 0) x)]; rfl
  rw [e]
theorem x6 (j) : k0_pay6 X j = A (j 0).val (j 1).val * R A (j 0).val := by
  rw [r6, hx j, x5 hx]; rfl

include hg
theorem x7 (j) : k0_pay7 X G j = XN A g (128 * (j 0).val + (j 1).val) (j 2).val := by
  rw [r7, hx, x5 hx, hg]
  show A ((j 0).val * 128 + (j 1).val) (j 2).val * R A ((j 0).val * 128 + (j 1).val) * g (j 2).val = _
  rw [Nat.mul_comm (j 0).val 128]; rfl
theorem x8 (j) : k0_pay8 X G j = xTop (XN A g) (j 0).val (j 1).val := by
  rw [r8]
  refine top_congr fun k hk => ?_
  rw [dif_pos hk]; exact x7 hx hg _
theorem x11 (j) : k0_pay11 (k0_pay8 X G) (k0_pay9 X G) k0_pay10 j = XS rsc (XN A g) (j 0).val (j 1).val := by
  rw [r11, x8 hx hg]; rfl
theorem x12 (j) : k0_pay12 (k0_pay7 X G) (k0_pay8 X G) (k0_pay9 X G) k0_pay10 j = XC rinv (XN A g) (128 * (j 0).val + (j 1).val) (j 2).val := by
  have h1 : (j 1).val < 128 := (j 1).isLt
  rw [r12, x7 hx hg, x11 hx hg]
  unfold XC
  rw [quo h1]; rfl
theorem o8 : Is2 (k0_pay26 (k0_pay12 (k0_pay7 X G) (k0_pay8 X G) (k0_pay9 X G) k0_pay10)) (XC rinv (XN A g)) := by
  intro j
  rw [r26, x12 hx hg]
  exact congrArg (fun r => XC rinv (XN A g) r (j 1).val) (back (j 0).val)
end

section
variable {D : FVec Ideal S1792x5632 .bf16} {Dd : Arr} (hd : Is2 D Dd)
include hd
theorem d14 (j) : k0_pay14 D j = Dd (j 0).val (128 * (j 1).val + (j 2).val) := by
  rw [r14, hd]
  exact congrArg (Dd (j 0).val) (by rw [Nat.mul_comm 128]; rfl)
theorem d15 : Is2 (k0_pay15 D) (RS rsc Dd) := by
  intro j
  rw [r15]
  refine congrArg rsc (top_congr fun k hk => ?_)
  rw [dif_pos hk]; exact d14 hd _
theorem d16 (j) : k0_pay16 D j = RC rinv Dd (j 0).val (128 * (j 1).val + (j 2).val) := by
  have h2 : (j 2).val < 128 := (j 2).isLt
  rw [r16, d14 hd, d15 hd]
  unfold RC
  rw [quo h2]; rfl
theorem o10 : Is2 (k0_pay27 (k0_pay17 (k0_pay16 D))) (RC rinv Dd) := by
  intro j
  rw [r27, d16 hd]
  exact congrArg (fun c => RC rinv Dd (j 0).val c) (back (j 1).val)
theorem o40 {W : Vec Ideal S2048x5632 .fp8e4m3} {S : Vec Ideal S16x44 .f32} {WA SA : Arr} (hw : Is2 W WA) (hs : Is2 S SA) :
    Is2 (k0_pay21 W S (k0_pay15 D) (k0_pay16 D)) (DXN (RD rsc rinv Dd) (WD WA SA) 5632) := by
  intro j
  rw [r21]
  unfold DXN
  rw [Finset.sum_range]
  refine Finset.sum_congr rfl fun x _ => ?_
  rw [d16 hd, d15 hd, hw, hs]
  unfold RD WD
  exact congrArg (fun z => RC rinv Dd (j 0).val z * RS rsc Dd (j 0).val (x.val / 128) * (WA (j 1).val x.val * SA ((j 1).val / 128) (x.val / 128))) (back x.val)
end

section
variable {D : FVec Ideal S1792x5632 .f32} {Dd : Arr} (hd : Is2 D Dd)
include hd
theorem d18 (j) : k0_pay18 D j = Dd (128 * (j 0).val + (j 1).val) (j 2).val := by
  rw [r18, hd]
  exact congrArg (fun r => Dd r (j 2).val) (by rw [Nat.mul_comm 128]; rfl)
theorem d19 : Is2 (k0_pay19 D) (CS rsc Dd) := by
  intro j
  rw [r19]
  refine congrArg rsc (top_congr fun k hk => ?_)
  rw [dif_pos hk]; exact d18 hd _
theorem d20 (j) : k0_pay20 D j = CC rinv Dd (128 * (j 0).val + (j 1).val) (j 2).val := by
  have h1 : (j 1).val < 128 := (j 1).isLt
  rw [r20, d18 hd, d19 hd]
  unfold CC
  rw [quo h1]; rfl
theorem o12 : Is2 (k0_pay1 (k0_pay20 D)) (CC rinv Dd) := by
  intro j
  rw [r1, d20 hd]
  exact congrArg (fun r => CC rinv Dd r (j 1).val) (back (j 0).val)

theorem o6 {X : Vec Ideal S1792x2048 .bf16} {G : Vec Ideal S1x2048 .f32} {A : Arr} {g : ℕ → EReal} (hx : Is2 X A) (hg : Is2 G (fun _ k => g k)) :
    Is2 (k0_pay23 (k0_pay11 (k0_pay8 X G) (k0_pay9 X G) k0_pay10) (k0_pay19 D) (k0_pay20 D)
      (k0_pay22 (k0_pay12 (k0_pay7 X G) (k0_pay8 X G) (k0_pay9 X G) k0_pay10))) (DW (XD rsc rinv (XN A g)) (CD rsc rinv Dd)) := by
  intro j
  rw [r23]
  unfold DW
  refine Finset.sum_congr rfl fun x _ => ?_
  rw [d20 hd, d19 hd, x11 hx hg, x12 hx hg]
  unfold XD CD
  exact congrArg (fun z => XC rinv (XN A g) z (j 0).val * XS rsc (XN A g) (x.val / 128) (j 0).val * (CC rinv Dd z (j 1).val * CS rsc Dd (x.val / 128) (j 1).val)) (back x.val)
end

section
variable {X : Vec Ideal S1792x2048 .bf16} {G : Vec Ideal S1x2048 .f32} {A : Arr} {g : ℕ → EReal} (hx : Is2 X A)
  {P : FVec Ideal S1792x2048 .f32} {PA : Arr} (hp : Is2 P PA)
include hx hp
theorem o5 (hg : Is2 G (fun _ k => g k)) : Is2 (k0_pay24 (k0_pay2 G) (k0_pay5 X) (k0_pay6 X) P) (DX A g PA) := by
  intro j
  rw [r24, x5 hx, x6 hx, hp, hg]
  unfold DX
  have e : (fun x : Fin 2048 => P (ix2 (j 0) x) * G (ix2 0 x) * k0_pay6 X (ix2 (j 0) x))
      = fun x : Fin 2048 => PA (j 0).val x.val * g x.val * (A (j 0).val x.val * R A (j 0).val) :=
    funext fun x => by rw [hp, hg, x6 hx]; rfl
  rw [e]; rfl
theorem o7 : Is2 (k0_pay25 (k0_pay6 X) P) (fun _ k => DG A PA 1792 k) := by
  intro j
  rw [r25]
  show _ = DG A PA 1792 (j 1).val
  unfold DG
  rw [Finset.sum_range]
  refine Finset.sum_congr rfl fun x _ => ?_
  rw [hp, x6 hx]; rfl
end

end Cert.ReferenceIdeal.Hand
end
-- ==== Proof.RefFinal.lean ====
module

public import proofs.«01_k».proof.Proof.Gen.ReferenceIdeal.Value
public import proofs.«01_k».proof.Proof.RefOut
public import Idealize.ShloMosaic.Lib.Pointwise
public import Idealize.ShloMosaic.Lib.Tactic

@[expose] public section

noncomputable section

namespace Cert.ReferenceIdeal.Hand

open Cert.ReferenceIdeal Cert.ReferenceIdeal.Gen Idealize.ShloMosaic Idealize.ShloMosaic.TcCoe Idealize.SL.Sem
open Cert.Spec Idealize.ShloMosaic.Tactic
open Cert.KernelIdeal.Hand (Is2 ofVec is2_ofVec sumTo)
open Idealize.ShloMosaic.Pointwise Idealize.ShloMosaic.Pipeline

/-! The reference's arrays after the run. It has one grid point, and every window is its whole array. -/

theorem idx0 : ∀ t : Fin cfg0.N, win0_0.index t = ![0, 0] := by decide +kernel
theorem emb0 (t : Fin cfg0.N) (y : S1792x2048.Idx) : (((cfg0.win 0).blk t).view.emb y : S1792x2048.Idx) = y := by
  have h0 : ((((cfg0.win 0).blk t).view.emb y : S1792x2048.Idx) 0).val = (y 0).val := by
    show win0_0.index t 0 * 1792 + 1 * (y 0).val = _
    rw [idx0]
    show 0 * 1792 + 1 * (y 0).val = _
    omega
  have h1 : ((((cfg0.win 0).blk t).view.emb y : S1792x2048.Idx) 1).val = (y 1).val := by
    show win0_0.index t 1 * 2048 + 1 * (y 1).val = _
    rw [idx0]
    show 0 * 2048 + 1 * (y 1).val = _
    omega
  funext i
  refine Fin.ext ?_
  fin_cases i
  · exact h0
  · exact h1

theorem idx1 : ∀ t : Fin cfg0.N, win0_1.index t = ![0, 0] := by decide +kernel
theorem emb1 (t : Fin cfg0.N) (y : S1x2048.Idx) : (((cfg0.win 1).blk t).view.emb y : S1x2048.Idx) = y := by
  have h0 : ((((cfg0.win 1).blk t).view.emb y : S1x2048.Idx) 0).val = (y 0).val := by
    show win0_1.index t 0 * 1 + 1 * (y 0).val = _
    rw [idx1]
    show 0 * 1 + 1 * (y 0).val = _
    omega
  have h1 : ((((cfg0.win 1).blk t).view.emb y : S1x2048.Idx) 1).val = (y 1).val := by
    show win0_1.index t 1 * 2048 + 1 * (y 1).val = _
    rw [idx1]
    show 0 * 2048 + 1 * (y 1).val = _
    omega
  funext i
  refine Fin.ext ?_
  fin_cases i
  · exact h0
  · exact h1

theorem idx2 : ∀ t : Fin cfg0.N, win0_2.index t = ![0, 0] := by decide +kernel
theorem emb2 (t : Fin cfg0.N) (y : S2048x5632.Idx) : (((cfg0.win 2).blk t).view.emb y : S2048x5632.Idx) = y := by
  have h0 : ((((cfg0.win 2).blk t).view.emb y : S2048x5632.Idx) 0).val = (y 0).val := by
    show win0_2.index t 0 * 2048 + 1 * (y 0).val = _
    rw [idx2]
    show 0 * 2048 + 1 * (y 0).val = _
    omega
  have h1 : ((((cfg0.win 2).blk t).view.emb y : S2048x5632.Idx) 1).val = (y 1).val := by
    show win0_2.index t 1 * 5632 + 1 * (y 1).val = _
    rw [idx2]
    show 0 * 5632 + 1 * (y 1).val = _
    omega
  funext i
  refine Fin.ext ?_
  fin_cases i
  · exact h0
  · exact h1

theorem idx3 : ∀ t : Fin cfg0.N, win0_3.index t = ![0, 0] := by decide +kernel
theorem emb3 (t : Fin cfg0.N) (y : S16x44.Idx) : (((cfg0.win 3).blk t).view.emb y : S16x44.Idx) = y := by
  have h0 : ((((cfg0.win 3).blk t).view.emb y : S16x44.Idx) 0).val = (y 0).val := by
    show win0_3.index t 0 * 16 + 1 * (y 0).val = _
    rw [idx3]
    show 0 * 16 + 1 * (y 0).val = _
    omega
  have h1 : ((((cfg0.win 3).blk t).view.emb y : S16x44.Idx) 1).val = (y 1).val := by
    show win0_3.index t 1 * 44 + 1 * (y 1).val = _
    rw [idx3]
    show 0 * 44 + 1 * (y 1).val = _
    omega
  funext i
  refine Fin.ext ?_
  fin_cases i
  · exact h0
  · exact h1

theorem idx4 : ∀ t : Fin cfg0.N, win0_4.index t = ![0, 0] := by decide +kernel
theorem emb4 (t : Fin cfg0.N) (y : S1792x5632.Idx) : (((cfg0.win 4).blk t).view.emb y : S1792x5632.Idx) = y := by
  have h0 : ((((cfg0.win 4).blk t).view.emb y : S1792x5632.Idx) 0).val = (y 0).val := by
    show win0_4.index t 0 * 1792 + 1 * (y 0).val = _
    rw [idx4]
    show 0 * 1792 + 1 * (y 0).val = _
    omega
  have h1 : ((((cfg0.win 4).blk t).view.emb y : S1792x5632.Idx) 1).val = (y 1).val := by
    show win0_4.index t 1 * 5632 + 1 * (y 1).val = _
    rw [idx4]
    show 0 * 5632 + 1 * (y 1).val = _
    omega
  funext i
  refine Fin.ext ?_
  fin_cases i
  · exact h0
  · exact h1

theorem idx5 : ∀ t : Fin cfg0.N, win0_5.index t = ![0, 0] := by decide +kernel
theorem emb5 (t : Fin cfg0.N) (y : S1792x2048.Idx) : (((cfg0.win 5).blk t).view.emb y : S1792x2048.Idx) = y := by
  have h0 : ((((cfg0.win 5).blk t).view.emb y : S1792x2048.Idx) 0).val = (y 0).val := by
    show win0_5.index t 0 * 1792 + 1 * (y 0).val = _
    rw [idx5]
    show 0 * 1792 + 1 * (y 0).val = _
    omega
  have h1 : ((((cfg0.win 5).blk t).view.emb y : S1792x2048.Idx) 1).val = (y 1).val := by
    show win0_5.index t 1 * 2048 + 1 * (y 1).val = _
    rw [idx5]
    show 0 * 2048 + 1 * (y 1).val = _
    omega
  funext i
  refine Fin.ext ?_
  fin_cases i
  · exact h0
  · exact h1

theorem idx6 : ∀ t : Fin cfg0.N, win0_6.index t = ![0, 0] := by decide +kernel
theorem emb6 (t : Fin cfg0.N) (y : S2048x5632.Idx) : (((cfg0.win 6).blk t).view.emb y : S2048x5632.Idx) = y := by
  have h0 : ((((cfg0.win 6).blk t).view.emb y : S2048x5632.Idx) 0).val = (y 0).val := by
    show win0_6.index t 0 * 2048 + 1 * (y 0).val = _
    rw [idx6]
    show 0 * 2048 + 1 * (y 0).val = _
    omega
  have h1 : ((((cfg0.win 6).blk t).view.emb y : S2048x5632.Idx) 1).val = (y 1).val := by
    show win0_6.index t 1 * 5632 + 1 * (y 1).val = _
    rw [idx6]
    show 0 * 5632 + 1 * (y 1).val = _
    omega
  funext i
  refine Fin.ext ?_
  fin_cases i
  · exact h0
  · exact h1

theorem idx7 : ∀ t : Fin cfg0.N, win0_7.index t = ![0, 0] := by decide +kernel
theorem emb7 (t : Fin cfg0.N) (y : S1x2048.Idx) : (((cfg0.win 7).blk t).view.emb y : S1x2048.Idx) = y := by
  have h0 : ((((cfg0.win 7).blk t).view.emb y : S1x2048.Idx) 0).val = (y 0).val := by
    show win0_7.index t 0 * 1 + 1 * (y 0).val = _
    rw [idx7]
    show 0 * 1 + 1 * (y 0).val = _
    omega
  have h1 : ((((cfg0.win 7).blk t).view.emb y : S1x2048.Idx) 1).val = (y 1).val := by
    show win0_7.index t 1 * 2048 + 1 * (y 1).val = _
    rw [idx7]
    show 0 * 2048 + 1 * (y 1).val = _
    omega
  funext i
  refine Fin.ext ?_
  fin_cases i
  · exact h0
  · exact h1

theorem idx8 : ∀ t : Fin cfg0.N, win0_8.index t = ![0, 0] := by decide +kernel
theorem emb8 (t : Fin cfg0.N) (y : S1792x2048.Idx) : (((cfg0.win 8).blk t).view.emb y : S1792x2048.Idx) = y := by
  have h0 : ((((cfg0.win 8).blk t).view.emb y : S1792x2048.Idx) 0).val = (y 0).val := by
    show win0_8.index t 0 * 1792 + 1 * (y 0).val = _
    rw [idx8]
    show 0 * 1792 + 1 * (y 0).val = _
    omega
  have h1 : ((((cfg0.win 8).blk t).view.emb y : S1792x2048.Idx) 1).val = (y 1).val := by
    show win0_8.index t 1 * 2048 + 1 * (y 1).val = _
    rw [idx8]
    show 0 * 2048 + 1 * (y 1).val = _
    omega
  funext i
  refine Fin.ext ?_
  fin_cases i
  · exact h0
  · exact h1

theorem idx9 : ∀ t : Fin cfg0.N, win0_9.index t = ![0, 0] := by decide +kernel
theorem emb9 (t : Fin cfg0.N) (y : S14x2048.Idx) : (((cfg0.win 9).blk t).view.emb y : S14x2048.Idx) = y := by
  have h0 : ((((cfg0.win 9).blk t).view.emb y : S14x2048.Idx) 0).val = (y 0).val := by
    show win0_9.index t 0 * 14 + 1 * (y 0).val = _
    rw [idx9]
    show 0 * 14 + 1 * (y 0).val = _
    omega
  have h1 : ((((cfg0.win 9).blk t).view.emb y : S14x2048.Idx) 1).val = (y 1).val := by
    show win0_9.index t 1 * 2048 + 1 * (y 1).val = _
    rw [idx9]
    show 0 * 2048 + 1 * (y 1).val = _
    omega
  funext i
  refine Fin.ext ?_
  fin_cases i
  · exact h0
  · exact h1

theorem idx10 : ∀ t : Fin cfg0.N, win0_10.index t = ![0, 0] := by decide +kernel
theorem emb10 (t : Fin cfg0.N) (y : S1792x5632.Idx) : (((cfg0.win 10).blk t).view.emb y : S1792x5632.Idx) = y := by
  have h0 : ((((cfg0.win 10).blk t).view.emb y : S1792x5632.Idx) 0).val = (y 0).val := by
    show win0_10.index t 0 * 1792 + 1 * (y 0).val = _
    rw [idx10]
    show 0 * 1792 + 1 * (y 0).val = _
    omega
  have h1 : ((((cfg0.win 10).blk t).view.emb y : S1792x5632.Idx) 1).val = (y 1).val := by
    show win0_10.index t 1 * 5632 + 1 * (y 1).val = _
    rw [idx10]
    show 0 * 5632 + 1 * (y 1).val = _
    omega
  funext i
  refine Fin.ext ?_
  fin_cases i
  · exact h0
  · exact h1

theorem idx11 : ∀ t : Fin cfg0.N, win0_11.index t = ![0, 0] := by decide +kernel
theorem emb11 (t : Fin cfg0.N) (y : S1792x44.Idx) : (((cfg0.win 11).blk t).view.emb y : S1792x44.Idx) = y := by
  have h0 : ((((cfg0.win 11).blk t).view.emb y : S1792x44.Idx) 0).val = (y 0).val := by
    show win0_11.index t 0 * 1792 + 1 * (y 0).val = _
    rw [idx11]
    show 0 * 1792 + 1 * (y 0).val = _
    omega
  have h1 : ((((cfg0.win 11).blk t).view.emb y : S1792x44.Idx) 1).val = (y 1).val := by
    show win0_11.index t 1 * 44 + 1 * (y 1).val = _
    rw [idx11]
    show 0 * 44 + 1 * (y 1).val = _
    omega
  funext i
  refine Fin.ext ?_
  fin_cases i
  · exact h0
  · exact h1

theorem idx12 : ∀ t : Fin cfg0.N, win0_12.index t = ![0, 0] := by decide +kernel
theorem emb12 (t : Fin cfg0.N) (y : S1792x5632.Idx) : (((cfg0.win 12).blk t).view.emb y : S1792x5632.Idx) = y := by
  have h0 : ((((cfg0.win 12).blk t).view.emb y : S1792x5632.Idx) 0).val = (y 0).val := by
    show win0_12.index t 0 * 1792 + 1 * (y 0).val = _
    rw [idx12]
    show 0 * 1792 + 1 * (y 0).val = _
    omega
  have h1 : ((((cfg0.win 12).blk t).view.emb y : S1792x5632.Idx) 1).val = (y 1).val := by
    show win0_12.index t 1 * 5632 + 1 * (y 1).val = _
    rw [idx12]
    show 0 * 5632 + 1 * (y 1).val = _
    omega
  funext i
  refine Fin.ext ?_
  fin_cases i
  · exact h0
  · exact h1

theorem idx13 : ∀ t : Fin cfg0.N, win0_13.index t = ![0, 0] := by decide +kernel
theorem emb13 (t : Fin cfg0.N) (y : S14x5632.Idx) : (((cfg0.win 13).blk t).view.emb y : S14x5632.Idx) = y := by
  have h0 : ((((cfg0.win 13).blk t).view.emb y : S14x5632.Idx) 0).val = (y 0).val := by
    show win0_13.index t 0 * 14 + 1 * (y 0).val = _
    rw [idx13]
    show 0 * 14 + 1 * (y 0).val = _
    omega
  have h1 : ((((cfg0.win 13).blk t).view.emb y : S14x5632.Idx) 1).val = (y 1).val := by
    show win0_13.index t 1 * 5632 + 1 * (y 1).val = _
    rw [idx13]
    show 0 * 5632 + 1 * (y 1).val = _
    omega
  funext i
  refine Fin.ext ?_
  fin_cases i
  · exact h0
  · exact h1

theorem zz : ∀ a : Fin 2, (![0, 0] : Fin 2 → ℕ) a = 0 := by decide

section
variable {x0 : Vec Ideal S1792x2048 .bf16} {x1 : Vec Ideal S1x2048 .f32} {x2 : Vec Ideal S2048x5632 .fp8e4m3} {x3 : Vec Ideal S16x44 .f32} {x4 : Vec Ideal S1792x5632 .bf16}
variable {A WA SA Dd : Arr} {g : ℕ → EReal} (hx : Is2 x0 A) (hg : Is2 x1 (fun _ k => g k)) (hw : Is2 x2 WA) (hs : Is2 x3 SA) (hd : Is2 x4 Dd)

theorem ld0 : View.ld x0 r0_0 = x0 := View.ld_unit_lit _ _ zz
theorem ld1 : View.ld x1 r0_1 = x1 := View.ld_unit_lit _ _ zz
theorem ld2 : View.ld x2 r0_2 = x2 := View.ld_unit_lit _ _ zz
theorem ld3 : View.ld x3 r0_3 = x3 := View.ld_unit_lit _ _ zz
theorem ld4 : View.ld x4 r0_4 = x4 := View.ld_unit_lit _ _ zz

include hd in
theorem hd3 : Is2 (k0_pay3 x4) Dd := by
  intro y
  refine Eq.trans ?_ (hd y)
  pointwise [k0_pay3]
include hd in
theorem hd13 : Is2 (k0_pay13 (k0_pay3 x4)) Dd := by
  intro y
  refine Eq.trans ?_ (hd y)
  pointwise [k0_pay13, k0_pay3]

include hx hg hw hs hd in
theorem body5 : Is2 (out0_5 x0 x1 x2 x3 x4) (DX A g (DXN (RD rsc rinv Dd) (WD WA SA) 5632)) := by
  unfold_out out0_5
  rw [View.canon_cons_unit_lit _ _ _ zz]
  simp only [ld0, ld1, ld2, ld3, ld4]
  exact o5 hx (o40 (hd3 hd) hw hs) hg

include hx hg hd in
theorem body6 : Is2 (out0_6 x0 x1 x2 x3 x4) (DW (XD rsc rinv (XN A g)) (CD rsc rinv Dd)) := by
  unfold_out out0_6
  rw [View.canon_cons_unit_lit _ _ _ zz]
  simp only [ld0, ld1, ld2, ld3, ld4]
  exact o6 (hd13 hd) hx hg

include hx hw hs hd in
theorem body7 : Is2 (out0_7 x0 x1 x2 x3 x4) (fun _ k => DG A (DXN (RD rsc rinv Dd) (WD WA SA) 5632) 1792 k) := by
  unfold_out out0_7
  rw [View.canon_cons_unit_lit _ _ _ zz]
  simp only [ld0, ld1, ld2, ld3, ld4]
  exact o7 hx (o40 (hd3 hd) hw hs)

include hx hg in
theorem body8 : Is2 (out0_8 x0 x1 x2 x3 x4) (XC rinv (XN A g)) := by
  unfold_out out0_8
  rw [View.canon_cons_unit_lit _ _ _ zz]
  simp only [ld0, ld1, ld2, ld3, ld4]
  exact o8 hx hg

include hx hg in
theorem body9 : Is2 (out0_9 x0 x1 x2 x3 x4) (XS rsc (XN A g)) := by
  unfold_out out0_9
  rw [View.canon_cons_unit_lit _ _ _ zz]
  simp only [ld0, ld1, ld2, ld3, ld4]
  exact x11 hx hg

include hd in
theorem body10 : Is2 (out0_10 x0 x1 x2 x3 x4) (RC rinv Dd) := by
  unfold_out out0_10
  rw [View.canon_cons_unit_lit _ _ _ zz]
  simp only [ld0, ld1, ld2, ld3, ld4]
  exact o10 (hd3 hd)

include hd in
theorem body11 : Is2 (out0_11 x0 x1 x2 x3 x4) (RS rsc Dd) := by
  unfold_out out0_11
  rw [View.canon_cons_unit_lit _ _ _ zz]
  simp only [ld0, ld1, ld2, ld3, ld4]
  exact d15 (hd3 hd)

include hd in
theorem body12 : Is2 (out0_12 x0 x1 x2 x3 x4) (CC rinv Dd) := by
  unfold_out out0_12
  rw [View.canon_cons_unit_lit _ _ _ zz]
  simp only [ld0, ld1, ld2, ld3, ld4]
  exact o12 (hd13 hd)

include hd in
theorem body13 : Is2 (out0_13 x0 x1 x2 x3 x4) (CS rsc Dd) := by
  unfold_out out0_13
  rw [View.canon_cons_unit_lit _ _ _ zz]
  simp only [ld0, ld1, ld2, ld3, ld4]
  exact d19 (hd13 hd)

end

variable (m : (ℓ : Loc nD τ sig) → Buf (Elt Ideal) ℓ) (c : Dev nD)
variable {A WA SA Dd : Arr} {g : ℕ → EReal}

section
variable (hx : Is2 (a := 1792) (b := 2048) (V m c main_v0) A) (hg : Is2 (a := 1) (b := 2048) (V m c main_v1) (fun _ k => g k)) (hw : Is2 (a := 2048) (b := 5632) (V m c main_arg2) WA)
  (hs : Is2 (a := 16) (b := 44) (V m c main_arg3) SA) (hd : Is2 (a := 1792) (b := 5632) (V m c main_v2) Dd)

include hx in
theorem blk0 (t : Fin cfg0.N) : Is2 (a := 1792) (b := 2048) (iblk m c 0 t) A := by
  intro y
  refine Eq.trans (show _ = V m c main_v0 (((cfg0.win 0).blk t).view.emb y : S1792x2048.Idx) from rfl) ?_
  rw [emb0 t y]
  exact hx y

include hg in
theorem blk1 (t : Fin cfg0.N) : Is2 (a := 1) (b := 2048) (iblk m c 1 t) (fun _ k => g k) := by
  intro y
  refine Eq.trans (show _ = V m c main_v1 (((cfg0.win 1).blk t).view.emb y : S1x2048.Idx) from rfl) ?_
  rw [emb1 t y]
  exact hg y

include hw in
theorem blk2 (t : Fin cfg0.N) : Is2 (a := 2048) (b := 5632) (iblk m c 2 t) WA := by
  intro y
  refine Eq.trans (show _ = V m c main_arg2 (((cfg0.win 2).blk t).view.emb y : S2048x5632.Idx) from rfl) ?_
  rw [emb2 t y]
  exact hw y

include hs in
theorem blk3 (t : Fin cfg0.N) : Is2 (a := 16) (b := 44) (iblk m c 3 t) SA := by
  intro y
  refine Eq.trans (show _ = V m c main_arg3 (((cfg0.win 3).blk t).view.emb y : S16x44.Idx) from rfl) ?_
  rw [emb3 t y]
  exact hs y

include hd in
theorem blk4 (t : Fin cfg0.N) : Is2 (a := 1792) (b := 5632) (iblk m c 4 t) Dd := by
  intro y
  refine Eq.trans (show _ = V m c main_v2 (((cfg0.win 4).blk t).view.emb y : S1792x5632.Idx) from rfl) ?_
  rw [emb4 t y]
  exact hd y

theorem flush5 : ∀ t : Fin cfg0.N, (cfg0.win 5).flush t = true := by decide +kernel
theorem pin5 (t : Fin cfg0.N) (G : Vec Ideal S1792x2048 .bf16) (X : Vec Ideal S1792x2048 .bf16)
    (h : ((cfg0.win 5).blk t).view.read (Elt Ideal) G = (cfg0.win 5).cut (grid0.coords t) X) (y : S1792x2048.Idx) : G y = X y := by
  have b := congrFun h y
  have l : G (((cfg0.win 5).blk t).view.emb y : S1792x2048.Idx) = X y := b
  rw [emb5 _ y] at l
  exact l
include hx hg hw hs hd in
theorem arr5 : Is2 (a := 1792) (b := 2048) ((dats m 0 c).arrAt 5 cfg0.N) (DX A g (DXN (RD rsc rinv Dd) (WD WA SA) 5632)) := by
  intro y
  obtain ⟨t⟩ : Nonempty (Fin cfg0.N) := ⟨⟨0, by decide⟩⟩
  refine (pin5 t _ _ ((Cert.ReferenceIdeal.Value.blocks5 m c t (flush5 t)).trans (Cert.ReferenceIdeal.Value.flushed5 m c t)) y).trans ?_
  exact body5 (blk0 m c hx _) (blk1 m c hg _) (blk2 m c hw _) (blk3 m c hs _) (blk4 m c hd _) y

theorem flush6 : ∀ t : Fin cfg0.N, (cfg0.win 6).flush t = true := by decide +kernel
theorem pin6 (t : Fin cfg0.N) (G : Vec Ideal S2048x5632 .f32) (X : Vec Ideal S2048x5632 .f32)
    (h : ((cfg0.win 6).blk t).view.read (Elt Ideal) G = (cfg0.win 6).cut (grid0.coords t) X) (y : S2048x5632.Idx) : G y = X y := by
  have b := congrFun h y
  have l : G (((cfg0.win 6).blk t).view.emb y : S2048x5632.Idx) = X y := b
  rw [emb6 _ y] at l
  exact l
include hx hg hd in
theorem arr6 : Is2 (a := 2048) (b := 5632) ((dats m 0 c).arrAt 6 cfg0.N) (DW (XD rsc rinv (XN A g)) (CD rsc rinv Dd)) := by
  intro y
  obtain ⟨t⟩ : Nonempty (Fin cfg0.N) := ⟨⟨0, by decide⟩⟩
  refine (pin6 t _ _ ((Cert.ReferenceIdeal.Value.blocks6 m c t (flush6 t)).trans (Cert.ReferenceIdeal.Value.flushed6 m c t)) y).trans ?_
  exact body6 (blk0 m c hx _) (blk1 m c hg _) (blk4 m c hd _) y

theorem flush7 : ∀ t : Fin cfg0.N, (cfg0.win 7).flush t = true := by decide +kernel
theorem pin7 (t : Fin cfg0.N) (G : Vec Ideal S1x2048 .f32) (X : Vec Ideal S1x2048 .f32)
    (h : ((cfg0.win 7).blk t).view.read (Elt Ideal) G = (cfg0.win 7).cut (grid0.coords t) X) (y : S1x2048.Idx) : G y = X y := by
  have b := congrFun h y
  have l : G (((cfg0.win 7).blk t).view.emb y : S1x2048.Idx) = X y := b
  rw [emb7 _ y] at l
  exact l
include hx hw hs hd in
theorem arr7 : Is2 (a := 1) (b := 2048) ((dats m 0 c).arrAt 7 cfg0.N) (fun _ k => DG A (DXN (RD rsc rinv Dd) (WD WA SA) 5632) 1792 k) := by
  intro y
  obtain ⟨t⟩ : Nonempty (Fin cfg0.N) := ⟨⟨0, by decide⟩⟩
  refine (pin7 t _ _ ((Cert.ReferenceIdeal.Value.blocks7 m c t (flush7 t)).trans (Cert.ReferenceIdeal.Value.flushed7 m c t)) y).trans ?_
  exact body7 (blk0 m c hx _) (blk2 m c hw _) (blk3 m c hs _) (blk4 m c hd _) y

theorem flush8 : ∀ t : Fin cfg0.N, (cfg0.win 8).flush t = true := by decide +kernel
theorem pin8 (t : Fin cfg0.N) (G : Vec Ideal S1792x2048 .fp8e4m3) (X : Vec Ideal S1792x2048 .fp8e4m3)
    (h : ((cfg0.win 8).blk t).view.read (Elt Ideal) G = (cfg0.win 8).cut (grid0.coords t) X) (y : S1792x2048.Idx) : G y = X y := by
  have b := congrFun h y
  have l : G (((cfg0.win 8).blk t).view.emb y : S1792x2048.Idx) = X y := b
  rw [emb8 _ y] at l
  exact l
include hx hg in
theorem arr8 : Is2 (a := 1792) (b := 2048) ((dats m 0 c).arrAt 8 cfg0.N) (XC rinv (XN A g)) := by
  intro y
  obtain ⟨t⟩ : Nonempty (Fin cfg0.N) := ⟨⟨0, by decide⟩⟩
  refine (pin8 t _ _ ((Cert.ReferenceIdeal.Value.blocks8 m c t (flush8 t)).trans (Cert.ReferenceIdeal.Value.flushed8 m c t)) y).trans ?_
  exact body8 (blk0 m c hx _) (blk1 m c hg _) y

theorem flush9 : ∀ t : Fin cfg0.N, (cfg0.win 9).flush t = true := by decide +kernel
theorem pin9 (t : Fin cfg0.N) (G : Vec Ideal S14x2048 .f32) (X : Vec Ideal S14x2048 .f32)
    (h : ((cfg0.win 9).blk t).view.read (Elt Ideal) G = (cfg0.win 9).cut (grid0.coords t) X) (y : S14x2048.Idx) : G y = X y := by
  have b := congrFun h y
  have l : G (((cfg0.win 9).blk t).view.emb y : S14x2048.Idx) = X y := b
  rw [emb9 _ y] at l
  exact l
include hx hg in
theorem arr9 : Is2 (a := 14) (b := 2048) ((dats m 0 c).arrAt 9 cfg0.N) (XS rsc (XN A g)) := by
  intro y
  obtain ⟨t⟩ : Nonempty (Fin cfg0.N) := ⟨⟨0, by decide⟩⟩
  refine (pin9 t _ _ ((Cert.ReferenceIdeal.Value.blocks9 m c t (flush9 t)).trans (Cert.ReferenceIdeal.Value.flushed9 m c t)) y).trans ?_
  exact body9 (blk0 m c hx _) (blk1 m c hg _) y

theorem flush10 : ∀ t : Fin cfg0.N, (cfg0.win 10).flush t = true := by decide +kernel
theorem pin10 (t : Fin cfg0.N) (G : Vec Ideal S1792x5632 .fp8e5m2) (X : Vec Ideal S1792x5632 .fp8e5m2)
    (h : ((cfg0.win 10).blk t).view.read (Elt Ideal) G = (cfg0.win 10).cut (grid0.coords t) X) (y : S1792x5632.Idx) : G y = X y := by
  have b := congrFun h y
  have l : G (((cfg0.win 10).blk t).view.emb y : S1792x5632.Idx) = X y := b
  rw [emb10 _ y] at l
  exact l
include hd in
theorem arr10 : Is2 (a := 1792) (b := 5632) ((dats m 0 c).arrAt 10 cfg0.N) (RC rinv Dd) := by
  intro y
  obtain ⟨t⟩ : Nonempty (Fin cfg0.N) := ⟨⟨0, by decide⟩⟩
  refine (pin10 t _ _ ((Cert.ReferenceIdeal.Value.blocks10 m c t (flush10 t)).trans (Cert.ReferenceIdeal.Value.flushed10 m c t)) y).trans ?_
  exact body10 (blk4 m c hd _) y

theorem flush11 : ∀ t : Fin cfg0.N, (cfg0.win 11).flush t = true := by decide +kernel
theorem pin11 (t : Fin cfg0.N) (G : Vec Ideal S1792x44 .f32) (X : Vec Ideal S1792x44 .f32)
    (h : ((cfg0.win 11).blk t).view.read (Elt Ideal) G = (cfg0.win 11).cut (grid0.coords t) X) (y : S1792x44.Idx) : G y = X y := by
  have b := congrFun h y
  have l : G (((cfg0.win 11).blk t).view.emb y : S1792x44.Idx) = X y := b
  rw [emb11 _ y] at l
  exact l
include hd in
theorem arr11 : Is2 (a := 1792) (b := 44) ((dats m 0 c).arrAt 11 cfg0.N) (RS rsc Dd) := by
  intro y
  obtain ⟨t⟩ : Nonempty (Fin cfg0.N) := ⟨⟨0, by decide⟩⟩
  refine (pin11 t _ _ ((Cert.ReferenceIdeal.Value.blocks11 m c t (flush11 t)).trans (Cert.ReferenceIdeal.Value.flushed11 m c t)) y).trans ?_
  exact body11 (blk4 m c hd _) y

theorem flush12 : ∀ t : Fin cfg0.N, (cfg0.win 12).flush t = true := by decide +kernel
theorem pin12 (t : Fin cfg0.N) (G : Vec Ideal S1792x5632 .fp8e5m2) (X : Vec Ideal S1792x5632 .fp8e5m2)
    (h : ((cfg0.win 12).blk t).view.read (Elt Ideal) G = (cfg0.win 12).cut (grid0.coords t) X) (y : S1792x5632.Idx) : G y = X y := by
  have b := congrFun h y
  have l : G (((cfg0.win 12).blk t).view.emb y : S1792x5632.Idx) = X y := b
  rw [emb12 _ y] at l
  exact l
include hd in
theorem arr12 : Is2 (a := 1792) (b := 5632) ((dats m 0 c).arrAt 12 cfg0.N) (CC rinv Dd) := by
  intro y
  obtain ⟨t⟩ : Nonempty (Fin cfg0.N) := ⟨⟨0, by decide⟩⟩
  refine (pin12 t _ _ ((Cert.ReferenceIdeal.Value.blocks12 m c t (flush12 t)).trans (Cert.ReferenceIdeal.Value.flushed12 m c t)) y).trans ?_
  exact body12 (blk4 m c hd _) y

theorem flush13 : ∀ t : Fin cfg0.N, (cfg0.win 13).flush t = true := by decide +kernel
theorem pin13 (t : Fin cfg0.N) (G : Vec Ideal S14x5632 .f32) (X : Vec Ideal S14x5632 .f32)
    (h : ((cfg0.win 13).blk t).view.read (Elt Ideal) G = (cfg0.win 13).cut (grid0.coords t) X) (y : S14x5632.Idx) : G y = X y := by
  have b := congrFun h y
  have l : G (((cfg0.win 13).blk t).view.emb y : S14x5632.Idx) = X y := b
  rw [emb13 _ y] at l
  exact l
include hd in
theorem arr13 : Is2 (a := 14) (b := 5632) ((dats m 0 c).arrAt 13 cfg0.N) (CS rsc Dd) := by
  intro y
  obtain ⟨t⟩ : Nonempty (Fin cfg0.N) := ⟨⟨0, by decide⟩⟩
  refine (pin13 t _ _ ((Cert.ReferenceIdeal.Value.blocks13 m c t (flush13 t)).trans (Cert.ReferenceIdeal.Value.flushed13 m c t)) y).trans ?_
  exact body13 (blk4 m c hd _) y

end

end Cert.ReferenceIdeal.Hand
end
-- ==== Proof.Scale.lean ====
module

public import proofs.«01_k».proof.Proof.Spec
public import Idealize.ShloMosaic.Lib.Tactic

@[expose] public section

noncomputable section

namespace Cert.Spec

open Idealize.ShloMosaic

/-! The two ways to a power of two: counting the powers at most a quotient, and the least power above it. -/

theorem pw_eq (k : ℕ) (h : k < 253) : pw k = (((2 : ℝ) ^ ((k : ℤ) - 125) : ℝ) : EReal) := by
  have e : (IntOp.subi (BitVec.ofNat 32 k) 125#32).toInt = (k : ℤ) - 125 := by
    have := (by decide +kernel : ∀ k : Fin 253, (IntOp.subi (BitVec.ofNat 32 k.val) 125#32).toInt = (k.val : ℤ) - 125) ⟨k, h⟩
    exact this
  show Ideal.exp2 (((IntOp.subi (BitVec.ofNat 32 k) 125#32).toInt : ℝ) : EReal) = _
  rw [e, Ideal.exp2_coe]
  exact congrArg _ (Real.rpow_intCast 2 _)

theorem bits_inf : Ideal.ofBits .f32 2139095040#32 = (⊤ : EReal) := by
  simp [Ideal.ofBits, Ideal.ieee]
theorem bits_zero : Ideal.ofBits .f32 0#32 = (0 : EReal) := by
  simp [Ideal.ofBits, Ideal.ieee]
theorem bits_one : Ideal.ofBits .f32 1065353216#32 = (1 : EReal) := by
  simp [Ideal.ofBits, Ideal.ieee, -EReal.coe_mul]; norm_num

theorem ieee_of (b : BitVec 32) (k : ℕ) (h0 : 0 < k) (h : k < 255) (d1 : (b.extractLsb' (8 + 23) 1 == 1#1) = false)
    (d2 : (b.extractLsb' 23 8).toNat = k) (d3 : (b.extractLsb' 0 23).toNat = 0) :
    Ideal.ieee 8 23 b = (((2 : ℝ) ^ ((k : ℤ) - 127) : ℝ) : EReal) := by
  unfold Ideal.ieee
  simp only [d1, d2, d3]
  rw [if_neg (by norm_num; omega), if_neg (by omega)]
  refine congrArg _ ?_
  norm_num
  rw [show ((8388608 : ℝ)) = (2 : ℝ) ^ (23 : ℤ) by norm_num, ← zpow_add₀ (by norm_num)]
  congr 1; ring

/-- The pattern that has exponent field `k` and nothing else. -/
theorem bits_pow (k : ℕ) (h0 : 0 < k) (h : k < 255) :
    Ideal.ofBits .f32 (IntOp.shli ArithUnit.vector (BitVec.ofNat 32 k) 23#32) = (((2 : ℝ) ^ ((k : ℤ) - 127) : ℝ) : EReal) := by
  have d := (by decide +kernel : ∀ k : Fin 255,
    ((IntOp.shli ArithUnit.vector (BitVec.ofNat 32 k.val) 23#32).extractLsb' (8 + 23) 1 == 1#1) = false
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0) ⟨k, h⟩
  exact ieee_of _ k h0 h d.1 d.2.1 d.2.2

/-- The number of thresholds up to the `n`-th. -/
theorem count_eq (n : ℕ) (h : n < 256) :
    Finset.fold IntOp.addi 0#32 (fun x : Fin 256 => if n < x.val then 0#32 else 1#32) Finset.univ = BitVec.ofNat 32 (n + 1) :=
  (by decide +kernel : ∀ n : Fin 256,
    Finset.fold IntOp.addi 0#32 (fun x : Fin 256 => if n.val < x.val then 0#32 else 1#32) Finset.univ = BitVec.ofNat 32 (n.val + 1)) ⟨n, h⟩

theorem zle {a b : ℤ} (h : a ≤ b) : (((2 : ℝ) ^ a : ℝ) : EReal) ≤ (((2 : ℝ) ^ b : ℝ) : EReal) :=
  EReal.coe_le_coe_iff.2 (zpow_le_zpow_right₀ (by norm_num) h)

/-- `N` is the exponent field of `y`. -/
structure Field (y : EReal) (N : ℕ) : Prop where
  pos : 0 ≤ y
  lo : N = 0 ∨ (((2 : ℝ) ^ ((N : ℤ) - 127) : ℝ) : EReal) ≤ y
  hi : y < (((2 : ℝ) ^ ((N : ℤ) - 126) : ℝ) : EReal)
  le : N ≤ 252

theorem Field.thr {y : EReal} {N : ℕ} (f : Field y N) (x : ℕ) (hx : x < 256) :
    y < Ideal.ofBits .f32 (IntOp.shli ArithUnit.vector (BitVec.ofNat 32 x) 23#32) ↔ N < x := by
  have := f.le
  rcases Nat.eq_zero_or_pos x with rfl | h0
  · rw [show IntOp.shli ArithUnit.vector (BitVec.ofNat 32 0) 23#32 = 0#32 by decide +kernel, bits_zero]
    constructor
    · intro h; exact absurd h (not_lt.2 f.pos)
    · intro h; omega
  · rcases Nat.lt_or_ge x 255 with h1 | h1
    · rw [bits_pow x h0 h1]
      constructor
      · intro h
        by_contra hn
        rcases f.lo with e | e
        · omega
        · exact absurd (lt_of_le_of_lt ((zle (by omega)).trans e) h) (lt_irrefl _)
      · intro h
        exact lt_of_lt_of_le f.hi (zle (by omega))
    · obtain rfl : x = 255 := by omega
      rw [show IntOp.shli ArithUnit.vector (BitVec.ofNat 32 255) 23#32 = 2139095040#32 by decide +kernel, bits_inf]
      constructor
      · intro _; omega
      · intro _; exact lt_of_lt_of_le f.hi le_top

theorem Field.bias {y : EReal} {N : ℕ} (f : Field y N) : bias y = BitVec.ofNat 32 (if N = 0 then 126 else N) := by
  have := f.le
  have e : (fun x : Fin 256 => if y < Ideal.ofBits .f32 (IntOp.shli ArithUnit.vector (BitVec.ofNat 32 x.val) 23#32) then 0#32 else 1#32)
      = fun x : Fin 256 => if N < x.val then 0#32 else 1#32 := by
    funext x
    by_cases h : N < x.val
    · rw [if_pos h, if_pos ((f.thr x.val x.isLt).2 h)]
    · rw [if_neg h, if_neg (fun c => h ((f.thr x.val x.isLt).1 c))]
  unfold Spec.bias
  rw [e, count_eq N (by omega)]
  exact (by decide +kernel : ∀ N : Fin 253, (let b := IntOp.subi (BitVec.ofNat 32 (N.val + 1)) 1#32
    Scalar.select (IntOp.cmpi .eq b 0#32) 126#32 b) = BitVec.ofNat 32 (if N.val = 0 then 126 else N.val)) ⟨N, by omega⟩

theorem Field.ksc {y : EReal} {N : ℕ} (f : Field y N) : ksc y = (((2 : ℝ) ^ ((if N = 0 then 0 else (N : ℤ) - 126)) : ℝ) : EReal) := by
  have := f.le
  unfold Spec.ksc
  rw [f.bias]
  split
  · rw [show IntOp.addi (BitVec.ofNat 32 126) 1#32 = BitVec.ofNat 32 127 by decide +kernel, bits_pow 127 (by omega) (by omega)]
    norm_num
  · rw [show IntOp.addi (BitVec.ofNat 32 N) 1#32 = BitVec.ofNat 32 (N + 1) from
      (by decide +kernel : ∀ N : Fin 253, IntOp.addi (BitVec.ofNat 32 N.val) 1#32 = BitVec.ofNat 32 (N.val + 1)) ⟨N, by omega⟩,
      bits_pow (N + 1) (by omega) (by omega)]
    refine congrArg (fun z : ℤ => (((2 : ℝ) ^ z : ℝ) : EReal)) ?_; push_cast; ring

theorem Field.kinv {y : EReal} {N : ℕ} (f : Field y N) : kinv y = (((2 : ℝ) ^ (-(if N = 0 then 0 else (N : ℤ) - 126)) : ℝ) : EReal) := by
  have := f.le
  unfold Spec.kinv
  rw [f.bias]
  split
  · rw [show IntOp.subi 253#32 (BitVec.ofNat 32 126) = BitVec.ofNat 32 127 by decide +kernel, bits_pow 127 (by omega) (by omega)]
    norm_num
  · rw [show IntOp.subi 253#32 (BitVec.ofNat 32 N) = BitVec.ofNat 32 (253 - N) from
      (by decide +kernel : ∀ N : Fin 253, IntOp.subi 253#32 (BitVec.ofNat 32 N.val) = BitVec.ofNat 32 (253 - N.val)) ⟨N, by omega⟩,
      bits_pow (253 - N) (by omega) (by omega)]
    refine congrArg (fun z : ℤ => (((2 : ℝ) ^ z : ℝ) : EReal)) ?_; omega

theorem Field.rsc {y : EReal} {N : ℕ} (f : Field y N) : rsc y = (((2 : ℝ) ^ ((if N = 0 then 0 else (N : ℤ) - 126)) : ℝ) : EReal) := by
  have := f.le
  have e1 : Ideal.ofBits .f32 8388608#32 = (((2 : ℝ) ^ (-126 : ℤ) : ℝ) : EReal) := by
    rw [show (8388608#32 : BitVec 32) = IntOp.shli ArithUnit.vector (BitVec.ofNat 32 1) 23#32 by decide +kernel, bits_pow 1 (by omega) (by omega)]
    norm_num
  unfold Spec.rsc
  rw [e1, bits_one]
  split
  next h =>
    have : N = 0 := by
      rcases f.lo with e | e
      · exact e
      · by_contra hn
        exact absurd (lt_of_le_of_lt ((zle (by omega)).trans e) h) (lt_irrefl _)
    rw [if_pos this]; norm_num
  next h =>
    have hN : N ≠ 0 := fun e => h (by have := f.hi; rw [e] at this; simpa using this)
    rw [if_neg hN]
    unfold least
    rw [bits_inf]
    apply le_antisymm
    · refine (Finset.fold_min_le _).2 (.inr ⟨⟨N - 1, by omega⟩, Finset.mem_univ _, ?_⟩)
      have e : pw (N - 1) = (((2 : ℝ) ^ ((N : ℤ) - 126) : ℝ) : EReal) := by
        rw [pw_eq (N - 1) (by omega)]; congr 2; omega
      simp only [e]
      rw [if_pos f.hi]
    · refine (Finset.le_fold_min _).2 ⟨le_top, fun k _ => ?_⟩
      rw [pw_eq k.val k.isLt]
      split
      next hk =>
        apply zle
        rcases f.lo with e | e
        · exact absurd e hN
        · by_contra hc
          exact absurd (lt_of_le_of_lt ((zle (by omega)).trans e) hk) (lt_irrefl _)
      next => exact le_top

theorem field_exists {y : EReal} (h0 : 0 ≤ y) (h : y < (((2 : ℝ) ^ (126 : ℤ) : ℝ) : EReal)) : ∃ N, Field y N := by
  by_cases hs : y < (((2 : ℝ) ^ (-126 : ℤ) : ℝ) : EReal)
  · exact ⟨0, h0, .inl rfl, by simpa using hs, by omega⟩
  · rw [not_lt] at hs
    obtain ⟨r, rfl⟩ : ∃ r : ℝ, y = (r : EReal) := ⟨y.toReal, (EReal.coe_toReal (ne_top_of_lt h) (fun e => by rw [e] at h0; exact absurd h0 (by simp))).symm⟩
    have hs' := EReal.coe_le_coe_iff.1 hs
    have h' := EReal.coe_lt_coe_iff.1 h
    have hp : 0 < r := lt_of_lt_of_le (by positivity) hs'
    obtain ⟨n, hn1, hn2⟩ := exists_mem_Ico_zpow hp (show (1 : ℝ) < 2 by norm_num)
    have a1 : n < 126 := (zpow_lt_zpow_iff_right₀ (show (1 : ℝ) < 2 by norm_num)).1 (lt_of_le_of_lt hn1 h')
    have a2 : -126 < n + 1 := (zpow_lt_zpow_iff_right₀ (show (1 : ℝ) < 2 by norm_num)).1 (lt_of_le_of_lt hs' hn2)
    obtain ⟨N, hN⟩ : ∃ N : ℕ, (N : ℤ) = n + 127 := ⟨(n + 127).toNat, by omega⟩
    refine ⟨N, h0, .inr ?_, ?_, by omega⟩
    · rw [show (N : ℤ) - 127 = n by omega]; exact EReal.coe_le_coe_iff.2 hn1
    · rw [show (N : ℤ) - 126 = n + 1 by omega]; exact EReal.coe_lt_coe_iff.2 hn2

/-- Below `2^126` the two scales agree, and so do the inverses. -/
theorem ksc_eq {y : EReal} (h0 : 0 ≤ y) (h : y < (((2 : ℝ) ^ (126 : ℤ) : ℝ) : EReal)) : ksc y = rsc y := by
  obtain ⟨N, f⟩ := field_exists h0 h
  rw [f.ksc, f.rsc]

theorem kinv_eq {y : EReal} (h0 : 0 ≤ y) (h : y < (((2 : ℝ) ^ (126 : ℤ) : ℝ) : EReal)) : kinv y = rinv y := by
  obtain ⟨N, f⟩ := field_exists h0 h
  have hne : ∀ z : ℤ, (((2 : ℝ) ^ z : ℝ) : EReal) ≠ 0 := fun z e =>
    (ne_of_gt (zpow_pos (show (0 : ℝ) < 2 by norm_num) z)) (EReal.coe_eq_coe_iff.1 (e.trans EReal.coe_zero.symm))
  rw [f.kinv, rinv, f.rsc, bits_one, Ideal.div, if_neg (hne _), one_mul, zpow_neg, EReal.coe_inv]

end Cert.Spec

end
-- ==== Proof.Bounds.lean ====
module

public import proofs.«01_k».proof.Proof.Scale

@[expose] public section

noncomputable section

namespace Cert.Spec

open Idealize.ShloMosaic

/-! Every quotient that a scale is taken of is at least zero and below `2^126` when `gamma` and `dy` are finite. -/

/-- The largest finite float. -/
def big : EReal := Ideal.ofBits .f32 2139095039#32

theorem ieee_pos (b : BitVec 32) (k f : ℕ) (h0 : 0 < k) (h : k < 255) (d1 : (b.extractLsb' (8 + 23) 1 == 1#1) = false)
    (d2 : (b.extractLsb' 23 8).toNat = k) (d3 : (b.extractLsb' 0 23).toNat = f) :
    Ideal.ieee 8 23 b = (((8388608 + f : ℝ) * (2 : ℝ) ^ ((k : ℤ) - 150) : ℝ) : EReal) := by
  unfold Ideal.ieee
  simp only [d1, d2, d3]
  rw [if_neg (by norm_num; omega), if_neg (by omega)]
  refine congrArg _ ?_
  push_cast
  norm_num
  exact .inl (by rw [show (k : ℤ) - 127 - 23 = (k : ℤ) - 150 by ring])

theorem big_eq : big = (((8388608 + (8388607 : ℕ) : ℝ) * (2 : ℝ) ^ (((254 : ℕ) : ℤ) - 150) : ℝ) : EReal) := by
  show Ideal.ieee 8 23 2139095039#32 = _
  exact ieee_pos 2139095039#32 254 8388607 (by omega) (by omega) (by decide +kernel) (by decide +kernel) (by decide +kernel)
theorem c5_eq : c5 = (((8388608 + (1198373 : ℕ) : ℝ) * (2 : ℝ) ^ (((111 : ℕ) : ℤ) - 150) : ℝ) : EReal) := by
  show Ideal.ieee 8 23 932333861#32 = _
  exact ieee_pos 932333861#32 111 1198373 (by omega) (by omega) (by decide +kernel) (by decide +kernel) (by decide +kernel)
theorem c4_eq : c4 = (((8388608 + (1198373 : ℕ) : ℝ) * (2 : ℝ) ^ (((118 : ℕ) : ℤ) - 150) : ℝ) : EReal) := by
  show Ideal.ieee 8 23 991054117#32 = _
  exact ieee_pos 991054117#32 118 1198373 (by omega) (by omega) (by decide +kernel) (by decide +kernel) (by decide +kernel)
theorem n2048_eq : Ideal.ofBits .f32 1157627904#32 = ((2048 : ℝ) : EReal) := by
  refine (ieee_pos 1157627904#32 138 0 (by omega) (by omega) (by decide +kernel) (by decide +kernel) (by decide +kernel)).trans ?_
  norm_num
theorem eps_pos : ∃ e : ℝ, 0 < e ∧ Ideal.ofBits .f32 897988541#32 = (e : EReal) :=
  ⟨(8388608 + (407485 : ℕ) : ℝ) * (2 : ℝ) ^ (((107 : ℕ) : ℤ) - 150), by positivity, ieee_pos 897988541#32 107 407485 (by omega) (by omega) (by decide +kernel) (by decide +kernel) (by decide +kernel)⟩

theorem mag_nonneg (v : EReal) : 0 ≤ max v (-v) := by
  rcases le_total 0 v with h | h
  · exact h.trans (le_max_left _ _)
  · exact (EReal.neg_nonneg.2 h).trans (le_max_right _ _)

theorem top_nonneg {m : ℝ} (hm : 0 ≤ m) (v : ℕ → EReal) : 0 ≤ top (m : EReal) v := by
  unfold top
  refine mul_nonneg ?_ (by exact_mod_cast hm)
  exact (Finset.le_fold_max _).2 (.inr ⟨0, Finset.mem_univ _, mag_nonneg _⟩)

theorem top_lt {m B : ℝ} (hm : 0 ≤ m) {v : ℕ → EReal} (hB : ∀ k, max (v k) (-v k) ≤ (B : EReal)) (h : B * m < (2 : ℝ) ^ (126 : ℤ)) :
    top (m : EReal) v < (((2 : ℝ) ^ (126 : ℤ) : ℝ) : EReal) := by
  unfold top
  have e : Finset.fold max (⊥ : EReal) (fun k : Fin 128 => max (v k.val) (-v k.val)) Finset.univ ≤ (B : EReal) :=
    (Finset.fold_max_le _).2 ⟨bot_le, fun k _ => hB k.val⟩
  refine lt_of_le_of_lt (mul_le_mul_of_nonneg_right e (by exact_mod_cast hm)) ?_
  rw [← EReal.coe_mul]
  exact EReal.coe_lt_coe_iff.2 h

theorem real_of_mag {v : EReal} {B : ℝ} (h : max v (-v) ≤ (B : EReal)) : ∃ r : ℝ, v = (r : EReal) ∧ |r| ≤ B := by
  obtain ⟨h1, h2⟩ := max_le_iff.1 h
  induction v with
  | bot => simp at h2
  | top => simp at h1
  | coe r =>
    refine ⟨r, rfl, abs_le.2 ⟨?_, EReal.coe_le_coe_iff.1 h1⟩⟩
    rw [← EReal.coe_neg] at h2
    have := EReal.coe_le_coe_iff.1 h2
    linarith

theorem mag_of_real {r B : ℝ} (h : |r| ≤ B) : max (r : EReal) (-(r : EReal)) ≤ (B : EReal) := by
  obtain ⟨h1, h2⟩ := abs_le.1 h
  rw [← EReal.coe_neg]
  exact max_le (EReal.coe_le_coe_iff.2 h2) (EReal.coe_le_coe_iff.2 (by linarith))

/-- An entry times its row's norm factor is a real number of size at most 64. -/
theorem norm_bound (X : Arr) (r k : ℕ) (hk : k < 2048) : ∃ a : ℝ, X r k * R X r = (a : EReal) ∧ |a| ≤ 64 := by
  obtain ⟨e, he, heq⟩ := eps_pos
  have hsq : ∀ i : Fin 2048, 0 ≤ X r i.val * X r i.val := fun i => by
    induction h : X r i.val with
    | bot => simp
    | top => simp
    | coe x => rw [← EReal.coe_mul]; exact_mod_cast mul_self_nonneg x
  by_cases hT : ∃ i : Fin 2048, X r i.val * X r i.val = ⊤
  · obtain ⟨i, hi⟩ := hT
    have hs : (∑ i : Fin 2048, X r i.val * X r i.val) = ⊤ := by
      refine top_le_iff.1 ?_
      rw [← hi]
      exact Finset.single_le_sum (f := fun i : Fin 2048 => X r i.val * X r i.val) (fun j _ => hsq j) (Finset.mem_univ i)
    refine ⟨0, ?_, by norm_num⟩
    unfold R
    rw [hs, n2048_eq, heq]
    have : Ideal.div ⊤ ((2048 : ℝ) : EReal) = ⊤ := by
      unfold Ideal.div
      rw [if_neg (by exact_mod_cast (by norm_num : (2048 : ℝ) ≠ 0)), ← EReal.coe_inv]
      exact EReal.top_mul_coe_of_pos (by norm_num)
    rw [this, EReal.top_add_coe]
    show X r k * (0 : EReal) = _
    simp
  · have hreal : ∀ i : ℕ, i < 2048 → ∃ x : ℝ, X r i = (x : EReal) := fun i hi => by
      have hne : X r i * X r i ≠ ⊤ := fun h => hT ⟨⟨i, hi⟩, h⟩
      induction h : X r i with
      | bot => rw [h] at hne; simp at hne
      | top => rw [h] at hne; simp at hne
      | coe x => exact ⟨x, rfl⟩
    choose! x hx using hreal
    have hs : (∑ i : Fin 2048, X r i.val * X r i.val) = ((∑ i : Fin 2048, x i.val * x i.val : ℝ) : EReal) := by
      rw [show (fun i : Fin 2048 => X r i.val * X r i.val) = fun i : Fin 2048 => ((x i.val * x i.val : ℝ) : EReal) from
        funext fun i => by rw [hx i.val i.isLt, ← EReal.coe_mul]]
      exact (map_sum (⟨⟨Real.toEReal, EReal.coe_zero⟩, EReal.coe_add⟩ : ℝ →+ EReal) _ _).symm
    have hle : x k * x k ≤ ∑ i : Fin 2048, x i.val * x i.val :=
      Finset.single_le_sum (f := fun i : Fin 2048 => x i.val * x i.val) (fun j _ => mul_self_nonneg _) (Finset.mem_univ ⟨k, hk⟩)
    set s := ∑ i : Fin 2048, x i.val * x i.val with hsd
    have hs0 : 0 ≤ s := (mul_self_nonneg _).trans hle
    have hd : 0 < s / 2048 + e := by positivity
    have hR : R X r = (((Real.sqrt (s / 2048 + e))⁻¹ : ℝ) : EReal) := by
      unfold R
      rw [hs, n2048_eq, heq]
      have : Ideal.div ((s : ℝ) : EReal) ((2048 : ℝ) : EReal) = ((s / 2048 : ℝ) : EReal) := by
        unfold Ideal.div
        rw [if_neg (by exact_mod_cast (by norm_num : (2048 : ℝ) ≠ 0)), ← EReal.coe_inv, ← EReal.coe_mul, div_eq_mul_inv]
      rw [this, ← EReal.coe_add]
      show (if s / 2048 + e < 0 then (⊥ : EReal) else if s / 2048 + e = 0 then ⊤ else (((Real.sqrt (s / 2048 + e))⁻¹ : ℝ) : EReal)) = _
      rw [if_neg (not_lt.2 hd.le), if_neg hd.ne']
    refine ⟨x k * (Real.sqrt (s / 2048 + e))⁻¹, by rw [hx k hk, hR, ← EReal.coe_mul], ?_⟩
    have hq : 0 < Real.sqrt (s / 2048 + e) := Real.sqrt_pos.2 hd
    rw [abs_mul, abs_of_pos (inv_pos.2 hq), ← div_eq_mul_inv, div_le_iff₀ hq]
    refine abs_le_of_sq_le_sq ?_ (by positivity)
    rw [mul_pow, Real.sq_sqrt hd.le]
    nlinarith

section
variable {X D : Arr} {g : ℕ → EReal} (hX : ∀ r k, 2048 ≤ k → X r k = 0) (hg : ∀ k, max (g k) (-g k) ≤ big) (hD : ∀ r c, max (D r c) (-D r c) ≤ big)

include hD in
theorem dy_range (v : ℕ → ℕ × ℕ) : 0 ≤ top c5 (fun k => D (v k).1 (v k).2) ∧ top c5 (fun k => D (v k).1 (v k).2) < (((2 : ℝ) ^ (126 : ℤ) : ℝ) : EReal) := by
  rw [c5_eq]
  refine ⟨top_nonneg (by positivity) _, top_lt (by positivity) (fun k => (hD _ _).trans (le_of_eq big_eq)) ?_⟩
  norm_num

include hX hg in
theorem xn_range (a c : ℕ) : 0 ≤ xTop (XN X g) a c ∧ xTop (XN X g) a c < (((2 : ℝ) ^ (126 : ℤ) : ℝ) : EReal) := by
  unfold xTop
  rw [c4_eq]
  refine ⟨top_nonneg (by positivity) _, top_lt (B := 64 * ((8388608 + (8388607 : ℕ) : ℝ) * (2 : ℝ) ^ (((254 : ℕ) : ℤ) - 150))) (by positivity) (fun k => ?_) ?_⟩
  · obtain ⟨b, hb, hb'⟩ := real_of_mag ((hg c).trans (le_of_eq big_eq))
    obtain ⟨a', ha, ha'⟩ : ∃ z : ℝ, X (128 * a + k) c * R X (128 * a + k) = (z : EReal) ∧ |z| ≤ 64 := by
      rcases Nat.lt_or_ge c 2048 with h | h
      · exact norm_bound X _ c h
      · exact ⟨0, by rw [hX _ c h]; simp, by norm_num⟩
    have e : XN X g (128 * a + k) c = ((a' * b : ℝ) : EReal) := by
      unfold XN; rw [ha, hb, ← EReal.coe_mul]
    simp only [e]
    refine mag_of_real ?_
    rw [abs_mul]
    exact mul_le_mul ha' hb' (abs_nonneg _) (by norm_num)
  · norm_num

include hD in
theorem cs_eq : CS ksc D = CS rsc D := funext fun a => funext fun c =>
  ksc_eq (dy_range hD fun k => (128 * a + k, c)).1 (dy_range hD fun k => (128 * a + k, c)).2
include hD in
theorem cc_eq : CC kinv D = CC rinv D := funext fun r => funext fun c => by
  unfold CC
  rw [show kinv (cTop D (r / 128) c) = rinv (cTop D (r / 128) c) from
    kinv_eq (dy_range hD fun k => (128 * (r / 128) + k, c)).1 (dy_range hD fun k => (128 * (r / 128) + k, c)).2]
include hD in
theorem cd_eq : CD ksc kinv D = CD rsc rinv D := by
  unfold CD; rw [cs_eq hD, cc_eq hD]
include hD in
theorem rs_eq : RS ksc D = RS rsc D := funext fun r => funext fun b =>
  ksc_eq (dy_range hD fun k => (r, 128 * b + k)).1 (dy_range hD fun k => (r, 128 * b + k)).2
include hD in
theorem rc_eq : RC kinv D = RC rinv D := funext fun r => funext fun c => by
  unfold RC
  rw [show kinv (rTop D r (c / 128)) = rinv (rTop D r (c / 128)) from
    kinv_eq (dy_range hD fun k => (r, 128 * (c / 128) + k)).1 (dy_range hD fun k => (r, 128 * (c / 128) + k)).2]
include hD in
theorem rd_eq : RD ksc kinv D = RD rsc rinv D := by
  unfold RD; rw [rs_eq hD, rc_eq hD]
include hX hg in
theorem xs_eq : XS ksc (XN X g) = XS rsc (XN X g) := funext fun a => funext fun c =>
  ksc_eq (xn_range hX hg a c).1 (xn_range hX hg a c).2
include hX hg in
theorem xc_eq : XC kinv (XN X g) = XC rinv (XN X g) := funext fun r => funext fun c => by
  unfold XC
  rw [kinv_eq (xn_range hX hg (r / 128) c).1 (xn_range hX hg (r / 128) c).2]
include hX hg in
theorem xd_eq : XD ksc kinv (XN X g) = XD rsc rinv (XN X g) := by
  unfold XD; rw [xs_eq hX hg, xc_eq hX hg]
end

end Cert.Spec

end
-- ==== Proof.Pre.lean ====
module

public import proofs.«01_k».proof.Defs
public import proofs.«01_k».proof.Proof.Bounds
public import Idealize.ShloMosaic.Lib.ReduceAll
public import Idealize.ShloMosaic.Lib.Pointwise
public import Idealize.ShloMosaic.Lib.Tactic

@[expose] public section

noncomputable section

namespace Cert.Pre_finite

open Idealize.ShloMosaic Cert.Spec Idealize.ShloMosaic.Pointwise

/-! What the precondition says: every entry of `gamma` and of `dy` is finite. -/

instance facts : Facts where
  bcast_S_S2048 := by decide
  reducesTo_S2048_S_d0 := by decide
  h_S_ := by decide
  bitsLt_bf16_f32 := by decide
  bcast_S_S1x1792x5632 := by decide
  reducesTo_S1x1792x5632_S_d0_1_2 := by decide

instance : Subsingleton S_.Idx := ⟨fun _ _ => funext fun a => a.elim0⟩

theorem ole_one {x y : EReal} (h : Ideal.cmp .ole x y = 1#1) : x ≤ y := by
  have e : BitVec.ofBool (decide (x ≤ y)) = 1#1 := h
  by_contra c
  rw [decide_eq_false c] at e
  exact absurd e (by decide)

theorem of_fn {a0 : FVec Ideal S1x1792x2048 .bf16} {a1 : FVec Ideal S2048 .f32} {a2 : FVec Ideal S2048x5632 .fp8e4m3} {a3 : FVec Ideal S16x44 .f32}
    {a4 : FVec Ideal S1x1792x5632 .bf16} (h : fn a0 a1 a2 a3 a4 = fun _ => 1#1) :
    (∀ i, max (a1 i) (-a1 i) ≤ big) ∧ (∀ i, max (a4 i) (-a4 i) ≤ big) := by
  have e := congrFun h (fun a => a.elim0)
  obtain ⟨e1, e2⟩ := IntOp.andi_eq_one.1 e
  constructor
  · intro i
    exact ole_one (Host.reduce_andi_all _ _ _ _ _ e1 i)
  · intro i
    exact ole_one (Host.reduce_andi_all _ _ _ _ _ e2 i)

end Cert.Pre_finite

end
-- ==== Proof.Args.lean ====
module

public import proofs.«01_k».proof.Proof.Final
public import proofs.«01_k».proof.Proof.RefFinal
public import proofs.«01_k».proof.Proof.Pre

@[expose] public section

noncomputable section

open Idealize.ShloMosaic Idealize.ShloMosaic.TcCoe Idealize.SL.Sem

/-! The arrays the two calls are given: the same reshapes of the same arguments. -/

namespace Cert.KernelIdeal.Hand
open Cert.KernelIdeal Cert.KernelIdeal.Gen Cert.Spec
variable (m : (ℓ : Loc nD τ sig) → Buf (Elt Ideal) ℓ) (c : Dev nD)

theorem V0 : V m c main_v0 = shapeCast S1792x2048 (m ((c : Thread nD τ).loc main_arg0)) shapeCasts_S1x1792x2048_S1792x2048 := by
  show StableHlo.after hostOps0 _ (Proc.devRef .tc main_v0) = _
  after_results
  rfl
theorem V1 : V m c main_v1 = shapeCast S1x2048 (m ((c : Thread nD τ).loc main_arg1)) shapeCasts_S2048_S1x2048 := by
  show StableHlo.after hostOps0 _ (Proc.devRef .tc main_v1) = _
  after_results
  rfl
theorem V2 : V m c main_v2 = shapeCast S1792x5632 (m ((c : Thread nD τ).loc main_arg4)) shapeCasts_S1x1792x5632_S1792x5632 := by
  show StableHlo.after hostOps0 _ (Proc.devRef .tc main_v2) = _
  after_results
  rfl
end Cert.KernelIdeal.Hand

namespace Cert.ReferenceIdeal.Hand
open Cert.ReferenceIdeal Cert.ReferenceIdeal.Gen
variable (m : (ℓ : Loc nD τ sig) → Buf (Elt Ideal) ℓ) (c : Dev nD)

theorem V0 : V m c main_v0 = shapeCast S1792x2048 (m ((c : Thread nD τ).loc main_arg0)) shapeCasts_S1x1792x2048_S1792x2048 := by
  show StableHlo.after hostOps0 _ (Proc.devRef .tc main_v0) = _
  after_results
  rfl
theorem V1 : V m c main_v1 = shapeCast S1x2048 (m ((c : Thread nD τ).loc main_arg1)) shapeCasts_S2048_S1x2048 := by
  show StableHlo.after hostOps0 _ (Proc.devRef .tc main_v1) = _
  after_results
  rfl
theorem V2 : V m c main_v2 = shapeCast S1792x5632 (m ((c : Thread nD τ).loc main_arg4)) shapeCasts_S1x1792x5632_S1792x5632 := by
  show StableHlo.after hostOps0 _ (Proc.devRef .tc main_v2) = _
  after_results
  rfl
end Cert.ReferenceIdeal.Hand

namespace Cert.Agree
open Cert.Spec
open Cert.KernelIdeal.Hand (Is2 ofVec is2_ofVec aX aG aW aS aD)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
variable (c : Dev Cert.KernelIdeal.nD)

section
theorem refX (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Is2 (a := 1792) (b := 2048) (Cert.ReferenceIdeal.Gen.V m' c Cert.ReferenceIdeal.main_v0) (aX m c) := by
  have e := is2_ofVec (a := 1792) (b := 2048) (Cert.KernelIdeal.Gen.V m c Cert.KernelIdeal.main_v0)
  unfold aX
  rw [Cert.KernelIdeal.Hand.V0] at e ⊢
  rw [Cert.ReferenceIdeal.Hand.V0]
  rw [h]
  exact e
theorem refG (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Is2 (a := 1) (b := 2048) (Cert.ReferenceIdeal.Gen.V m' c Cert.ReferenceIdeal.main_v1) (fun _ k => aG m c k) := by
  have e := is2_ofVec (a := 1) (b := 2048) (Cert.KernelIdeal.Gen.V m c Cert.KernelIdeal.main_v1)
  intro y
  have h0 : (y 0).val < 1 := (y 0).isLt
  have h00 : (y 0).val = 0 := by omega
  have e' := e y
  rw [h00] at e'
  unfold aG
  rw [Cert.KernelIdeal.Hand.V1] at e' ⊢
  rw [Cert.ReferenceIdeal.Hand.V1]
  rw [h]
  exact e'
theorem refW (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Is2 (a := 2048) (b := 5632) (Cert.ReferenceIdeal.Gen.V m' c Cert.ReferenceIdeal.main_arg2) (aW m c) := by
  have e := is2_ofVec (a := 2048) (b := 5632) (Cert.KernelIdeal.Gen.V m c Cert.KernelIdeal.main_arg2)
  unfold aW
  rw [Cert.KernelIdeal.Gen.V_main_arg2] at e ⊢
  rw [Cert.ReferenceIdeal.Gen.V_main_arg2]
  rw [h]
  exact e
theorem refS (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Is2 (a := 16) (b := 44) (Cert.ReferenceIdeal.Gen.V m' c Cert.ReferenceIdeal.main_arg3) (aS m c) := by
  have e := is2_ofVec (a := 16) (b := 44) (Cert.KernelIdeal.Gen.V m c Cert.KernelIdeal.main_arg3)
  unfold aS
  rw [Cert.KernelIdeal.Gen.V_main_arg3] at e ⊢
  rw [Cert.ReferenceIdeal.Gen.V_main_arg3]
  rw [h]
  exact e
theorem refD (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Is2 (a := 1792) (b := 5632) (Cert.ReferenceIdeal.Gen.V m' c Cert.ReferenceIdeal.main_v2) (aD m c) := by
  have e := is2_ofVec (a := 1792) (b := 5632) (Cert.KernelIdeal.Gen.V m c Cert.KernelIdeal.main_v2)
  unfold aD
  rw [Cert.KernelIdeal.Hand.V2] at e ⊢
  rw [Cert.ReferenceIdeal.Hand.V2]
  rw [h]
  exact e
end

theorem big_nonneg : (0 : EReal) ≤ big := by
  rw [big_eq]; exact_mod_cast (by positivity)

theorem aX_out (r k : ℕ) (hk : 2048 ≤ k) : aX m c r k = 0 := by
  unfold aX ofVec
  rw [dif_neg (by omega)]

/-- An array read at any numbers is an entry or zero, so a bound on the entries bounds it. -/
theorem ofVec_bound {a b : ℕ} {X : Shape.Idx ⟨2, ![a, b]⟩ → EReal} (h : ∀ i, max (X i) (-X i) ≤ big) (r k : ℕ) : max (ofVec X r k) (-ofVec X r k) ≤ big := by
  unfold ofVec
  split
  · exact h _
  · simpa using big_nonneg

variable (hp : Cert.Pre_KernelIdeal_finite m)
include hp
theorem aG_bound (k : ℕ) : max (aG m c k) (-aG m c k) ≤ big := by
  unfold aG
  refine ofVec_bound (a := 1) (b := 2048) (fun i => ?_) 0 k
  rw [Cert.KernelIdeal.Hand.V1]
  exact (Cert.Pre_finite.of_fn (hp c)).1 _
theorem aD_bound (r k : ℕ) : max (aD m c r k) (-aD m c r k) ≤ big := by
  unfold aD
  refine ofVec_bound (a := 1792) (b := 5632) (fun i => ?_) r k
  rw [Cert.KernelIdeal.Hand.V2]
  exact (Cert.Pre_finite.of_fn (hp c)).2 _

end Cert.Agree

end
-- ==== Proof.Algebraic.lean ====
module

public import proofs.«01_k».proof.Proof.Args

@[expose] public section

noncomputable section

open Idealize.ShloMosaic Idealize.ShloMosaic.TcCoe Idealize.SL.Sem

/-! The value claim: over the reals the kernel and the reference end with the same nine results. -/

namespace Cert.Agree
open Cert.Spec
open Cert.KernelIdeal.Hand (Is2 ofVec aX aG aW aS aD sumTo trd track track_ok)

/-- The matrix whose entry at row `r`, column `k` is `f r k`. -/
def mat (a b : ℕ) (f : Arr) : Shape.Idx ⟨2, ![a, b]⟩ → EReal := fun y => f (y 0).val (y 1).val

theorem eq_mat {a b : ℕ} {G : Shape.Idx ⟨2, ![a, b]⟩ → EReal} {f f' : Arr} (h : Is2 G f) (e : f = f') : G = mat a b f' := by
  subst e
  exact funext h

variable (m : (ℓ : Loc Cert.KernelIdeal.nD Cert.KernelIdeal.τ Cert.KernelIdeal.sig) → Buf (Elt Ideal) ℓ) (c : Dev Cert.KernelIdeal.nD)

/-! The nine results, as functions of the arguments, with the reference's scales. -/

/-- The gradient at the normed activations. -/
def gN : Arr := DXN (RD rsc rinv (aD m c)) (WD (aW m c) (aS m c)) 5632
/-- The normed activations. -/
def nX : Arr := XN (aX m c) (aG m c)
def res1 : Arr := DX (aX m c) (aG m c) (gN m c)
def res2 : Arr := DW (XD rsc rinv (nX m c)) (CD rsc rinv (aD m c))
def res3 : Arr := fun _ k => DG (aX m c) (gN m c) 1792 k
def res4 : Arr := XC rinv (nX m c)
def res5 : Arr := XS rsc (nX m c)
def res6 : Arr := RC rinv (aD m c)
def res7 : Arr := RS rsc (aD m c)
def res8 : Arr := CC rinv (aD m c)
def res9 : Arr := CS rsc (aD m c)

section kernel
variable {m} (hp : Cert.Pre_KernelIdeal_finite m)
include hp

theorem k_sum : sumTo (aW m c) (aS m c) (aD m c) 5632 = gN m c := by
  show DXN (RD ksc kinv (aD m c)) (WD (aW m c) (aS m c)) 5632 = DXN (RD rsc rinv (aD m c)) (WD (aW m c) (aS m c)) 5632
  rw [rd_eq (aD_bound c hp)]
theorem k1 : DX (aX m c) (aG m c) (sumTo (aW m c) (aS m c) (aD m c) 5632) = res1 m c := by
  rw [k_sum c hp]; rfl
theorem k2 : DW (XD ksc kinv (XN (aX m c) (aG m c))) (CD ksc kinv (aD m c)) = res2 m c := by
  rw [xd_eq (aX_out c) (aG_bound c hp), cd_eq (aD_bound c hp)]; rfl
theorem k3 : (fun _ k => DG (aX m c) (sumTo (aW m c) (aS m c) (aD m c) 5632) 1792 k : Arr) = res3 m c := by
  rw [k_sum c hp]; rfl
theorem k4 : XC kinv (XN (aX m c) (aG m c)) = res4 m c := xc_eq (aX_out c) (aG_bound c hp)
theorem k5 : XS ksc (XN (aX m c) (aG m c)) = res5 m c := xs_eq (aX_out c) (aG_bound c hp)
theorem k6 : RC kinv (aD m c) = res6 m c := rc_eq (aD_bound c hp)
theorem k7 : RS ksc (aD m c) = res7 m c := rs_eq (aD_bound c hp)
theorem k8 : CC kinv (aD m c) = res8 m c := cc_eq (aD_bound c hp)
theorem k9 : CS ksc (aD m c) = res9 m c := cs_eq (aD_bound c hp)
end kernel

open Cert.KernelIdeal.Hand in
/-- The kernel's run ends with the nine results and keeps its arguments. -/
theorem kernel_run (g : Dev Cert.KernelIdeal.nD → PrngReg) (hp : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = mat 1792 2048 (res1 m c)
          ∧ r.2.mem ((c.tc : Thread Cert.KernelIdeal.nD Cert.KernelIdeal.τ).loc Cert.KernelIdeal.main_v3_1) = mat 2048 5632 (res2 m c)
          ∧ r.2.mem ((c.tc : Thread Cert.KernelIdeal.nD Cert.KernelIdeal.τ).loc Cert.KernelIdeal.main_v3_2) = mat 1 2048 (res3 m c)
          ∧ r.2.mem ((c.tc : Thread Cert.KernelIdeal.nD Cert.KernelIdeal.τ).loc Cert.KernelIdeal.main_v3_3) = mat 1792 2048 (res4 m c)
          ∧ r.2.mem ((c.tc : Thread Cert.KernelIdeal.nD Cert.KernelIdeal.τ).loc Cert.KernelIdeal.main_v3_4) = mat 14 2048 (res5 m c)
          ∧ r.2.mem ((c.tc : Thread Cert.KernelIdeal.nD Cert.KernelIdeal.τ).loc Cert.KernelIdeal.main_v3_5) = mat 1792 5632 (res6 m c)
          ∧ r.2.mem ((c.tc : Thread Cert.KernelIdeal.nD Cert.KernelIdeal.τ).loc Cert.KernelIdeal.main_v3_6) = mat 1792 44 (res7 m c)
          ∧ r.2.mem ((c.tc : Thread Cert.KernelIdeal.nD Cert.KernelIdeal.τ).loc Cert.KernelIdeal.main_v3_7) = mat 1792 5632 (res8 m c)
          ∧ r.2.mem ((c.tc : Thread Cert.KernelIdeal.nD Cert.KernelIdeal.τ).loc Cert.KernelIdeal.main_v3_8) = mat 14 5632 (res9 m c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run _ _ _).mono ?_ (Track.run (F := Ideal) m g (track m) (track_ok m))
  intro r h c
  exact ⟨eq_mat (final5 (m := m) (c := c) ((h.1 c).1 5)) (k1 c hp), eq_mat (final6 (m := m) (c := c) ((h.1 c).1 6)) (k2 c hp),
    eq_mat (final7 (m := m) (c := c) ((h.1 c).1 7)) (k3 c hp), eq_mat (final8 (m := m) (c := c) ((h.1 c).1 8)) (k4 c hp),
    eq_mat (final9 (m := m) (c := c) ((h.1 c).1 9)) (k5 c hp), eq_mat (final10 (m := m) (c := c) ((h.1 c).1 10)) (k6 c hp),
    eq_mat (final11 (m := m) (c := c) ((h.1 c).1 11)) (k7 c hp), eq_mat (final12 (m := m) (c := c) ((h.1 c).1 12)) (k8 c hp),
    eq_mat (final13 (m := m) (c := c) ((h.1 c).1 13)) (k9 c hp), args_of_post m _ r h.1 c⟩

open Cert.ReferenceIdeal.Hand in
/-- The two runs, from memories that agree on the arguments, end with the same nine results. -/
theorem algebraic : Cert.algebraic_KernelIdeal_ReferenceIdeal_pre_finite := by
  intro m g m' g' hp hm
  refine ⟨fun c => mat 1792 2048 (res1 m c), fun c => mat 2048 5632 (res2 m c), fun c => mat 1 2048 (res3 m c),
    fun c => mat 1792 2048 (res4 m c), fun c => mat 14 2048 (res5 m c), fun c => mat 1792 5632 (res6 m c),
    fun c => mat 1792 44 (res7 m c), fun c => mat 1792 5632 (res8 m c), fun c => mat 14 5632 (res9 m c),
    kernel_run m g hp, ?_⟩
  refine (θ_run _ _ _).mono ?_ (Cert.ReferenceIdeal.Value.run_blocks (F := Ideal) m' g')
  intro r h c
  obtain ⟨h0, h1, h2, h3, h4⟩ := hm c
  have x := refX c h0
  have y := refG c h1
  have w := refW c h2
  have s := refS c h3
  have d := refD c h4
  obtain ⟨r1, r2, r3, r4, r5, r6, r7, r8, r9, ra⟩ := h c
  exact ⟨r1.trans (eq_mat (arr5 m' c x y w s d) rfl), r2.trans (eq_mat (arr6 m' c x y d) rfl),
    r3.trans (eq_mat (arr7 m' c x w s d) rfl), r4.trans (eq_mat (arr8 m' c x y) rfl),
    r5.trans (eq_mat (arr9 m' c x y) rfl), r6.trans (eq_mat (arr10 m' c d) rfl),
    r7.trans (eq_mat (arr11 m' c d) rfl), r8.trans (eq_mat (arr12 m' c d) rfl),
    r9.trans (eq_mat (arr13 m' c d) rfl), ra⟩

end Cert.Agree

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, trivial, Cert.Agree.algebraic⟩

end Cert.Proof

end
